-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v10_0)) (v1 : (c : Dev Cert.ProjIdeal.nD) → Buf (Elt Ideal) ((c.tc : Thread Cert.ProjIdeal.nD Cert.ProjIdeal.τ).loc Cert.ProjIdeal.main_v10_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v10_0) = v0 c
          ∧ r.2.mem ((c.tc : Thread Cert.ProjIdeal.nD Cert.ProjIdeal.τ).loc Cert.ProjIdeal.main_v10_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v22) = v0 c
          ∧ r.2.mem ((c.tc : Thread Cert.ProjRefIdeal.nD Cert.ProjRefIdeal.τ).loc Cert.ProjRefIdeal.main_v20) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v12)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v12) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v62) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hGates : Cert.Gates.Facts) (hGatesIdeal : Cert.GatesIdeal.Facts) (hGatesRefIdeal : Cert.GatesRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Gates (hGates := hGates)
    ∧ quiescent_GatesIdeal (hGatesIdeal := hGatesIdeal)
    ∧ quiescent_GatesRefIdeal (hGatesRefIdeal := hGatesRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Gates_GatesIdeal
    ∧ algebraic_GatesIdeal_GatesRefIdeal (hGatesIdeal := hGatesIdeal) (hGatesRefIdeal := hGatesRefIdeal)
-- ==== Pre_finite.lean ====
abbrev S8x2048x7168 : Shape := ⟨3, ![8, 2048, 7168]⟩
abbrev S1x8x15x31 : Shape := ⟨4, ![1, 8, 15, 31]⟩
abbrev S8x2048x2048 : Shape := ⟨3, ![8, 2048, 2048]⟩
abbrev S_ : Shape := ⟨0, ![]⟩

class Facts : Prop where
  slices_S8x2048x7168_S8x2048x2048_0_0_0 : S8x2048x7168.Slices ![0, 0, 0] S8x2048x2048
  bitsLt_bf16_f32 : FTy.bits .bf16 < FTy.bits .f32
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S1x8x15x31 : S_.BroadcastsInDim S1x8x15x31 (![] : Fin 0 → Fin S1x8x15x31.rank)
  reducesTo_S1x8x15x31_S_d0_1_2_3 : S1x8x15x31.ReducesTo [0, 1, 2, 3] S_

variable [Facts]

def fn {F : FTy → Type} [FloatOps F] (main_arg0 : FVec F S8x2048x7168 .bf16) (main_arg1 : FVec F S1x8x15x31 .f32) : IVec S_ 1 :=
  let main_v0 : FVec F S8x2048x2048 .bf16 := (extractStridedSlice S8x2048x2048 ![0, 0, 0] · slices_S8x2048x7168_S8x2048x2048_0_0_0) main_arg0
  let main_v1 : FVec F S8x2048x2048 .f32 := (extf .f32 · bitsLt_bf16_f32) main_v0
  let main_v2 : FVec F S8x2048x2048 .f32 := Host.absf main_v1
  let main_cst : FVec F S_ .f32 := constant S_ .f32 0x7F800000#32
  let main_v3 : FVec F S8x2048x2048 .f32 := broadcastInDim S8x2048x2048 ![] bcast_S_S8x2048x2048 main_cst
  let main_v4 : IVec S8x2048x2048 1 := cmpf .olt main_v2 main_v3
  let main_c : IVec S_ 1 := constantI S_ 1 1#1
  let main_v5 : IVec S_ 1 := (fun x v => Host.reduce IntOp.andi x v reducesTo_S8x2048x2048_S_d0_1_2 h_S_) main_v4 main_c
  let main_v6 : FVec F S1x8x15x31 .f32 := Host.absf main_arg1
  let main_cst_0 : FVec F S_ .f32 := constant S_ .f32 0x7F800000#32
  let main_v7 : FVec F S1x8x15x31 .f32 := broadcastInDim S1x8x15x31 ![] bcast_S_S1x8x15x31 main_cst_0
  let main_v8 : IVec S1x8x15x31 1 := cmpf .olt main_v6 main_v7
  let main_c_1 : IVec S_ 1 := constantI S_ 1 1#1
  let main_v9 : IVec S_ 1 := (fun x v => Host.reduce IntOp.andi x v reducesTo_S1x8x15x31_S_d0_1_2_3 h_S_) main_v8 main_c_1
  let main_v10 : IVec S_ 1 := andi main_v5 main_v9
  main_v10
-- ==== Kernel.lean ====
abbrev S8x2048x7168 : Shape := ⟨3, ![8, 2048, 7168]⟩
abbrev S1x8x15x31 : Shape := ⟨4, ![1, 8, 15, 31]⟩
abbrev S8x15x31 : Shape := ⟨3, ![8, 15, 31]⟩
abbrev S3720 : Shape := ⟨1, ![3720]⟩
abbrev S8x2048x1024 : Shape := ⟨3, ![8, 2048, 1024]⟩
abbrev S1x2048x128 : Shape := ⟨3, ![1, 2048, 128]⟩
abbrev S14x64x128 : Shape := ⟨3, ![14, 64, 128]⟩
abbrev S64x128 : Shape := ⟨2, ![64, 128]⟩
abbrev S1 : Shape := ⟨1, ![1]⟩
abbrev S1x64x128 : Shape := ⟨3, ![1, 64, 128]⟩
abbrev S1x512x128 : Shape := ⟨3, ![1, 512, 128]⟩
abbrev S512x128 : Shape := ⟨2, ![512, 128]⟩
abbrev S64x512 : Shape := ⟨2, ![64, 512]⟩
abbrev S64 : Shape := ⟨1, ![64]⟩
abbrev S64x1 : Shape := ⟨2, ![64, 1]⟩

abbrev nBuf : Space → Nat
  | .hbm => 5
  | .vmem => 9
  | .smem => 1
  | _ => 0

abbrev bufTy : (tb : Table) → Fin (tcTables nBuf tb) → BufTy
  | .hbm, ⟨0, _⟩ => ⟨S8x2048x7168, .bf16⟩
  | .hbm, ⟨1, _⟩ => ⟨S1x8x15x31, .f32⟩
  | .hbm, ⟨2, _⟩ => ⟨S8x15x31, .f32⟩
  | .hbm, ⟨3, _⟩ => ⟨S3720, .f32⟩
  | .hbm, ⟨4, _⟩ => ⟨S8x2048x1024, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S14x64x128, .f32⟩
  | .local _ .smem, ⟨0, _⟩ => ⟨S3720, .f32⟩
  | _, _ => ⟨S8x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1131 : BitVec 32 := 0#32
  let c14_i32_1132 : BitVec 32 := 14#32
  let v2757 : BitVec 32 := Scalar.addi c0_i32_1131 c14_i32_1132
  let c1_i32_1133 : BitVec 32 := 1#32
  ⟨c0_i32_1131, v2757, c1_i32_1133⟩
def k0_off1 (i : grid0.Coords) (k0_t1 : Fin k0_t1_loop.trips) (c0_i32_1138 : BitVec 32) : Fin 1 → Nat :=
  let arg0 : BitVec 32 := BitVec.ofNat 32 (i 0).val
  let c15_i32_1135 : BitVec 32 := 15#32
  let v2758 : BitVec 32 := Scalar.muli arg0 c15_i32_1135
  let c0_i32_1131 : BitVec 32 := 0#32
  let c1_i32_1133 : BitVec 32 := 1#32
  let arg8 : BitVec 32 := Scf.iv c0_i32_1131 c1_i32_1133 k0_t1
  let v2759 : BitVec 32 := Scalar.addi v2758 arg8
  let c31_i32_1136 : BitVec 32 := 31#32
  let v2760 : BitVec 32 := Scalar.muli v2759 c31_i32_1136
  let v2762 : BitVec 32 := Scalar.addi v2760 c0_i32_1138
  let v2763 : Index := Scalar.indexCast v2762
  ![v2763.toNat]
def k0_off2 (i : grid0.Coords) (k0_t1 : Fin k0_t1_loop.trips) (c0_i32_1140 : BitVec 32) : Fin 1 → Nat :=
  let arg0 : BitVec 32 := BitVec.ofNat 32 (i 0).val
  let c15_i32_1135 : BitVec 32 := 15#32
  let v2758 : BitVec 32 := Scalar.muli arg0 c15_i32_1135
  let c0_i32_1131 : BitVec 32 := 0#32
  let c1_i32_1133 : BitVec 32 := 1#32
  let arg8 : BitVec 32 := Scf.iv c0_i32_1131 c1_i32_1133 k0_t1
  let v2759 : BitVec 32 := Scalar.addi v2758 arg8
  let c31_i32_1136 : BitVec 32 := 31#32
  let v2760 : BitVec 32 := Scalar.muli v2759 c31_i32_1136
  let c31_i32_1139 : BitVec 32 := 31#32
  let v2765 : BitVec 32 := Scalar.addi v2760 c31_i32_1139
  let v2766 : BitVec 32 := Scalar.addi v2765 c0_i32_1140
  let v2767 : Index := Scalar.indexCast v2766
  ![v2767.toNat]
def k0_off3 (k0_t1 : Fin k0_t1_loop.trips) : Fin 3 → Nat :=
  let c0_i32_1131 : BitVec 32 := 0#32
  let c1_i32_1133 : BitVec 32 := 1#32
  let arg8 : BitVec 32 := Scf.iv c0_i32_1131 c1_i32_1133 k0_t1
  let v3167 : Index := Scalar.indexCast arg8
  let c0_1263 : Index := 0#32
  let c0_1264 : Index := 0#32
  ![v3167.toNat, 0, 0]
def k0_mult1 : BitVec 32 :=
  let c0_i32_1 : BitVec 32 := 0#32
  let c32_i32 : BitVec 32 := 32#32
  let v3 : BitVec 32 := Scalar.muli c0_i32_1 c32_i32
  let c0_i32_2 : BitVec 32 := 0#32
  let v4 : BitVec 32 := Scalar.addi v3 c0_i32_2
  let c64_i32 : BitVec 32 := 64#32
  let v227 : BitVec 32 := Scalar.muli v4 c64_i32
  v227
def k0_mult2 : BitVec 32 :=
  let c0_i32_1 : BitVec 32 := 0#32
  let c32_i32_3 : BitVec 32 := 32#32
  let v5 : BitVec 32 := Scalar.muli c0_i32_1 c32_i32_3
  let c1_i32 : BitVec 32 := 1#32
  let v6 : BitVec 32 := Scalar.addi v5 c1_i32
  let c64_i32_162 : BitVec 32 := 64#32
  let v229 : BitVec 32 := Scalar.muli v6 c64_i32_162
  v229
def k0_mult3 : BitVec 32 :=
  let c0_i32_1 : BitVec 32 := 0#32
  let c32_i32_4 : BitVec 32 := 32#32
  let v7 : BitVec 32 := Scalar.muli c0_i32_1 c32_i32_4
  let c2_i32 : BitVec 32 := 2#32
  let v8 : BitVec 32 := Scalar.addi v7 c2_i32
  let c64_i32_163 : BitVec 32 := 64#32
  let v231 : BitVec 32 := Scalar.muli v8 c64_i32_163
  v231
def k0_mult4 : BitVec 32 :=
  let c0_i32_1 : BitVec 32 := 0#32
  let c32_i32_5 : BitVec 32 := 32#32
  let v9 : BitVec 32 := Scalar.muli c0_i32_1 c32_i32_5
  let c3_i32 : BitVec 32 := 3#32
  let v10 : BitVec 32 := Scalar.addi v9 c3_i32
  let c64_i32_164 : BitVec 32 := 64#32
  let v233 : BitVec 32 := Scalar.muli v10 c64_i32_164
  v233
def k0_mult5 : BitVec 32 :=
  let c0_i32_1 : BitVec 32 := 0#32
  let c32_i32_6 : BitVec 32 := 32#32
  let v11 : BitVec 32 := Scalar.muli c0_i32_1 c32_i32_6
  let c4_i32 : BitVec 32 := 4#32
  let v12 : BitVec 32 := Scalar.addi v11 c4_i32
  let c64_i32_165 : BitVec 32 := 64#32
  let v235 : BitVec 32 := Scalar.muli v12 c64_i32_165
  v235
def k0_mult6 : BitVec 32 :=
  let c0_i32_1 : BitVec 32 := 0#32
  let c32_i32_7 : BitVec 32 := 32#32
  let v13 : BitVec 32 := Scalar.muli c0_i32_1 c32_i32_7
  let c5_i32 : BitVec 32 := 5#32
  let v14 : BitVec 32 := Scalar.addi v13 c5_i32
  let c64_i32_166 : BitVec 32 := 64#32
  let v237 : BitVec 32 := Scalar.muli v14 c64_i32_166
  v237
def k0_mult7 : BitVec 32 :=
  let c0_i32_1 : BitVec 32 := 0#32
  let c32_i32_8 : BitVec 32 := 32#32
  let v15 : BitVec 32 := Scalar.muli c0_i32_1 c32_i32_8
  let c6_i32 : BitVec 32 := 6#32
  let v16 : BitVec 32 := Scalar.addi v15 c6_i32
  let c64_i32_167 : BitVec 32 := 64#32
  let v239 : BitVec 32 := Scalar.muli v16 c64_i32_167
  v239
def k0_mult8 : BitVec 32 :=
  let c0_i32_1 : BitVec 32 := 0#32
  let c32_i32_9 : BitVec 32 := 32#32
  let v17 : BitVec 32 := Scalar.muli c0_i32_1 c32_i32_9
  let c7_i32 : BitVec 32 := 7#32
  let v18 : BitVec 32 := Scalar.addi v17 c7_i32
  let c64_i32_168 : BitVec 32 := 64#32
  let v241 : BitVec 32 := Scalar.muli v18 c64_i32_168
  v241
def k0_mult9 : BitVec 32 :=
  let c0_i32_1 : BitVec 32 := 0#32
  let c32_i32_10 : BitVec 32 := 32#32
  let v19 : BitVec 32 := Scalar.muli c0_i32_1 c32_i32_10
  let c8_i32 : BitVec 32 := 8#32
  let v20 : BitVec 32 := Scalar.addi v19 c8_i32
  let c64_i32_169 : BitVec 32 := 64#32
  let v243 : BitVec 32 := Scalar.muli v20 c64_i32_169
  v243
def k0_mult10 : BitVec 32 :=
  let c0_i32_1 : BitVec 32 := 0#32
  let c32_i32_11 : BitVec 32 := 32#32
  let v21 : BitVec 32 := Scalar.muli c0_i32_1 c32_i32_11
  let c9_i32 : BitVec 32 := 9#32
  let v22 : BitVec 32 := Scalar.addi v21 c9_i32
  let c64_i32_170 : BitVec 32 := 64#32
  let v245 : BitVec 32 := Scalar.muli v22 c64_i32_170
  v245
def k0_mult11 : BitVec 32 :=
  let c0_i32_1 : BitVec 32 := 0#32
  let c32_i32_12 : BitVec 32 := 32#32
  let v23 : BitVec 32 := Scalar.muli c0_i32_1 c32_i32_12
  let c10_i32 : BitVec 32 := 10#32
  let v24 : BitVec 32 := Scalar.addi v23 c10_i32
  let c64_i32_171 : BitVec 32 := 64#32
  let v247 : BitVec 32 := Scalar.muli v24 c64_i32_171
  v247
def k0_mult12 : BitVec 32 :=
  let c0_i32_1 : BitVec 32 := 0#32
  let c32_i32_13 : BitVec 32 := 32#32
  let v25 : BitVec 32 := Scalar.muli c0_i32_1 c32_i32_13
  let c11_i32 : BitVec 32 := 11#32
  let v26 : BitVec 32 := Scalar.addi v25 c11_i32
  let c64_i32_172 : BitVec 32 := 64#32
  let v249 : BitVec 32 := Scalar.muli v26 c64_i32_172
  v249
def k0_mult13 : BitVec 32 :=
  let c0_i32_1 : BitVec 32 := 0#32
  let c32_i32_14 : BitVec 32 := 32#32
  let v27 : BitVec 32 := Scalar.muli c0_i32_1 c32_i32_14
  let c12_i32 : BitVec 32 := 12#32
  let v28 : BitVec 32 := Scalar.addi v27 c12_i32
  let c64_i32_173 : BitVec 32 := 64#32
  let v251 : BitVec 32 := Scalar.muli v28 c64_i32_173
  v251
def k0_mult14 : BitVec 32 :=
  let c0_i32_1 : BitVec 32 := 0#32
  let c32_i32_15 : BitVec 32 := 32#32
  let v29 : BitVec 32 := Scalar.muli c0_i32_1 c32_i32_15
  let c13_i32 : BitVec 32 := 13#32
  let v30 : BitVec 32 := Scalar.addi v29 c13_i32
  let c64_i32_174 : BitVec 32 := 64#32
  let v253 : BitVec 32 := Scalar.muli v30 c64_i32_174
  v253
def k0_mult15 : BitVec 32 :=
  let c0_i32_1 : BitVec 32 := 0#32
  let c32_i32_16 : BitVec 32 := 32#32
  let v31 : BitVec 32 := Scalar.muli c0_i32_1 c32_i32_16
  let c14_i32 : BitVec 32 := 14#32
  let v32 : BitVec 32 := Scalar.addi v31 c14_i32
  let c64_i32_175 : BitVec 32 := 64#32
  let v255 : BitVec 32 := Scalar.muli v32 c64_i32_175
  v255
def k0_mult16 : BitVec 32 :=
  let c0_i32_1 : BitVec 32 := 0#32
  let c32_i32_17 : BitVec 32 := 32#32
  let v33 : BitVec 32 := Scalar.muli c0_i32_1 c32_i32_17
  let c15_i32 : BitVec 32 := 15#32
  let v34 : BitVec 32 := Scalar.addi v33 c15_i32
  let c64_i32_176 : BitVec 32 := 64#32
  let v257 : BitVec 32 := Scalar.muli v34 c64_i32_176
  v257
def k0_mult17 : BitVec 32 :=
  let c0_i32_1 : BitVec 32 := 0#32
  let c32_i32_18 : BitVec 32 := 32#32
  let v35 : BitVec 32 := Scalar.muli c0_i32_1 c32_i32_18
  let c16_i32 : BitVec 32 := 16#32
  let v36 : BitVec 32 := Scalar.addi v35 c16_i32
  let c64_i32_177 : BitVec 32 := 64#32
  let v259 : BitVec 32 := Scalar.muli v36 c64_i32_177
  v259
def k0_mult18 : BitVec 32 :=
  let c0_i32_1 : BitVec 32 := 0#32
  let c32_i32_19 : BitVec 32 := 32#32
  let v37 : BitVec 32 := Scalar.muli c0_i32_1 c32_i32_19
  let c17_i32 : BitVec 32 := 17#32
  let v38 : BitVec 32 := Scalar.addi v37 c17_i32
  let c64_i32_178 : BitVec 32 := 64#32
  let v261 : BitVec 32 := Scalar.muli v38 c64_i32_178
  v261
def k0_mult19 : BitVec 32 :=
  let c0_i32_1 : BitVec 32 := 0#32
  let c32_i32_20 : BitVec 32 := 32#32
  let v39 : BitVec 32 := Scalar.muli c0_i32_1 c32_i32_20
  let c18_i32 : BitVec 32 := 18#32
  let v40 : BitVec 32 := Scalar.addi v39 c18_i32
  let c64_i32_179 : BitVec 32 := 64#32
  let v263 : BitVec 32 := Scalar.muli v40 c64_i32_179
  v263
def k0_mult20 : BitVec 32 :=
  let c0_i32_1 : BitVec 32 := 0#32
  let c32_i32_21 : BitVec 32 := 32#32
  let v41 : BitVec 32 := Scalar.muli c0_i32_1 c32_i32_21
  let c19_i32 : BitVec 32 := 19#32
  let v42 : BitVec 32 := Scalar.addi v41 c19_i32
  let c64_i32_180 : BitVec 32 := 64#32
  let v265 : BitVec 32 := Scalar.muli v42 c64_i32_180
  v265
def k0_mult21 : BitVec 32 :=
  let c0_i32_1 : BitVec 32 := 0#32
  let c32_i32_22 : BitVec 32 := 32#32
  let v43 : BitVec 32 := Scalar.muli c0_i32_1 c32_i32_22
  let c20_i32 : BitVec 32 := 20#32
  let v44 : BitVec 32 := Scalar.addi v43 c20_i32
  let c64_i32_181 : BitVec 32 := 64#32
  let v267 : BitVec 32 := Scalar.muli v44 c64_i32_181
  v267
def k0_mult22 : BitVec 32 :=
  let c0_i32_1 : BitVec 32 := 0#32
  let c32_i32_23 : BitVec 32 := 32#32
  let v45 : BitVec 32 := Scalar.muli c0_i32_1 c32_i32_23
  let c21_i32 : BitVec 32 := 21#32
  let v46 : BitVec 32 := Scalar.addi v45 c21_i32
  let c64_i32_182 : BitVec 32 := 64#32
  let v269 : BitVec 32 := Scalar.muli v46 c64_i32_182
  v269
def k0_mult23 : BitVec 32 :=
  let c0_i32_1 : BitVec 32 := 0#32
  let c32_i32_24 : BitVec 32 := 32#32
  let v47 : BitVec 32 := Scalar.muli c0_i32_1 c32_i32_24
  let c22_i32 : BitVec 32 := 22#32
  let v48 : BitVec 32 := Scalar.addi v47 c22_i32
  let c64_i32_183 : BitVec 32 := 64#32
  let v271 : BitVec 32 := Scalar.muli v48 c64_i32_183
  v271
def k0_mult24 : BitVec 32 :=
  let c0_i32_1 : BitVec 32 := 0#32
  let c32_i32_25 : BitVec 32 := 32#32
  let v49 : BitVec 32 := Scalar.muli c0_i32_1 c32_i32_25
  let c23_i32 : BitVec 32 := 23#32
  let v50 : BitVec 32 := Scalar.addi v49 c23_i32
  let c64_i32_184 : BitVec 32 := 64#32
  let v273 : BitVec 32 := Scalar.muli v50 c64_i32_184
  v273
def k0_mult25 : BitVec 32 :=
  let c0_i32_1 : BitVec 32 := 0#32
  let c32_i32_26 : BitVec 32 := 32#32
  let v51 : BitVec 32 := Scalar.muli c0_i32_1 c32_i32_26
  let c24_i32 : BitVec 32 := 24#32
  let v52 : BitVec 32 := Scalar.addi v51 c24_i32
  let c64_i32_185 : BitVec 32 := 64#32
  let v275 : BitVec 32 := Scalar.muli v52 c64_i32_185
  v275
def k0_mult26 : BitVec 32 :=
  let c0_i32_1 : BitVec 32 := 0#32
  let c32_i32_27 : BitVec 32 := 32#32
  let v53 : BitVec 32 := Scalar.muli c0_i32_1 c32_i32_27
  let c25_i32 : BitVec 32 := 25#32
  let v54 : BitVec 32 := Scalar.addi v53 c25_i32
  let c64_i32_186 : BitVec 32 := 64#32
  let v277 : BitVec 32 := Scalar.muli v54 c64_i32_186
  v277
def k0_mult27 : BitVec 32 :=
  let c0_i32_1 : BitVec 32 := 0#32
  let c32_i32_28 : BitVec 32 := 32#32
  let v55 : BitVec 32 := Scalar.muli c0_i32_1 c32_i32_28
  let c26_i32 : BitVec 32 := 26#32
  let v56 : BitVec 32 := Scalar.addi v55 c26_i32
  let c64_i32_187 : BitVec 32 := 64#32
  let v279 : BitVec 32 := Scalar.muli v56 c64_i32_187
  v279
def k0_mult28 : BitVec 32 :=
  let c0_i32_1 : BitVec 32 := 0#32
  let c32_i32_29 : BitVec 32 := 32#32
  let v57 : BitVec 32 := Scalar.muli c0_i32_1 c32_i32_29
  let c27_i32 : BitVec 32 := 27#32
  let v58 : BitVec 32 := Scalar.addi v57 c27_i32
  let c64_i32_188 : BitVec 32 := 64#32
  let v281 : BitVec 32 := Scalar.muli v58 c64_i32_188
  v281
def k0_mult29 : BitVec 32 :=
  let c0_i32_1 : BitVec 32 := 0#32
  let c32_i32_30 : BitVec 32 := 32#32
  let v59 : BitVec 32 := Scalar.muli c0_i32_1 c32_i32_30
  let c28_i32 : BitVec 32 := 28#32
  let v60 : BitVec 32 := Scalar.addi v59 c28_i32
  let c64_i32_189 : BitVec 32 := 64#32
  let v283 : BitVec 32 := Scalar.muli v60 c64_i32_189
  v283
def k0_mult30 : BitVec 32 :=
  let c0_i32_1 : BitVec 32 := 0#32
  let c32_i32_31 : BitVec 32 := 32#32
  let v61 : BitVec 32 := Scalar.muli c0_i32_1 c32_i32_31
  let c29_i32 : BitVec 32 := 29#32
  let v62 : BitVec 32 := Scalar.addi v61 c29_i32
  let c64_i32_190 : BitVec 32 := 64#32
  let v285 : BitVec 32 := Scalar.muli v62 c64_i32_190
  v285
def k0_mult31 : BitVec 32 :=
  let c0_i32_1 : BitVec 32 := 0#32
  let c32_i32_32 : BitVec 32 := 32#32
  let v63 : BitVec 32 := Scalar.muli c0_i32_1 c32_i32_32
  let c30_i32 : BitVec 32 := 30#32
  let v64 : BitVec 32 := Scalar.addi v63 c30_i32
  let c64_i32_191 : BitVec 32 := 64#32
  let v287 : BitVec 32 := Scalar.muli v64 c64_i32_191
  v287
def k0_mult32 : BitVec 32 :=
  let c0_i32_1 : BitVec 32 := 0#32
  let c32_i32_33 : BitVec 32 := 32#32
  let v65 : BitVec 32 := Scalar.muli c0_i32_1 c32_i32_33
  let c31_i32 : BitVec 32 := 31#32
  let v66 : BitVec 32 := Scalar.addi v65 c31_i32
  let c64_i32_192 : BitVec 32 := 64#32
  let v289 : BitVec 32 := Scalar.muli v66 c64_i32_192
  v289
def k0_mult33 : BitVec 32 :=
  let c24_i32_36 : BitVec 32 := 24#32
  let c0_i32_35 : BitVec 32 := 0#32
  let c0_i32_1 : BitVec 32 := 0#32
  let c32_i32 : BitVec 32 := 32#32
  let v3 : BitVec 32 := Scalar.muli c0_i32_1 c32_i32
  let c0_i32_2 : BitVec 32 := 0#32
  let v4 : BitVec 32 := Scalar.addi v3 c0_i32_2
  let c4_i32_34 : BitVec 32 := 4#32
  let v67 : BitVec 32 := Scalar.subi v4 c4_i32_34
  let v68 : BitVec 32 := Scalar.maxsi c0_i32_35 v67
  let v69 : BitVec 32 := Scalar.minsi c24_i32_36 v68
  let c64_i32_193 : BitVec 32 := 64#32
  let v291 : BitVec 32 := Scalar.muli v69 c64_i32_193
  v291
def k0_mult34 : BitVec 32 :=
  let c24_i32_39 : BitVec 32 := 24#32
  let c0_i32_38 : BitVec 32 := 0#32
  let c0_i32_1 : BitVec 32 := 0#32
  let c32_i32_3 : BitVec 32 := 32#32
  let v5 : BitVec 32 := Scalar.muli c0_i32_1 c32_i32_3
  let c1_i32 : BitVec 32 := 1#32
  let v6 : BitVec 32 := Scalar.addi v5 c1_i32
  let c4_i32_37 : BitVec 32 := 4#32
  let v70 : BitVec 32 := Scalar.subi v6 c4_i32_37
  let v71 : BitVec 32 := Scalar.maxsi c0_i32_38 v70
  let v72 : BitVec 32 := Scalar.minsi c24_i32_39 v71
  let c64_i32_194 : BitVec 32 := 64#32
  let v293 : BitVec 32 := Scalar.muli v72 c64_i32_194
  v293
def k0_mult35 : BitVec 32 :=
  let c24_i32_42 : BitVec 32 := 24#32
  let c0_i32_41 : BitVec 32 := 0#32
  let c0_i32_1 : BitVec 32 := 0#32
  let c32_i32_4 : BitVec 32 := 32#32
  let v7 : BitVec 32 := Scalar.muli c0_i32_1 c32_i32_4
  let c2_i32 : BitVec 32 := 2#32
  let v8 : BitVec 32 := Scalar.addi v7 c2_i32
  let c4_i32_40 : BitVec 32 := 4#32
  let v73 : BitVec 32 := Scalar.subi v8 c4_i32_40
  let v74 : BitVec 32 := Scalar.maxsi c0_i32_41 v73
  let v75 : BitVec 32 := Scalar.minsi c24_i32_42 v74
  let c64_i32_195 : BitVec 32 := 64#32
  let v295 : BitVec 32 := Scalar.muli v75 c64_i32_195
  v295
def k0_mult36 : BitVec 32 :=
  let c24_i32_45 : BitVec 32 := 24#32
  let c0_i32_44 : BitVec 32 := 0#32
  let c0_i32_1 : BitVec 32 := 0#32
  let c32_i32_5 : BitVec 32 := 32#32
  let v9 : BitVec 32 := Scalar.muli c0_i32_1 c32_i32_5
  let c3_i32 : BitVec 32 := 3#32
  let v10 : BitVec 32 := Scalar.addi v9 c3_i32
  let c4_i32_43 : BitVec 32 := 4#32
  let v76 : BitVec 32 := Scalar.subi v10 c4_i32_43
  let v77 : BitVec 32 := Scalar.maxsi c0_i32_44 v76
  let v78 : BitVec 32 := Scalar.minsi c24_i32_45 v77
  let c64_i32_196 : BitVec 32 := 64#32
  let v297 : BitVec 32 := Scalar.muli v78 c64_i32_196
  v297
def k0_mult37 : BitVec 32 :=
  let c24_i32_48 : BitVec 32 := 24#32
  let c0_i32_47 : BitVec 32 := 0#32
  let c0_i32_1 : BitVec 32 := 0#32
  let c32_i32_6 : BitVec 32 := 32#32
  let v11 : BitVec 32 := Scalar.muli c0_i32_1 c32_i32_6
  let c4_i32 : BitVec 32 := 4#32
  let v12 : BitVec 32 := Scalar.addi v11 c4_i32
  let c4_i32_46 : BitVec 32 := 4#32
  let v79 : BitVec 32 := Scalar.subi v12 c4_i32_46
  let v80 : BitVec 32 := Scalar.maxsi c0_i32_47 v79
  let v81 : BitVec 32 := Scalar.minsi c24_i32_48 v80
  let c64_i32_197 : BitVec 32 := 64#32
  let v299 : BitVec 32 := Scalar.muli v81 c64_i32_197
  v299
def k0_mult38 : BitVec 32 :=
  let c24_i32_51 : BitVec 32 := 24#32
  let c0_i32_50 : BitVec 32 := 0#32
  let c0_i32_1 : BitVec 32 := 0#32
  let c32_i32_7 : BitVec 32 := 32#32
  let v13 : BitVec 32 := Scalar.muli c0_i32_1 c32_i32_7
  let c5_i32 : BitVec 32 := 5#32
  let v14 : BitVec 32 := Scalar.addi v13 c5_i32
  let c4_i32_49 : BitVec 32 := 4#32
  let v82 : BitVec 32 := Scalar.subi v14 c4_i32_49
  let v83 : BitVec 32 := Scalar.maxsi c0_i32_50 v82
  let v84 : BitVec 32 := Scalar.minsi c24_i32_51 v83
  let c64_i32_198 : BitVec 32 := 64#32
  let v301 : BitVec 32 := Scalar.muli v84 c64_i32_198
  v301
def k0_mult39 : BitVec 32 :=
  let c24_i32_54 : BitVec 32 := 24#32
  let c0_i32_53 : BitVec 32 := 0#32
  let c0_i32_1 : BitVec 32 := 0#32
  let c32_i32_8 : BitVec 32 := 32#32
  let v15 : BitVec 32 := Scalar.muli c0_i32_1 c32_i32_8
  let c6_i32 : BitVec 32 := 6#32
  let v16 : BitVec 32 := Scalar.addi v15 c6_i32
  let c4_i32_52 : BitVec 32 := 4#32
  let v85 : BitVec 32 := Scalar.subi v16 c4_i32_52
  let v86 : BitVec 32 := Scalar.maxsi c0_i32_53 v85
  let v87 : BitVec 32 := Scalar.minsi c24_i32_54 v86
  let c64_i32_199 : BitVec 32 := 64#32
  let v303 : BitVec 32 := Scalar.muli v87 c64_i32_199
  v303
def k0_mult40 : BitVec 32 :=
  let c24_i32_57 : BitVec 32 := 24#32
  let c0_i32_56 : BitVec 32 := 0#32
  let c0_i32_1 : BitVec 32 := 0#32
  let c32_i32_9 : BitVec 32 := 32#32
  let v17 : BitVec 32 := Scalar.muli c0_i32_1 c32_i32_9
  let c7_i32 : BitVec 32 := 7#32
  let v18 : BitVec 32 := Scalar.addi v17 c7_i32
  let c4_i32_55 : BitVec 32 := 4#32
  let v88 : BitVec 32 := Scalar.subi v18 c4_i32_55
  let v89 : BitVec 32 := Scalar.maxsi c0_i32_56 v88
  let v90 : BitVec 32 := Scalar.minsi c24_i32_57 v89
  let c64_i32_200 : BitVec 32 := 64#32
  let v305 : BitVec 32 := Scalar.muli v90 c64_i32_200
  v305
def k0_mult41 : BitVec 32 :=
  let c24_i32_60 : BitVec 32 := 24#32
  let c0_i32_59 : BitVec 32 := 0#32
  let c0_i32_1 : BitVec 32 := 0#32
  let c32_i32_10 : BitVec 32 := 32#32
  let v19 : BitVec 32 := Scalar.muli c0_i32_1 c32_i32_10
  let c8_i32 : BitVec 32 := 8#32
  let v20 : BitVec 32 := Scalar.addi v19 c8_i32
  let c4_i32_58 : BitVec 32 := 4#32
  let v91 : BitVec 32 := Scalar.subi v20 c4_i32_58
  let v92 : BitVec 32 := Scalar.maxsi c0_i32_59 v91
  let v93 : BitVec 32 := Scalar.minsi c24_i32_60 v92
  let c64_i32_201 : BitVec 32 := 64#32
  let v307 : BitVec 32 := Scalar.muli v93 c64_i32_201
  v307
def k0_mult42 : BitVec 32 :=
  let c24_i32_63 : BitVec 32 := 24#32
  let c0_i32_62 : BitVec 32 := 0#32
  let c0_i32_1 : BitVec 32 := 0#32
  let c32_i32_11 : BitVec 32 := 32#32
  let v21 : BitVec 32 := Scalar.muli c0_i32_1 c32_i32_11
  let c9_i32 : BitVec 32 := 9#32
  let v22 : BitVec 32 := Scalar.addi v21 c9_i32
  let c4_i32_61 : BitVec 32 := 4#32
  let v94 : BitVec 32 := Scalar.subi v22 c4_i32_61
  let v95 : BitVec 32 := Scalar.maxsi c0_i32_62 v94
  let v96 : BitVec 32 := Scalar.minsi c24_i32_63 v95
  let c64_i32_202 : BitVec 32 := 64#32
  let v309 : BitVec 32 := Scalar.muli v96 c64_i32_202
  v309
def k0_mult43 : BitVec 32 :=
  let c24_i32_66 : BitVec 32 := 24#32
  let c0_i32_65 : BitVec 32 := 0#32
  let c0_i32_1 : BitVec 32 := 0#32
  let c32_i32_12 : BitVec 32 := 32#32
  let v23 : BitVec 32 := Scalar.muli c0_i32_1 c32_i32_12
  let c10_i32 : BitVec 32 := 10#32
  let v24 : BitVec 32 := Scalar.addi v23 c10_i32
  let c4_i32_64 : BitVec 32 := 4#32
  let v97 : BitVec 32 := Scalar.subi v24 c4_i32_64
  let v98 : BitVec 32 := Scalar.maxsi c0_i32_65 v97
  let v99 : BitVec 32 := Scalar.minsi c24_i32_66 v98
  let c64_i32_203 : BitVec 32 := 64#32
  let v311 : BitVec 32 := Scalar.muli v99 c64_i32_203
  v311
def k0_mult44 : BitVec 32 :=
  let c24_i32_69 : BitVec 32 := 24#32
  let c0_i32_68 : BitVec 32 := 0#32
  let c0_i32_1 : BitVec 32 := 0#32
  let c32_i32_13 : BitVec 32 := 32#32
  let v25 : BitVec 32 := Scalar.muli c0_i32_1 c32_i32_13
  let c11_i32 : BitVec 32 := 11#32
  let v26 : BitVec 32 := Scalar.addi v25 c11_i32
  let c4_i32_67 : BitVec 32 := 4#32
  let v100 : BitVec 32 := Scalar.subi v26 c4_i32_67
  let v101 : BitVec 32 := Scalar.maxsi c0_i32_68 v100
  let v102 : BitVec 32 := Scalar.minsi c24_i32_69 v101
  let c64_i32_204 : BitVec 32 := 64#32
  let v313 : BitVec 32 := Scalar.muli v102 c64_i32_204
  v313
def k0_mult45 : BitVec 32 :=
  let c24_i32_72 : BitVec 32 := 24#32
  let c0_i32_71 : BitVec 32 := 0#32
  let c0_i32_1 : BitVec 32 := 0#32
  let c32_i32_14 : BitVec 32 := 32#32
  let v27 : BitVec 32 := Scalar.muli c0_i32_1 c32_i32_14
  let c12_i32 : BitVec 32 := 12#32
  let v28 : BitVec 32 := Scalar.addi v27 c12_i32
  let c4_i32_70 : BitVec 32 := 4#32
  let v103 : BitVec 32 := Scalar.subi v28 c4_i32_70
  let v104 : BitVec 32 := Scalar.maxsi c0_i32_71 v103
  let v105 : BitVec 32 := Scalar.minsi c24_i32_72 v104
  let c64_i32_205 : BitVec 32 := 64#32
  let v315 : BitVec 32 := Scalar.muli v105 c64_i32_205
  v315
def k0_mult46 : BitVec 32 :=
  let c24_i32_75 : BitVec 32 := 24#32
  let c0_i32_74 : BitVec 32 := 0#32
  let c0_i32_1 : BitVec 32 := 0#32
  let c32_i32_15 : BitVec 32 := 32#32
  let v29 : BitVec 32 := Scalar.muli c0_i32_1 c32_i32_15
  let c13_i32 : BitVec 32 := 13#32
  let v30 : BitVec 32 := Scalar.addi v29 c13_i32
  let c4_i32_73 : BitVec 32 := 4#32
  let v106 : BitVec 32 := Scalar.subi v30 c4_i32_73
  let v107 : BitVec 32 := Scalar.maxsi c0_i32_74 v106
  let v108 : BitVec 32 := Scalar.minsi c24_i32_75 v107
  let c64_i32_206 : BitVec 32 := 64#32
  let v317 : BitVec 32 := Scalar.muli v108 c64_i32_206
  v317
def k0_mult47 : BitVec 32 :=
  let c24_i32_78 : BitVec 32 := 24#32
  let c0_i32_77 : BitVec 32 := 0#32
  let c0_i32_1 : BitVec 32 := 0#32
  let c32_i32_16 : BitVec 32 := 32#32
  let v31 : BitVec 32 := Scalar.muli c0_i32_1 c32_i32_16
  let c14_i32 : BitVec 32 := 14#32
  let v32 : BitVec 32 := Scalar.addi v31 c14_i32
  let c4_i32_76 : BitVec 32 := 4#32
  let v109 : BitVec 32 := Scalar.subi v32 c4_i32_76
  let v110 : BitVec 32 := Scalar.maxsi c0_i32_77 v109
  let v111 : BitVec 32 := Scalar.minsi c24_i32_78 v110
  let c64_i32_207 : BitVec 32 := 64#32
  let v319 : BitVec 32 := Scalar.muli v111 c64_i32_207
  v319
def k0_mult48 : BitVec 32 :=
  let c24_i32_81 : BitVec 32 := 24#32
  let c0_i32_80 : BitVec 32 := 0#32
  let c0_i32_1 : BitVec 32 := 0#32
  let c32_i32_17 : BitVec 32 := 32#32
  let v33 : BitVec 32 := Scalar.muli c0_i32_1 c32_i32_17
  let c15_i32 : BitVec 32 := 15#32
  let v34 : BitVec 32 := Scalar.addi v33 c15_i32
  let c4_i32_79 : BitVec 32 := 4#32
  let v112 : BitVec 32 := Scalar.subi v34 c4_i32_79
  let v113 : BitVec 32 := Scalar.maxsi c0_i32_80 v112
  let v114 : BitVec 32 := Scalar.minsi c24_i32_81 v113
  let c64_i32_208 : BitVec 32 := 64#32
  let v321 : BitVec 32 := Scalar.muli v114 c64_i32_208
  v321
def k0_mult49 : BitVec 32 :=
  let c24_i32_84 : BitVec 32 := 24#32
  let c0_i32_83 : BitVec 32 := 0#32
  let c0_i32_1 : BitVec 32 := 0#32
  let c32_i32_18 : BitVec 32 := 32#32
  let v35 : BitVec 32 := Scalar.muli c0_i32_1 c32_i32_18
  let c16_i32 : BitVec 32 := 16#32
  let v36 : BitVec 32 := Scalar.addi v35 c16_i32
  let c4_i32_82 : BitVec 32 := 4#32
  let v115 : BitVec 32 := Scalar.subi v36 c4_i32_82
  let v116 : BitVec 32 := Scalar.maxsi c0_i32_83 v115
  let v117 : BitVec 32 := Scalar.minsi c24_i32_84 v116
  let c64_i32_209 : BitVec 32 := 64#32
  let v323 : BitVec 32 := Scalar.muli v117 c64_i32_209
  v323
def k0_mult50 : BitVec 32 :=
  let c24_i32_87 : BitVec 32 := 24#32
  let c0_i32_86 : BitVec 32 := 0#32
  let c0_i32_1 : BitVec 32 := 0#32
  let c32_i32_19 : BitVec 32 := 32#32
  let v37 : BitVec 32 := Scalar.muli c0_i32_1 c32_i32_19
  let c17_i32 : BitVec 32 := 17#32
  let v38 : BitVec 32 := Scalar.addi v37 c17_i32
  let c4_i32_85 : BitVec 32 := 4#32
  let v118 : BitVec 32 := Scalar.subi v38 c4_i32_85
  let v119 : BitVec 32 := Scalar.maxsi c0_i32_86 v118
  let v120 : BitVec 32 := Scalar.minsi c24_i32_87 v119
  let c64_i32_210 : BitVec 32 := 64#32
  let v325 : BitVec 32 := Scalar.muli v120 c64_i32_210
  v325
def k0_mult51 : BitVec 32 :=
  let c24_i32_90 : BitVec 32 := 24#32
  let c0_i32_89 : BitVec 32 := 0#32
  let c0_i32_1 : BitVec 32 := 0#32
  let c32_i32_20 : BitVec 32 := 32#32
  let v39 : BitVec 32 := Scalar.muli c0_i32_1 c32_i32_20
  let c18_i32 : BitVec 32 := 18#32
  let v40 : BitVec 32 := Scalar.addi v39 c18_i32
  let c4_i32_88 : BitVec 32 := 4#32
  let v121 : BitVec 32 := Scalar.subi v40 c4_i32_88
  let v122 : BitVec 32 := Scalar.maxsi c0_i32_89 v121
  let v123 : BitVec 32 := Scalar.minsi c24_i32_90 v122
  let c64_i32_211 : BitVec 32 := 64#32
  let v327 : BitVec 32 := Scalar.muli v123 c64_i32_211
  v327
def k0_mult52 : BitVec 32 :=
  let c24_i32_93 : BitVec 32 := 24#32
  let c0_i32_92 : BitVec 32 := 0#32
  let c0_i32_1 : BitVec 32 := 0#32
  let c32_i32_21 : BitVec 32 := 32#32
  let v41 : BitVec 32 := Scalar.muli c0_i32_1 c32_i32_21
  let c19_i32 : BitVec 32 := 19#32
  let v42 : BitVec 32 := Scalar.addi v41 c19_i32
  let c4_i32_91 : BitVec 32 := 4#32
  let v124 : BitVec 32 := Scalar.subi v42 c4_i32_91
  let v125 : BitVec 32 := Scalar.maxsi c0_i32_92 v124
  let v126 : BitVec 32 := Scalar.minsi c24_i32_93 v125
  let c64_i32_212 : BitVec 32 := 64#32
  let v329 : BitVec 32 := Scalar.muli v126 c64_i32_212
  v329
def k0_mult53 : BitVec 32 :=
  let c24_i32_96 : BitVec 32 := 24#32
  let c0_i32_95 : BitVec 32 := 0#32
  let c0_i32_1 : BitVec 32 := 0#32
  let c32_i32_22 : BitVec 32 := 32#32
  let v43 : BitVec 32 := Scalar.muli c0_i32_1 c32_i32_22
  let c20_i32 : BitVec 32 := 20#32
  let v44 : BitVec 32 := Scalar.addi v43 c20_i32
  let c4_i32_94 : BitVec 32 := 4#32
  let v127 : BitVec 32 := Scalar.subi v44 c4_i32_94
  let v128 : BitVec 32 := Scalar.maxsi c0_i32_95 v127
  let v129 : BitVec 32 := Scalar.minsi c24_i32_96 v128
  let c64_i32_213 : BitVec 32 := 64#32
  let v331 : BitVec 32 := Scalar.muli v129 c64_i32_213
  v331
def k0_mult54 : BitVec 32 :=
  let c24_i32_99 : BitVec 32 := 24#32
  let c0_i32_98 : BitVec 32 := 0#32
  let c0_i32_1 : BitVec 32 := 0#32
  let c32_i32_23 : BitVec 32 := 32#32
  let v45 : BitVec 32 := Scalar.muli c0_i32_1 c32_i32_23
  let c21_i32 : BitVec 32 := 21#32
  let v46 : BitVec 32 := Scalar.addi v45 c21_i32
  let c4_i32_97 : BitVec 32 := 4#32
  let v130 : BitVec 32 := Scalar.subi v46 c4_i32_97
  let v131 : BitVec 32 := Scalar.maxsi c0_i32_98 v130
  let v132 : BitVec 32 := Scalar.minsi c24_i32_99 v131
  let c64_i32_214 : BitVec 32 := 64#32
  let v333 : BitVec 32 := Scalar.muli v132 c64_i32_214
  v333
def k0_mult55 : BitVec 32 :=
  let c24_i32_102 : BitVec 32 := 24#32
  let c0_i32_101 : BitVec 32 := 0#32
  let c0_i32_1 : BitVec 32 := 0#32
  let c32_i32_24 : BitVec 32 := 32#32
  let v47 : BitVec 32 := Scalar.muli c0_i32_1 c32_i32_24
  let c22_i32 : BitVec 32 := 22#32
  let v48 : BitVec 32 := Scalar.addi v47 c22_i32
  let c4_i32_100 : BitVec 32 := 4#32
  let v133 : BitVec 32 := Scalar.subi v48 c4_i32_100
  let v134 : BitVec 32 := Scalar.maxsi c0_i32_101 v133
  let v135 : BitVec 32 := Scalar.minsi c24_i32_102 v134
  let c64_i32_215 : BitVec 32 := 64#32
  let v335 : BitVec 32 := Scalar.muli v135 c64_i32_215
  v335
def k0_mult56 : BitVec 32 :=
  let c24_i32_105 : BitVec 32 := 24#32
  let c0_i32_104 : BitVec 32 := 0#32
  let c0_i32_1 : BitVec 32 := 0#32
  let c32_i32_25 : BitVec 32 := 32#32
  let v49 : BitVec 32 := Scalar.muli c0_i32_1 c32_i32_25
  let c23_i32 : BitVec 32 := 23#32
  let v50 : BitVec 32 := Scalar.addi v49 c23_i32
  let c4_i32_103 : BitVec 32 := 4#32
  let v136 : BitVec 32 := Scalar.subi v50 c4_i32_103
  let v137 : BitVec 32 := Scalar.maxsi c0_i32_104 v136
  let v138 : BitVec 32 := Scalar.minsi c24_i32_105 v137
  let c64_i32_216 : BitVec 32 := 64#32
  let v337 : BitVec 32 := Scalar.muli v138 c64_i32_216
  v337
def k0_mult57 : BitVec 32 :=
  let c24_i32_108 : BitVec 32 := 24#32
  let c0_i32_107 : BitVec 32 := 0#32
  let c0_i32_1 : BitVec 32 := 0#32
  let c32_i32_26 : BitVec 32 := 32#32
  let v51 : BitVec 32 := Scalar.muli c0_i32_1 c32_i32_26
  let c24_i32 : BitVec 32 := 24#32
  let v52 : BitVec 32 := Scalar.addi v51 c24_i32
  let c4_i32_106 : BitVec 32 := 4#32
  let v139 : BitVec 32 := Scalar.subi v52 c4_i32_106
  let v140 : BitVec 32 := Scalar.maxsi c0_i32_107 v139
  let v141 : BitVec 32 := Scalar.minsi c24_i32_108 v140
  let c64_i32_217 : BitVec 32 := 64#32
  let v339 : BitVec 32 := Scalar.muli v141 c64_i32_217
  v339
def k0_mult58 : BitVec 32 :=
  let c24_i32_111 : BitVec 32 := 24#32
  let c0_i32_110 : BitVec 32 := 0#32
  let c0_i32_1 : BitVec 32 := 0#32
  let c32_i32_27 : BitVec 32 := 32#32
  let v53 : BitVec 32 := Scalar.muli c0_i32_1 c32_i32_27
  let c25_i32 : BitVec 32 := 25#32
  let v54 : BitVec 32 := Scalar.addi v53 c25_i32
  let c4_i32_109 : BitVec 32 := 4#32
  let v142 : BitVec 32 := Scalar.subi v54 c4_i32_109
  let v143 : BitVec 32 := Scalar.maxsi c0_i32_110 v142
  let v144 : BitVec 32 := Scalar.minsi c24_i32_111 v143
  let c64_i32_218 : BitVec 32 := 64#32
  let v341 : BitVec 32 := Scalar.muli v144 c64_i32_218
  v341
def k0_mult59 : BitVec 32 :=
  let c24_i32_114 : BitVec 32 := 24#32
  let c0_i32_113 : BitVec 32 := 0#32
  let c0_i32_1 : BitVec 32 := 0#32
  let c32_i32_28 : BitVec 32 := 32#32
  let v55 : BitVec 32 := Scalar.muli c0_i32_1 c32_i32_28
  let c26_i32 : BitVec 32 := 26#32
  let v56 : BitVec 32 := Scalar.addi v55 c26_i32
  let c4_i32_112 : BitVec 32 := 4#32
  let v145 : BitVec 32 := Scalar.subi v56 c4_i32_112
  let v146 : BitVec 32 := Scalar.maxsi c0_i32_113 v145
  let v147 : BitVec 32 := Scalar.minsi c24_i32_114 v146
  let c64_i32_219 : BitVec 32 := 64#32
  let v343 : BitVec 32 := Scalar.muli v147 c64_i32_219
  v343
def k0_mult60 : BitVec 32 :=
  let c24_i32_117 : BitVec 32 := 24#32
  let c0_i32_116 : BitVec 32 := 0#32
  let c0_i32_1 : BitVec 32 := 0#32
  let c32_i32_29 : BitVec 32 := 32#32
  let v57 : BitVec 32 := Scalar.muli c0_i32_1 c32_i32_29
  let c27_i32 : BitVec 32 := 27#32
  let v58 : BitVec 32 := Scalar.addi v57 c27_i32
  let c4_i32_115 : BitVec 32 := 4#32
  let v148 : BitVec 32 := Scalar.subi v58 c4_i32_115
  let v149 : BitVec 32 := Scalar.maxsi c0_i32_116 v148
  let v150 : BitVec 32 := Scalar.minsi c24_i32_117 v149
  let c64_i32_220 : BitVec 32 := 64#32
  let v345 : BitVec 32 := Scalar.muli v150 c64_i32_220
  v345
def k0_mult61 : BitVec 32 :=
  let c24_i32_120 : BitVec 32 := 24#32
  let c0_i32_119 : BitVec 32 := 0#32
  let c0_i32_1 : BitVec 32 := 0#32
  let c32_i32_30 : BitVec 32 := 32#32
  let v59 : BitVec 32 := Scalar.muli c0_i32_1 c32_i32_30
  let c28_i32 : BitVec 32 := 28#32
  let v60 : BitVec 32 := Scalar.addi v59 c28_i32
  let c4_i32_118 : BitVec 32 := 4#32
  let v151 : BitVec 32 := Scalar.subi v60 c4_i32_118
  let v152 : BitVec 32 := Scalar.maxsi c0_i32_119 v151
  let v153 : BitVec 32 := Scalar.minsi c24_i32_120 v152
  let c64_i32_221 : BitVec 32 := 64#32
  let v347 : BitVec 32 := Scalar.muli v153 c64_i32_221
  v347
def k0_mult62 : BitVec 32 :=
  let c24_i32_123 : BitVec 32 := 24#32
  let c0_i32_122 : BitVec 32 := 0#32
  let c0_i32_1 : BitVec 32 := 0#32
  let c32_i32_31 : BitVec 32 := 32#32
  let v61 : BitVec 32 := Scalar.muli c0_i32_1 c32_i32_31
  let c29_i32 : BitVec 32 := 29#32
  let v62 : BitVec 32 := Scalar.addi v61 c29_i32
  let c4_i32_121 : BitVec 32 := 4#32
  let v154 : BitVec 32 := Scalar.subi v62 c4_i32_121
  let v155 : BitVec 32 := Scalar.maxsi c0_i32_122 v154
  let v156 : BitVec 32 := Scalar.minsi c24_i32_123 v155
  let c64_i32_222 : BitVec 32 := 64#32
  let v349 : BitVec 32 := Scalar.muli v156 c64_i32_222
  v349
def k0_mult63 : BitVec 32 :=
  let c24_i32_126 : BitVec 32 := 24#32
  let c0_i32_125 : BitVec 32 := 0#32
  let c0_i32_1 : BitVec 32 := 0#32
  let c32_i32_32 : BitVec 32 := 32#32
  let v63 : BitVec 32 := Scalar.muli c0_i32_1 c32_i32_32
  let c30_i32 : BitVec 32 := 30#32
  let v64 : BitVec 32 := Scalar.addi v63 c30_i32
  let c4_i32_124 : BitVec 32 := 4#32
  let v157 : BitVec 32 := Scalar.subi v64 c4_i32_124
  let v158 : BitVec 32 := Scalar.maxsi c0_i32_125 v157
  let v159 : BitVec 32 := Scalar.minsi c24_i32_126 v158
  let c64_i32_223 : BitVec 32 := 64#32
  let v351 : BitVec 32 := Scalar.muli v159 c64_i32_223
  v351
def k0_mult64 : BitVec 32 :=
  let c24_i32_129 : BitVec 32 := 24#32
  let c0_i32_128 : BitVec 32 := 0#32
  let c0_i32_1 : BitVec 32 := 0#32
  let c32_i32_33 : BitVec 32 := 32#32
  let v65 : BitVec 32 := Scalar.muli c0_i32_1 c32_i32_33
  let c31_i32 : BitVec 32 := 31#32
  let v66 : BitVec 32 := Scalar.addi v65 c31_i32
  let c4_i32_127 : BitVec 32 := 4#32
  let v160 : BitVec 32 := Scalar.subi v66 c4_i32_127
  let v161 : BitVec 32 := Scalar.maxsi c0_i32_128 v160
  let v162 : BitVec 32 := Scalar.minsi c24_i32_129 v161
  let c64_i32_224 : BitVec 32 := 64#32
  let v353 : BitVec 32 := Scalar.muli v162 c64_i32_224
  v353
def k0_off4 (c0_i32_2 : BitVec 32) : Fin 3 → Nat :=
  let c0 : Index := 0#32
  let c0_i32_1 : BitVec 32 := 0#32
  let c32_i32 : BitVec 32 := 32#32
  let v3 : BitVec 32 := Scalar.muli c0_i32_1 c32_i32
  let v4 : BitVec 32 := Scalar.addi v3 c0_i32_2
  let c64_i32 : BitVec 32 := 64#32
  let v227 : BitVec 32 := Scalar.muli v4 c64_i32
  let v228 : BitVec 32 := v227
  let v355 : Index := Scalar.indexCast v228
  let c0_225 : Index := 0#32
  ![0, v355.toNat, 0]
def k0_off5 (c0_i32_2 : BitVec 32) : Fin 3 → Nat :=
  let c0_226 : Index := 0#32
  let c24_i32_36 : BitVec 32 := 24#32
  let c0_i32_35 : BitVec 32 := 0#32
  let c0_i32_1 : BitVec 32 := 0#32
  let c32_i32 : BitVec 32 := 32#32
  let v3 : BitVec 32 := Scalar.muli c0_i32_1 c32_i32
  let v4 : BitVec 32 := Scalar.addi v3 c0_i32_2
  let c4_i32_34 : BitVec 32 := 4#32
  let v67 : BitVec 32 := Scalar.subi v4 c4_i32_34
  let v68 : BitVec 32 := Scalar.maxsi c0_i32_35 v67
  let v69 : BitVec 32 := Scalar.minsi c24_i32_36 v68
  let c64_i32_193 : BitVec 32 := 64#32
  let v291 : BitVec 32 := Scalar.muli v69 c64_i32_193
  let v292 : BitVec 32 := v291
  let v358 : Index := Scalar.indexCast v292
  let c0_227 : Index := 0#32
  ![0, v358.toNat, 0]
def k0_off6 (c0_i32_2 : BitVec 32) (c0_i32_384 : BitVec 32) : Fin 3 → Nat :=
  let c24_i32_36 : BitVec 32 := 24#32
  let c0_i32_35 : BitVec 32 := 0#32
  let c0_i32_1 : BitVec 32 := 0#32
  let c32_i32 : BitVec 32 := 32#32
  let v3 : BitVec 32 := Scalar.muli c0_i32_1 c32_i32
  let v4 : BitVec 32 := Scalar.addi v3 c0_i32_2
  let c4_i32_34 : BitVec 32 := 4#32
  let v67 : BitVec 32 := Scalar.subi v4 c4_i32_34
  let v68 : BitVec 32 := Scalar.maxsi c0_i32_35 v67
  let v69 : BitVec 32 := Scalar.minsi c24_i32_36 v68
  let v163 : BitVec 32 := Scalar.subi v69 v4
  let c7_i32_130 : BitVec 32 := 7#32
  let v164 : BitVec 32 := Scalar.addi v163 c7_i32_130
  let v582 : BitVec 32 := Scalar.addi v164 c0_i32_384
  let v583 : Index := Scalar.indexCast v582
  let c0_385 : Index := 0#32
  let c0_386 : Index := 0#32
  ![v583.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![arg1.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 1 → Memref sig .tc .smem S3720 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x7168 : Shape := ⟨3, ![8, 2048, 7168]⟩
abbrev S1x8x15x31 : Shape := ⟨4, ![1, 8, 15, 31]⟩
abbrev S8x2048x1024 : Shape := ⟨3, ![8, 2048, 1024]⟩
abbrev S_ : Shape := ⟨0, ![]⟩
abbrev S8x32x64x8x128 : Shape := ⟨5, ![8, 32, 64, 8, 128]⟩
abbrev S8x15x31 : Shape := ⟨3, ![8, 15, 31]⟩
abbrev S64 : Shape := ⟨1, ![64]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x8x128 : Shape := ⟨6, ![8, 32, 8, 64, 8, 128]⟩
abbrev S64x16x1 : Shape := ⟨3, ![64, 16, 1]⟩
abbrev S8x32x8x64x16x8x128 : Shape := ⟨7, ![8, 32, 8, 64, 16, 8, 128]⟩
abbrev S32x1x8x1 : Shape := ⟨4, ![32, 1, 8, 1]⟩
abbrev S1x64x1x16 : Shape := ⟨4, ![1, 64, 1, 16]⟩
abbrev S32x64x8x16 : Shape := ⟨4, ![32, 64, 8, 16]⟩
abbrev S32x64x8x16x1 : Shape := ⟨5, ![32, 64, 8, 16, 1]⟩
abbrev S32x64x8x16x2 : Shape := ⟨5, ![32, 64, 8, 16, 2]⟩
abbrev S8x32x64x8x16 : Shape := ⟨5, ![8, 32, 64, 8, 16]⟩
abbrev S8x8x32x64x8x16 : Shape := ⟨6, ![8, 8, 32, 64, 8, 16]⟩
abbrev S1x8x32x64x8x16 : Shape := ⟨6, ![1, 8, 32, 64, 8, 16]⟩
abbrev S8x8x32x64x128 : Shape := ⟨5, ![8, 8, 32, 64, 128]⟩
abbrev S8x8x32x64 : Shape := ⟨4, ![8, 8, 32, 64]⟩
abbrev S8x8x32x64x1 : Shape := ⟨5, ![8, 8, 32, 64, 1]⟩

abbrev nBuf : Space → Nat
  | .hbm => 142
  | .vmem => 0
  | .smem => 0
  | _ => 0

abbrev hbmTy0_0 (i : Nat) : BufTy := match i % 128 with
  | 0 => ⟨S8x2048x7168, .bf16⟩
  | 1 => ⟨S1x8x15x31, .f32⟩
  | 2 => ⟨S8x2048x7168, .f32⟩
  | 3 => ⟨S8x2048x1024, .f32⟩
  | 4 => ⟨S_, .f32⟩
  | 5 => ⟨S8x2048x1024, .f32⟩
  | 6 => ⟨S8x2048x1024, .f32⟩
  | 7 => ⟨S8x32x64x8x128, .f32⟩
  | 8 => ⟨S8x2048x1024, .f32⟩
  | 9 => ⟨S8x32x64x8x128, .f32⟩
  | 10 => ⟨S8x2048x1024, .f32⟩
  | 11 => ⟨S8x32x64x8x128, .f32⟩
  | 12 => ⟨S8x15x31, .f32⟩
  | 13 => ⟨S64, .i32⟩
  | 14 => ⟨S_, .i32⟩
  | 15 => ⟨S64, .i32⟩
  | 16 => ⟨S64, .i32⟩
  | 17 => ⟨S_, .i32⟩
  | 18 => ⟨S_, .i32⟩
  | 19 => ⟨S_, .i32⟩
  | 20 => ⟨S64, .i32⟩
  | 21 => ⟨S64, .i32⟩
  | 22 => ⟨S_, .i32⟩
  | 23 => ⟨S64, .i32⟩
  | 24 => ⟨S64, .i32⟩
  | 25 => ⟨S64x1, .i32⟩
  | 26 => ⟨S16, .i32⟩
  | 27 => ⟨S1x16, .i32⟩
  | 28 => ⟨S64x16, .i32⟩
  | 29 => ⟨S64x16, .i32⟩
  | 30 => ⟨S64x16, .i32⟩
  | 31 => ⟨S64x1, .i32⟩
  | 32 => ⟨S64x16, .i32⟩
  | 33 => ⟨S64x16, .i32⟩
  | 34 => ⟨S_, .i32⟩
  | 35 => ⟨S64x16, .i32⟩
  | 36 => ⟨S64x16, .i32⟩
  | 37 => ⟨S32, .i32⟩
  | 38 => ⟨S_, .i32⟩
  | 39 => ⟨S32, .i32⟩
  | 40 => ⟨S32, .i32⟩
  | 41 => ⟨S_, .i32⟩
  | 42 => ⟨S_, .i32⟩
  | 43 => ⟨S_, .i32⟩
  | 44 => ⟨S32, .i32⟩
  | 45 => ⟨S32, .i32⟩
  | 46 => ⟨S_, .i32⟩
  | 47 => ⟨S32, .i32⟩
  | 48 => ⟨S32, .i32⟩
  | 49 => ⟨S32x1, .i32⟩
  | 50 => ⟨S8, .i32⟩
  | 51 => ⟨S1x8, .i32⟩
  | 52 => ⟨S32x8, .i32⟩
  | 53 => ⟨S32x8, .i32⟩
  | 54 => ⟨S32x8, .i32⟩
  | 55 => ⟨S32x1, .i32⟩
  | 56 => ⟨S32x8, .i32⟩
  | 57 => ⟨S32x8, .i32⟩
  | 58 => ⟨S_, .i32⟩
  | 59 => ⟨S32x8, .i32⟩
  | 60 => ⟨S32x8, .i32⟩
  | 61 => ⟨S_, .i32⟩
  | 62 => ⟨S32x8, .i32⟩
  | 63 => ⟨S32x8, .i1⟩
  | 64 => ⟨S_, .i32⟩
  | 65 => ⟨S32x8, .i32⟩
  | 66 => ⟨S32x8, .i32⟩
  | 67 => ⟨S32x8, .i32⟩
  | 68 => ⟨S32x8x1, .i32⟩
  | 69 => ⟨S8x32x8x64x8x128, .f32⟩
  | 70 => ⟨S_, .i32⟩
  | 71 => ⟨S64x16, .i32⟩
  | 72 => ⟨S64x16, .i1⟩
  | 73 => ⟨S_, .i32⟩
  | 74 => ⟨S64x16, .i32⟩
  | 75 => ⟨S64x16, .i32⟩
  | 76 => ⟨S64x16, .i32⟩
  | 77 => ⟨S64x16x1, .i32⟩
  | 78 => ⟨S8x32x8x64x16x8x128, .f32⟩
  | 79 => ⟨S_, .i32⟩
  | 80 => ⟨S32x8, .i32⟩
  | 81 => ⟨S32x8, .i1⟩
  | 82 => ⟨S_, .i32⟩
  | 83 => ⟨S32x8, .i32⟩
  | 84 => ⟨S32x8, .i32⟩
  | 85 => ⟨S32x8, .i32⟩
  | 86 => ⟨S32x8x1, .i32⟩
  | 87 => ⟨S8x32x8x64x8x128, .f32⟩
  | 88 => ⟨S_, .i32⟩
  | 89 => ⟨S64x16, .i32⟩
  | 90 => ⟨S64x16, .i1⟩
  | 91 => ⟨S_, .i32⟩
  | 92 => ⟨S64x16, .i32⟩
  | 93 => ⟨S64x16, .i32⟩
  | 94 => ⟨S64x16, .i32⟩
  | 95 => ⟨S64x16x1, .i32⟩
  | 96 => ⟨S8x32x8x64x16x8x128, .f32⟩
  | 97 => ⟨S32x1x8x1, .i32⟩
  | 98 => ⟨S1x64x1x16, .i32⟩
  | 99 => ⟨S_, .i32⟩
  | 100 => ⟨S32x1x8x1, .i32⟩
  | 101 => ⟨S32x1x8x1, .i1⟩
  | 102 => ⟨S_, .i32⟩
  | 103 => ⟨S32x1x8x1, .i32⟩
  | 104 => ⟨S32x1x8x1, .i32⟩
  | 105 => ⟨S32x1x8x1, .i32⟩
  | 106 => ⟨S_, .i32⟩
  | 107 => ⟨S1x64x1x16, .i32⟩
  | 108 => ⟨S1x64x1x16, .i1⟩
  | 109 => ⟨S_, .i32⟩
  | 110 => ⟨S1x64x1x16, .i32⟩
  | 111 => ⟨S1x64x1x16, .i32⟩
  | 112 => ⟨S1x64x1x16, .i32⟩
  | 113 => ⟨S32x64x8x16, .i32⟩
  | 114 => ⟨S32x64x8x16, .i32⟩
  | 115 => ⟨S32x64x8x16x1, .i32⟩
  | 116 => ⟨S32x64x8x16x1, .i32⟩
  | 117 => ⟨S32x64x8x16x2, .i32⟩
  | 118 => ⟨S8x32x64x8x16, .f32⟩
  | 119 => ⟨S8x8x32x64x8x16, .f32⟩
  | 120 => ⟨S1x8x32x64x8x16, .f32⟩
  | 121 => ⟨S8x8x32x64x8x16, .f32⟩
  | 122 => ⟨S8x8x32x64x8x16, .f32⟩
  | 123 => ⟨S8x8x32x64x128, .f32⟩
  | 124 => ⟨S_, .f32⟩
  | 125 => ⟨S8x8x32x64, .f32⟩
  | 126 => ⟨S_, .f32⟩
  | 127 => ⟨S8x8x32x64, .f32⟩
  | _ => ⟨S8x2048x7168, .bf16⟩

abbrev hbmTy0_1 (i : Nat) : BufTy := match i % 128 with
  | 0 => ⟨S8x8x32x64, .f32⟩
  | 1 => ⟨S8x8x32x64x1, .f32⟩
  | 2 => ⟨S8x8x32x64x128, .f32⟩
  | 3 => ⟨S8x8x32x64x128, .f32⟩
  | 4 => ⟨S8x8x32x64x128, .f32⟩
  | 5 => ⟨S_, .f32⟩
  | 6 => ⟨S8x8x32x64, .f32⟩
  | 7 => ⟨S8x8x32x64x1, .f32⟩
  | 8 => ⟨S8x8x32x64x128, .f32⟩
  | 9 => ⟨S8x8x32x64x128, .f32⟩
  | 10 => ⟨S8x8x32x64x8x16, .f32⟩
  | 11 => ⟨S8x32x64x8x128, .f32⟩
  | 12 => ⟨S8x2048x1024, .f32⟩
  | 13 => ⟨S8x2048x1024, .bf16⟩
  | _ => ⟨S8x2048x7168, .bf16⟩

abbrev hbmTy (i : Nat) : BufTy := match i / 128 with
  | 0 => hbmTy0_0 i
  | 1 => hbmTy0_1 i
  | _ => ⟨S8x2048x7168, .bf16⟩

abbrev bufTy : (tb : Table) → Fin (tcTables nBuf tb) → BufTy
  | .hbm, ⟨i, _⟩ => hbmTy i
  | _, _ => ⟨S8x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_c_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_6 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_19 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩

abbrev nD : Nat := 1
abbrev τ : Topo := Topo.v7x

variable {F : FTy → Type} [FloatOps F]
-- ==== Ffn.lean ====
abbrev S8x2048x2048 : Shape := ⟨3, ![8, 2048, 2048]⟩
abbrev S8x2048x1024 : Shape := ⟨3, ![8, 2048, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S16384x1024 : Shape := ⟨2, ![16384, 1024]⟩
abbrev S1x1024x2048 : Shape := ⟨3, ![1, 1024, 2048]⟩
abbrev S1024x2048 : Shape := ⟨2, ![1024, 2048]⟩
abbrev S2048x5632 : Shape := ⟨2, ![2048, 5632]⟩
abbrev S5632x2048 : Shape := ⟨2, ![5632, 2048]⟩
abbrev S512x2048 : Shape := ⟨2, ![512, 2048]⟩
abbrev S512x1024 : Shape := ⟨2, ![512, 1024]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 28
  | .vmem => 20
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S16384x2048, .f32⟩
  | .hbm, ⟨10, _⟩ => ⟨S16384x1024, .bf16⟩
  | .hbm, ⟨11, _⟩ => ⟨S16384x1024, .bf16⟩
  | .hbm, ⟨12, _⟩ => ⟨S1x1024x2048, .f32⟩
  | .hbm, ⟨13, _⟩ => ⟨S1024x2048, .f32⟩
  | .hbm, ⟨14, _⟩ => ⟨S1024x2048, .bf16⟩
  | .hbm, ⟨15, _⟩ => ⟨S1x1024x2048, .f32⟩
  | .hbm, ⟨16, _⟩ => ⟨S1024x2048, .f32⟩
  | .hbm, ⟨17, _⟩ => ⟨S1024x2048, .bf16⟩
  | .hbm, ⟨18, _⟩ => ⟨S2048, .f32⟩
  | .hbm, ⟨19, _⟩ => ⟨S1x2048, .f32⟩
  | .hbm, ⟨20, _⟩ => ⟨S2048x5632, .f32⟩
  | .hbm, ⟨21, _⟩ => ⟨S2048x5632, .bf16⟩
  | .hbm, ⟨22, _⟩ => ⟨S2048x5632, .f32⟩
  | .hbm, ⟨23, _⟩ => ⟨S2048x5632, .bf16⟩
  | .hbm, ⟨24, _⟩ => ⟨S5632x2048, .f32⟩
  | .hbm, ⟨25, _⟩ => ⟨S5632x2048, .bf16⟩
  | .hbm, ⟨26, _⟩ => ⟨S1x2048, .f32⟩
  | .hbm, ⟨27, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== FfnRefIdeal.lean ====
abbrev S8x2048x2048 : Shape := ⟨3, ![8, 2048, 2048]⟩
abbrev S8x2048x1024 : Shape := ⟨3, ![8, 2048, 1024]⟩
abbrev S1x2048x2048 : Shape := ⟨3, ![1, 2048, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x2048 : Shape := ⟨2, ![2048, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x5632 : Shape := ⟨2, ![2048, 5632]⟩
abbrev S8x2048x5632 : Shape := ⟨3, ![8, 2048, 5632]⟩
abbrev S5632x2048 : Shape := ⟨2, ![5632, 2048]⟩
abbrev S16384x2048 : Shape := ⟨2, ![16384, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x1024, .bf16⟩
  | .hbm, ⟨2, _⟩ => ⟨S8x2048x1024, .bf16⟩
  | .hbm, ⟨3, _⟩ => ⟨S1x2048x2048, .f32⟩
  | .hbm, ⟨4, _⟩ => ⟨S1x2048, .f32⟩
  | .hbm, ⟨5, _⟩ => ⟨S1x2048x5632, .f32⟩
  | .hbm, ⟨6, _⟩ => ⟨S1x2048x5632, .f32⟩
  | .hbm, ⟨7, _⟩ => ⟨S1x5632x2048, .f32⟩
  | .hbm, ⟨8, _⟩ => ⟨S2048, .f32⟩
  | .hbm, ⟨9, _⟩ => ⟨S8x2048x1024, .f32⟩
  | .hbm, ⟨10, _⟩ => ⟨S8x2048x1024, .f32⟩
  | .hbm, ⟨11, _⟩ => ⟨S8x2048x2048, .f32⟩
  | .hbm, ⟨12, _⟩ => ⟨S2048x2048, .f32⟩
  | .hbm, ⟨13, _⟩ => ⟨S8x2048x2048, .f32⟩
  | .hbm, ⟨14, _⟩ => ⟨S8x2048x2048, .f32⟩
  | .hbm, ⟨15, _⟩ => ⟨S2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S1x1x2048, .f32⟩
  | .hbm, ⟨30, _⟩ => ⟨S8x2048x2048, .f32⟩
  | .hbm, ⟨31, _⟩ => ⟨S8x2048x2048, .f32⟩
  | .hbm, ⟨32, _⟩ => ⟨S2048x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S_, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S2048x5632, .f32⟩
  | .hbm, ⟨44, _⟩ => ⟨S8x2048x5632, .f32⟩
  | .hbm, ⟨45, _⟩ => ⟨S8x2048x5632, .f32⟩
  | .hbm, ⟨46, _⟩ => ⟨S5632x2048, .f32⟩
  | .hbm, ⟨47, _⟩ => ⟨S8x2048x2048, .f32⟩
  | .hbm, ⟨48, _⟩ => ⟨S8x2048x2048, .f32⟩
  | .hbm, ⟨49, _⟩ => ⟨S8x2048x2048, .f32⟩
  | .hbm, ⟨50, _⟩ => ⟨S_, .f32⟩
  | .hbm, ⟨51, _⟩ => ⟨S8x2048, .f32⟩
  | .hbm, ⟨52, _⟩ => ⟨S8x2048x1, .f32⟩
  | .hbm, ⟨53, _⟩ => ⟨S_, .f32⟩
  | .hbm, ⟨54, _⟩ => ⟨S8x2048x1, .f32⟩
  | .hbm, ⟨55, _⟩ => ⟨S8x2048x1, .f32⟩
  | .hbm, ⟨56, _⟩ => ⟨S_, .f32⟩
  | .hbm, ⟨57, _⟩ => ⟨S8x2048x1, .f32⟩
  | .hbm, ⟨58, _⟩ => ⟨S8x2048x1, .f32⟩
  | .hbm, ⟨59, _⟩ => ⟨S8x2048x1, .f32⟩
  | .hbm, ⟨60, _⟩ => ⟨S8x2048x2048, .f32⟩
  | .hbm, ⟨61, _⟩ => ⟨S8x2048x2048, .f32⟩
  | .hbm, ⟨62, _⟩ => ⟨S1x1x2048, .f32⟩
  | .hbm, ⟨63, _⟩ => ⟨S8x2048x2048, .f32⟩
  | .hbm, ⟨64, _⟩ => ⟨S8x2048x2048, .f32⟩
  | .hbm, ⟨65, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_2 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proj.lean ====
abbrev S8x2048x2048 : Shape := ⟨3, ![8, 2048, 2048]⟩
abbrev S1x2048 : Shape := ⟨2, ![1, 2048]⟩
abbrev S1x2048x7200 : Shape := ⟨3, ![1, 2048, 7200]⟩
abbrev S2048x7200 : Shape := ⟨2, ![2048, 7200]⟩
abbrev S2048x16 : Shape := ⟨2, ![2048, 16]⟩
abbrev S_ : Shape := ⟨0, ![]⟩
abbrev S2048x80 : Shape := ⟨2, ![2048, 80]⟩
abbrev S16384x2048 : Shape := ⟨2, ![16384, 2048]⟩
abbrev S2048 : Shape := ⟨1, ![2048]⟩
abbrev S2048x128 : Shape := ⟨2, ![2048, 128]⟩
abbrev S16384x7168 : Shape := ⟨2, ![16384, 7168]⟩
abbrev S16384x128 : Shape := ⟨2, ![16384, 128]⟩
abbrev S1024x2048 : Shape := ⟨2, ![1024, 2048]⟩
abbrev S2048x1792 : Shape := ⟨2, ![2048, 1792]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7200, .f32⟩
  | .hbm, ⟨3, _⟩ => ⟨S2048x7200, .f32⟩
  | .hbm, ⟨4, _⟩ => ⟨S2048x16, .f32⟩
  | .hbm, ⟨5, _⟩ => ⟨S2048x16, .f32⟩
  | .hbm, ⟨6, _⟩ => ⟨S_, .f32⟩
  | .hbm, ⟨7, _⟩ => ⟨S2048x80, .f32⟩
  | .hbm, ⟨8, _⟩ => ⟨S16384x2048, .f32⟩
  | .hbm, ⟨9, _⟩ => ⟨S2048, .f32⟩
  | .hbm, ⟨10, _⟩ => ⟨S1x2048, .f32⟩
  | .hbm, ⟨11, _⟩ => ⟨S2048x7200, .bf16⟩
  | .hbm, ⟨12, _⟩ => ⟨S2048x128, .f32⟩
  | .hbm, ⟨13, _⟩ => ⟨S2048x128, .bf16⟩
  | .hbm, ⟨14, _⟩ => ⟨S16384x7168, .bf16⟩
  | .hbm, ⟨15, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1792, .bf16⟩
  | .local _ .vmem, ⟨4, _⟩ => ⟨S2048x1792, .bf16⟩
  | .local _ .vmem, ⟨5, _⟩ => ⟨S2048x128, .bf16⟩
  | .local _ .vmem, ⟨6, _⟩ => ⟨S1024x1792, .bf16⟩
  | .local _ .vmem, ⟨7, _⟩ => ⟨S1024x1792, .bf16⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ProjRefIdeal.lean ====
abbrev S8x2048x2048 : Shape := ⟨3, ![8, 2048, 2048]⟩
abbrev S1x2048 : Shape := ⟨2, ![1, 2048]⟩
abbrev S1x2048x7200 : Shape := ⟨3, ![1, 2048, 7200]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x7200 : Shape := ⟨2, ![2048, 7200]⟩
abbrev S8x2048x7200 : Shape := ⟨3, ![8, 2048, 7200]⟩
abbrev S16384x7200 : Shape := ⟨2, ![16384, 7200]⟩
abbrev S16384x16 : Shape := ⟨2, ![16384, 16]⟩
abbrev S16384x80 : Shape := ⟨2, ![16384, 80]⟩
abbrev S16384x128 : Shape := ⟨2, ![16384, 128]⟩
abbrev S16384x7168 : Shape := ⟨2, ![16384, 7168]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x7200, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x7200, .f32⟩
  | .hbm, ⟨21, _⟩ => ⟨S8x2048x7200, .f32⟩
  | .hbm, ⟨22, _⟩ => ⟨S16384x7200, .f32⟩
  | .hbm, ⟨23, _⟩ => ⟨S16384x16, .f32⟩
  | .hbm, ⟨24, _⟩ => ⟨S16384x16, .f32⟩
  | .hbm, ⟨25, _⟩ => ⟨S_, .f32⟩
  | .hbm, ⟨26, _⟩ => ⟨S16384x80, .f32⟩
  | .hbm, ⟨27, _⟩ => ⟨S16384x128, .f32⟩
  | .hbm, ⟨28, _⟩ => ⟨S16384x7168, .f32⟩
  | .hbm, ⟨29, _⟩ => ⟨S16384x7168, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Gates.lean ====
abbrev S8x2048x128 : Shape := ⟨3, ![8, 2048, 128]⟩
abbrev S1x2x8 : Shape := ⟨3, ![1, 2, 8]⟩
abbrev S2x8 : Shape := ⟨2, ![2, 8]⟩
abbrev S16 : Shape := ⟨1, ![16]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S1x2048x128 : Shape := ⟨3, ![1, 2048, 128]⟩
abbrev S2048x128 : Shape := ⟨2, ![2048, 128]⟩

abbrev nBuf : Space → Nat
  | .hbm => 16
  | .vmem => 6
  | .smem => 0
  | _ => 0

abbrev bufTy : (tb : Table) → Fin (tcTables nBuf tb) → BufTy
  | .hbm, ⟨0, _⟩ => ⟨S8x2048x128, .f32⟩
  | .hbm, ⟨1, _⟩ => ⟨S1x2x8, .f32⟩
  | .hbm, ⟨2, _⟩ => ⟨S1x2x8, .f32⟩
  | .hbm, ⟨3, _⟩ => ⟨S2x8, .f32⟩
  | .hbm, ⟨4, _⟩ => ⟨S16, .f32⟩
  | .hbm, ⟨5, _⟩ => ⟨S1x16, .f32⟩
  | .hbm, ⟨6, _⟩ => ⟨S8x16, .f32⟩
  | .hbm, ⟨7, _⟩ => ⟨S128, .f32⟩
  | .hbm, ⟨8, _⟩ => ⟨S1x128, .f32⟩
  | .hbm, ⟨9, _⟩ => ⟨S2x8, .f32⟩
  | .hbm, ⟨10, _⟩ => ⟨S16, .f32⟩
  | .hbm, ⟨11, _⟩ => ⟨S1x16, .f32⟩
  | .hbm, ⟨12, _⟩ => ⟨S8x16, .f32⟩
  | .hbm, ⟨13, _⟩ => ⟨S128, .f32⟩
  | .hbm, ⟨14, _⟩ => ⟨S1x128, .f32⟩
  | .hbm, ⟨15, _⟩ => ⟨S8x2048x128, .bf16⟩
  | .local _ .vmem, ⟨0, _⟩ => ⟨S1x2048x128, .f32⟩
  | .local _ .vmem, ⟨1, _⟩ => ⟨S1x2048x128, .f32⟩
  | .local _ .vmem, ⟨2, _⟩ => ⟨S1x128, .f32⟩
  | .local _ .vmem, ⟨3, _⟩ => ⟨S1x128, .f32⟩
  | .local _ .vmem, ⟨4, _⟩ => ⟨S1x2048x128, .bf16⟩
  | .local _ .vmem, ⟨5, _⟩ => ⟨S1x2048x128, .bf16⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GatesRefIdeal.lean ====
abbrev S8x2048x128 : Shape := ⟨3, ![8, 2048, 128]⟩
abbrev S1x2x8 : Shape := ⟨3, ![1, 2, 8]⟩
abbrev S8x2048x16 : Shape := ⟨3, ![8, 2048, 16]⟩
abbrev S_ : Shape := ⟨0, ![]⟩
abbrev S2x8 : Shape := ⟨2, ![2, 8]⟩
abbrev S8x2048x2x8 : Shape := ⟨4, ![8, 2048, 2, 8]⟩
abbrev S1x1x2x8 : Shape := ⟨4, ![1, 1, 2, 8]⟩
abbrev S8x32x64x2x8 : Shape := ⟨5, ![8, 32, 64, 2, 8]⟩
abbrev S8x32x64x1x8 : Shape := ⟨5, ![8, 32, 64, 1, 8]⟩
abbrev S8x32x64x8 : Shape := ⟨4, ![8, 32, 64, 8]⟩
abbrev S8x32x64x16 : Shape := ⟨4, ![8, 32, 64, 16]⟩
abbrev S8x2048x80 : Shape := ⟨3, ![8, 2048, 80]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S1x2x8, .f32⟩
  | .hbm, ⟨2, _⟩ => ⟨S1x2x8, .f32⟩
  | .hbm, ⟨3, _⟩ => ⟨S8x2048x16, .f32⟩
  | .hbm, ⟨4, _⟩ => ⟨S8x2048x16, .f32⟩
  | .hbm, ⟨5, _⟩ => ⟨S8x2048x16, .f32⟩
  | .hbm, ⟨6, _⟩ => ⟨S_, .f32⟩
  | .hbm, ⟨7, _⟩ => ⟨S8x2048x16, .f32⟩
  | .hbm, ⟨8, _⟩ => ⟨S8x2048x16, .f32⟩
  | .hbm, ⟨9, _⟩ => ⟨S_, .f32⟩
  | .hbm, ⟨10, _⟩ => ⟨S8x2048x16, .f32⟩
  | .hbm, ⟨11, _⟩ => ⟨S8x2048x16, .f32⟩
  | .hbm, ⟨12, _⟩ => ⟨S8x2048x16, .f32⟩
  | .hbm, ⟨13, _⟩ => ⟨S2x8, .f32⟩
  | .hbm, ⟨14, _⟩ => ⟨S2x8, .f32⟩
  | .hbm, ⟨15, _⟩ => ⟨S2x8, .f32⟩
  | .hbm, ⟨16, _⟩ => ⟨S8x2048x2x8, .f32⟩
  | .hbm, ⟨17, _⟩ => ⟨S2x8, .f32⟩
  | .hbm, ⟨18, _⟩ => ⟨S1x1x2x8, .f32⟩
  | .hbm, ⟨19, _⟩ => ⟨S8x2048x2x8, .f32⟩
  | .hbm, ⟨20, _⟩ => ⟨S8x2048x2x8, .f32⟩
  | .hbm, ⟨21, _⟩ => ⟨S_, .f32⟩
  | .hbm, ⟨22, _⟩ => ⟨S8x2048x2x8, .f32⟩
  | .hbm, ⟨23, _⟩ => ⟨S8x2048x2x8, .f32⟩
  | .hbm, ⟨24, _⟩ => ⟨S8x2048x2x8, .f32⟩
  | .hbm, ⟨25, _⟩ => ⟨S8x2048x2x8, .f32⟩
  | .hbm, ⟨26, _⟩ => ⟨S8x2048x2x8, .i1⟩
  | .hbm, ⟨27, _⟩ => ⟨S8x2048x2x8, .f32⟩
  | .hbm, ⟨28, _⟩ => ⟨S8x2048x2x8, .f32⟩
  | .hbm, ⟨29, _⟩ => ⟨S8x2048x2x8, .f32⟩
  | .hbm, ⟨30, _⟩ => ⟨S8x2048x2x8, .f32⟩
  | .hbm, ⟨31, _⟩ => ⟨S8x2048x2x8, .f32⟩
  | .hbm, ⟨32, _⟩ => ⟨S8x2048x2x8, .f32⟩
  | .hbm, ⟨33, _⟩ => ⟨S8x2048x2x8, .f32⟩
  | .hbm, ⟨34, _⟩ => ⟨S8x2048x2x8, .f32⟩
  | .hbm, ⟨35, _⟩ => ⟨S1x1x2x8, .f32⟩
  | .hbm, ⟨36, _⟩ => ⟨S8x2048x2x8, .f32⟩
  | .hbm, ⟨37, _⟩ => ⟨S8x2048x2x8, .f32⟩
  | .hbm, ⟨38, _⟩ => ⟨S8x32x64x2x8, .f32⟩
  | .hbm, ⟨39, _⟩ => ⟨S8x32x64x1x8, .f32⟩
  | .hbm, ⟨40, _⟩ => ⟨S8x32x64x8, .f32⟩
  | .hbm, ⟨41, _⟩ => ⟨S_, .f32⟩
  | .hbm, ⟨42, _⟩ => ⟨S_, .f32⟩
  | .hbm, ⟨43, _⟩ => ⟨S8x32x64x8, .f32⟩
  | .hbm, ⟨44, _⟩ => ⟨S8x32x64x1x8, .f32⟩
  | .hbm, ⟨45, _⟩ => ⟨S8x32x64x8, .f32⟩
  | .hbm, ⟨46, _⟩ => ⟨S8x32x64x8, .f32⟩
  | .hbm, ⟨47, _⟩ => ⟨S_, .f32⟩
  | .hbm, ⟨48, _⟩ => ⟨S_, .f32⟩
  | .hbm, ⟨49, _⟩ => ⟨S8x32x64x8, .f32⟩
  | .hbm, ⟨50, _⟩ => ⟨S8x32x64x8, .f32⟩
  | .hbm, ⟨51, _⟩ => ⟨S8x32x64x16, .f32⟩
  | .hbm, ⟨52, _⟩ => ⟨S8x2048x16, .f32⟩
  | .hbm, ⟨53, _⟩ => ⟨S8x2048x16, .bf16⟩
  | .hbm, ⟨54, _⟩ => ⟨S8x2048x16, .f32⟩
  | .hbm, ⟨55, _⟩ => ⟨S8x2048x16, .f32⟩
  | .hbm, ⟨56, _⟩ => ⟨S2x8, .f32⟩
  | .hbm, ⟨57, _⟩ => ⟨S2x8, .f32⟩
  | .hbm, ⟨58, _⟩ => ⟨S2x8, .f32⟩
  | .hbm, ⟨59, _⟩ => ⟨S8x2048x2x8, .f32⟩
  | .hbm, ⟨60, _⟩ => ⟨S2x8, .f32⟩
  | .hbm, ⟨61, _⟩ => ⟨S1x1x2x8, .f32⟩
  | .hbm, ⟨62, _⟩ => ⟨S8x2048x2x8, .f32⟩
  | .hbm, ⟨63, _⟩ => ⟨S8x2048x2x8, .f32⟩
  | .hbm, ⟨64, _⟩ => ⟨S_, .f32⟩
  | .hbm, ⟨65, _⟩ => ⟨S8x2048x2x8, .f32⟩
  | .hbm, ⟨66, _⟩ => ⟨S8x2048x2x8, .f32⟩
  | .hbm, ⟨67, _⟩ => ⟨S8x2048x2x8, .f32⟩
  | .hbm, ⟨68, _⟩ => ⟨S8x2048x2x8, .f32⟩
  | .hbm, ⟨69, _⟩ => ⟨S8x2048x2x8, .i1⟩
  | .hbm, ⟨70, _⟩ => ⟨S8x2048x2x8, .f32⟩
  | .hbm, ⟨71, _⟩ => ⟨S8x2048x2x8, .f32⟩
  | .hbm, ⟨72, _⟩ => ⟨S8x2048x2x8, .f32⟩
  | .hbm, ⟨73, _⟩ => ⟨S8x2048x2x8, .f32⟩
  | .hbm, ⟨74, _⟩ => ⟨S8x2048x2x8, .f32⟩
  | .hbm, ⟨75, _⟩ => ⟨S8x2048x2x8, .f32⟩
  | .hbm, ⟨76, _⟩ => ⟨S8x2048x2x8, .f32⟩
  | .hbm, ⟨77, _⟩ => ⟨S8x2048x2x8, .f32⟩
  | .hbm, ⟨78, _⟩ => ⟨S1x1x2x8, .f32⟩
  | .hbm, ⟨79, _⟩ => ⟨S8x2048x2x8, .f32⟩
  | .hbm, ⟨80, _⟩ => ⟨S8x2048x2x8, .f32⟩
  | .hbm, ⟨81, _⟩ => ⟨S8x32x64x2x8, .f32⟩
  | .hbm, ⟨82, _⟩ => ⟨S8x32x64x1x8, .f32⟩
  | .hbm, ⟨83, _⟩ => ⟨S8x32x64x8, .f32⟩
  | .hbm, ⟨84, _⟩ => ⟨S_, .f32⟩
  | .hbm, ⟨85, _⟩ => ⟨S_, .f32⟩
  | .hbm, ⟨86, _⟩ => ⟨S8x32x64x8, .f32⟩
  | .hbm, ⟨87, _⟩ => ⟨S8x32x64x1x8, .f32⟩
  | .hbm, ⟨88, _⟩ => ⟨S8x32x64x8, .f32⟩
  | .hbm, ⟨89, _⟩ => ⟨S8x32x64x8, .f32⟩
  | .hbm, ⟨90, _⟩ => ⟨S_, .f32⟩
  | .hbm, ⟨91, _⟩ => ⟨S_, .f32⟩
  | .hbm, ⟨92, _⟩ => ⟨S8x32x64x8, .f32⟩
  | .hbm, ⟨93, _⟩ => ⟨S8x32x64x8, .f32⟩
  | .hbm, ⟨94, _⟩ => ⟨S8x32x64x16, .f32⟩
  | .hbm, ⟨95, _⟩ => ⟨S8x2048x16, .f32⟩
  | .hbm, ⟨96, _⟩ => ⟨S8x2048x16, .bf16⟩
  | .hbm, ⟨97, _⟩ => ⟨S8x2048x16, .f32⟩
  | .hbm, ⟨98, _⟩ => ⟨S8x2048x16, .f32⟩
  | .hbm, ⟨99, _⟩ => ⟨S_, .f32⟩
  | .hbm, ⟨100, _⟩ => ⟨S8x2048x80, .f32⟩
  | .hbm, ⟨101, _⟩ => ⟨S8x2048x128, .f32⟩
  | .hbm, ⟨102, _⟩ => ⟨S8x2048x128, .bf16⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_call0_cst : Ref sig .tc := ⟨.hbm, 41, rfl⟩
abbrev main_call1_call0_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call3_call0_cst : Ref sig .tc := ⟨.hbm, 47, rfl⟩
abbrev main_call3_call0_v0 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_call5_cst : Ref sig .tc := ⟨.hbm, 64, rfl⟩
abbrev main_call5_v0 : Ref sig .tc := ⟨.hbm, 65, rfl⟩
abbrev main_call5_v1 : Ref sig .tc := ⟨.hbm, 66, rfl⟩
abbrev main_call5_v2 : Ref sig .tc := ⟨.hbm, 67, rfl⟩
abbrev main_call5_v3 : Ref sig .tc := ⟨.hbm, 68, rfl⟩
abbrev main_call5_v4 : Ref sig .tc := ⟨.hbm, 69, rfl⟩
abbrev main_call5_v5 : Ref sig .tc := ⟨.hbm, 70, rfl⟩
abbrev main_call5_v6 : Ref sig .tc := ⟨.hbm, 71, rfl⟩
abbrev main_call5_v7 : Ref sig .tc := ⟨.hbm, 72, rfl⟩
abbrev main_call5_v8 : Ref sig .tc := ⟨.hbm, 73, rfl⟩
abbrev main_call5_v9 : Ref sig .tc := ⟨.hbm, 74, rfl⟩
abbrev main_call5_v10 : Ref sig .tc := ⟨.hbm, 75, rfl⟩
abbrev main_call5_v11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call6_call0_cst : Ref sig .tc := ⟨.hbm, 84, rfl⟩
abbrev main_call6_call0_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_call8_call0_cst : Ref sig .tc := ⟨.hbm, 90, rfl⟩
abbrev main_call8_call0_v0 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩

abbrev nD : Nat := 1
abbrev τ : Topo := Topo.v7x

variable {F : FTy → Type} [FloatOps F]
-- ==== Proof.Na.Bits.Runs.lean ====
/- The attention program: what the runs of its body share. Nothing is said of what it computes. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.NaBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(Pipeline.RDat.FramePost.arr_in h c 3 rfl).trans ((hA c 3).trans (V_main_arg0 m c)),
      ((h c).2 main_arg1 (Pipeline.mem_restRefs_of main_arg1 (by decide) (by decide))).trans (V_main_arg1 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 64 := Nat.lt_of_lt_of_eq t.isLt N_0
    have e0 : (grid0.coords t 0).val = t.val / 8 % 8 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .smem S3720 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048x128 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S14x64x128 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.NaBits

end
-- ==== Proof.Na.Bits.RunA.lean ====
/- The attention program: a run of its body at a point where its condition holds. Nothing is said of what it computes. -/
module

public import proofs.«01_k».proof.Proof.Na.Bits.Runs

@[expose] public section

-- membership in a rectangle of production extents (`View.cover_of_tiled`): the elaborator's structural look
-- recurses once per coordinate of the long axes
set_option maxRecDepth 16384

noncomputable section

namespace Cert.Proof.NaBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5120000 in
/-- The body's triple IN CASE A (`scf.if` 0 taken: points 0, 8, … 56: 8 of 64): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole) (hc0 : cond0_0 i)
    (x0 : Vec F S3720 .f32) (x1 : Vec F S1x2048x128 .bf16) (x2 : Vec F S1x2048x128 .bf16) (x3 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)) -∗ K ⟨⟩))
          ⊢ wp frame (wpE (defs₀ (F := F)) Variants.none c none) E (cc0_na i arg2 harg2 arg3 harg3 arg4 harg4 arg5 harg5 arg6 harg6 arg7 harg7) K := by
    intro E K
    simp only [cc0_na_eq_skeleton]; unfold cc0_na_skel
    simp only [k0_part75_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    iexists _, _; isplitr; swap; · iexact HS0
    ipureintro; rfl

end Cert.Proof.NaBits

end
-- ==== Proof.Na.Bits.RunB.lean ====
/- The attention program: a run of its body at any other point. Nothing is said of what it computes. -/
module

public import proofs.«01_k».proof.Proof.Na.Bits.RunA

@[expose] public section

-- membership in a rectangle of production extents (`View.cover_of_tiled`): the elaborator's structural look
-- recurses once per coordinate of the long axes
set_option maxRecDepth 16384

noncomputable section

namespace Cert.Proof.NaBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 5040000 in
/-- The body's triple IN CASE B (`scf.if` 0 not taken: points 1, 2, … 63: 56 of 64): on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole) (hc0 : ¬cond0_0 i)
    (x0 : Vec F S3720 .f32) (x1 : Vec F S1x2048x128 .bf16) (x2 : Vec F S1x2048x128 .bf16) (x3 : Vec F S1x2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)) -∗ K ⟨⟩))
          ⊢ wp frame (wpE (defs₀ (F := F)) Variants.none c none) E (cc0_na i arg2 harg2 arg3 harg3 arg4 harg4 arg5 harg5 arg6 harg6 arg7 harg7) K := by
    intro E K
    simp only [cc0_na_eq_skeleton]; unfold cc0_na_skel
    simp only [k0_part75_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    iexists _, _; isplitr; swap; · iexact HS0
    ipureintro; rfl

end Cert.Proof.NaBits

end
-- ==== Proof.Na.Bits.Frame.lean ====
/- The attention program: the launch and the frame. Nothing is said of what it computes. -/
module

public import proofs.«01_k».proof.Proof.Na.Bits.RunB
public import Idealize.ShloMosaic.Lib.Claim

@[expose] public section

-- membership in a rectangle of production extents (`View.cover_of_tiled`): the elaborator's structural look
-- recurses once per coordinate of the long axes
set_option maxRecDepth 16384

noncomputable section

namespace Cert.Proof.NaBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  have hN : t.val < 64 := lt_of_lt_of_eq t.isLt (show cfg0.N = 64 from N_0)
  by_cases h0 : t.val % 8 = 0
  · iintro ⟨⟨HS0, Hg⟩, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4
  · iintro ⟨⟨HS0, Hg⟩, Ho, ⟨%d0, H0⟩, ⟨%d1, H1⟩, ⟨%d2, H2⟩, ⟨%d3, H3⟩, ⟨%d4, H4⟩⟩
    iapply ((kernelRun0_B c (grid0.coords t) _ _ _ _ _ _ _ _ _ _ _ _ (fun h => h0 ((hcond0_0 t).mp h)) (iblk m c 0 t) (iblk m c 1 t) (iblk m c 2 t) (iblk m c 3 t)) Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, H4, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (fun c => (dats m 0 c).toRForget forgets0) (A_eq m) (run_main m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.NaBits

end
-- ==== Proof.Na.Setup.lean ====
/- The grid of the attention kernel: when its table is rebuilt, and the buffers its body is given at a point. -/
module

public import proofs.«01_k».proof.Proof.Gen.KernelIdeal.Frame
public import proofs.«01_k».proof.Proof.Gen.KernelIdeal.Loops

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body's branch: the table is built when the batch coordinate is 0. -/
abbrev builds (i : grid0.Coords) : Prop := k0_cond1 i = 1#1

/-- That is at the first of each head's eight points. -/
theorem builds_iff (t : Fin cfg0.N) : builds (grid0.coords t) ↔ t.val % 8 = 0 := by
  have ht : t.val < 64 := Nat.lt_of_lt_of_eq t.isLt N_0
  have e0 : (grid0.coords t 0).val = t.val / 8 % 8 := Pipeline.Grid.coords_val t 0 (by decide) rfl
  have e1 : (grid0.coords t 1).val = t.val / 1 % 8 := Pipeline.Grid.coords_val t 1 (by decide) rfl
  simp only [builds, k0_cond1, e0, e1]
  word_cmp

/-- The staging buffers of a point, and that each is whole. -/
abbrev ms0 (t : Fin cfg0.N) : Memref sig .tc .smem S3720 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x128 .bf16 := win0_4.stage (cfg0.slots t 4)
abbrev hs4 (t : Fin cfg0.N) : (ms4 t).IsWhole := hstage0_4 ((cfg0.slots t 4).cast nbuf0_4)
/-- The kernel's table: a buffer of its own, kept from point to point. -/
abbrev scTab : Memref sig .tc .vmem S14x64x128 .f32 := Memref.whole cc0_scratch0

/-- What the launch keeps beside the windows: the table at some contents, and the generator register. -/
theorem phi_eq (c : Dev nD) :
    (Pipeline.ΦA spec0 c : sProp 𝕄)
      = iprop(iprop((∃ d, owns (c : Thread nD τ) scTab fullShare d)) ∗ (∃ r, prngReg c r)) := by
  unfold Pipeline.ΦA; rw [scopedRest0_eq]; simp only [scTab, owns_whole]; try rfl

/-- No window is ever idle. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl

end Cert.Proof.Na

end
-- ==== Proof.Na.RunB.lean ====
/- The body over a table already built: what it stores into the output block. -/
module

public import proofs.«01_k».proof.Proof.Na.Setup

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 5120000 in
/-- At a point that does not build the table: on whole staging buffers and the table `T`, the body runs to the continuation
    holding the inputs and the table as they were and the output with the found pieces written. -/
def runB (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole)
    (hc0 : ¬builds i) (x0 : Vec F S3720 .f32) (x1 x2 x3 : Vec F S1x2048x128 .bf16) (T : Vec F S14x64x128 .f32) :
    { L : List (View.Piece (Elt F) S1x2048x128 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare T
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare T) -∗ K ⟨⟩))
          ⊢ wp frame (wpE (defs₀ (F := F)) Variants.none c none) E (cc0_na i arg2 harg2 arg3 harg3 arg4 harg4 arg5 harg5 arg6 harg6 arg7 harg7) K } := by
  refine ⟨?_, fun E K => ?run⟩
  case run =>
    simp only [cc0_na_eq_skeleton]; unfold cc0_na_skel
    simp only [k0_part75_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Proof.Na

end
-- ==== Proof.Na.Row.lean ====
/- What the body computes for one row of queries, and for the whole block of a point, as terms of the program's own operations. -/
module

public import proofs.«01_k».proof.Proof.Na.Setup
public import Idealize.ShloMosaic.Lib.VecWindow
public import Idealize.ShloMosaic.Lib.ValueIdx

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One quarter of a row's scores: the products' slice scaled, and the table's plane added. -/
def quarter (s : FVec F S64x512 .f32) (off : Fin 2 → ℕ) (h : S64x512.Slices off S64x128) (t : Vec F S1x64x128 .f32) : FVec F S64x128 .f32 :=
  addf (mulf (extractStridedSlice S64x128 off s h) (broadcast S64x128 (FloatOps.ofBits .f32 1035273459#32)))
    (shapeCast S64x128 t shapeCasts_S1x64x128_S64x128)

/-- The queries' products with the 512 keys of the band. -/
def products (q : Vec F S1x64x128 .bf16) (k : Vec F S1x512x128 .bf16) : FVec F S64x512 .f32 :=
  matmul dot_S64x128_S512x128_S64x512_1_1_0_0_n_n none (shapeCast S64x128 q shapeCasts_S1x64x128_S64x128)
    (shapeCast S512x128 k shapeCasts_S1x512x128_S512x128) (constant S64x512 .f32 0#32)

/-- Each query's largest score, as a column. -/
def rowMax (p0 p1 p2 p3 : FVec F S64x128 .f32) : FVec F S64x1 .f32 :=
  shapeCast S64x1 (multiReduction .maximumf [1] S64 (maximumf (maximumf (maximumf p0 p1) p2) p3) 4286578688#32 reduces_S64x128_S64 (.inl rfl) rfl)
    shapeCasts_S64_S64x1

/-- The exponentials of a quarter's scores less the largest. -/
def rowExp (p : FVec F S64x128 .f32) (mx : FVec F S64x1 .f32) : FVec F S64x128 .f32 :=
  exp (subf p (broadcastTo S64x128 mx broadcasts_S64x1_S64x128))

/-- The sum of the exponentials, as a column. -/
def rowSum (e0 e1 e2 e3 : FVec F S64x128 .f32) : FVec F S64x1 .f32 :=
  shapeCast S64x1 (multiReduction .add [1] S64 (addf (addf (addf e0 e1) e2) e3) 0#32 reduces_S64x128_S64 (.inl rfl) rfl)
    shapeCasts_S64_S64x1

/-- The values weighted by the exponentials, over their sum. -/
def rowOut (e0 e1 e2 e3 : FVec F S64x128 .f32) (v : Vec F S1x512x128 .bf16) : FVec F S1x64x128 .bf16 :=
  shapeCast S1x64x128 (truncf .bf16 (divf
    (matmul dot_S64x512_S512x128_S64x128_1_0_0_1_n_n none
      (truncf .bf16 (concatenate S64x512 1 [⟨S64x128, e0⟩, ⟨S64x128, e1⟩, ⟨S64x128, e2⟩, ⟨S64x128, e3⟩] concatenates_S64x128_S64x128_S64x128_S64x128_S64x512_d1) bitsLt_bf16_f32)
      (shapeCast S512x128 v shapeCasts_S1x512x128_S512x128) (constant S64x128 .f32 0#32))
    (broadcastTo S64x128 (rowSum e0 e1 e2 e3) broadcasts_S64x1_S64x128)) bitsLt_bf16_f32) shapeCasts_S64x128_S1x64x128

/-- A row's result, from its four quarters of scores. -/
def rowSoft (p0 p1 p2 p3 : FVec F S64x128 .f32) (v : Vec F S1x512x128 .bf16) : FVec F S1x64x128 .bf16 :=
  rowOut (rowExp p0 (rowMax p0 p1 p2 p3)) (rowExp p1 (rowMax p0 p1 p2 p3)) (rowExp p2 (rowMax p0 p1 p2 p3)) (rowExp p3 (rowMax p0 p1 p2 p3)) v

/-- A row's result, from its queries, the band's keys and values and the four planes of the table. -/
def rowPay (q : Vec F S1x64x128 .bf16) (k v : Vec F S1x512x128 .bf16) (t0 t1 t2 t3 : Vec F S1x64x128 .f32) : FVec F S1x64x128 .bf16 :=
  rowSoft (quarter (products q k) ![0, 0] slices_S64x512_o0_0_S64x128 t0) (quarter (products q k) ![0, 128] slices_S64x512_o0_128_S64x128 t1)
    (quarter (products q k) ![0, 256] slices_S64x512_o0_256_S64x128 t2) (quarter (products q k) ![0, 384] slices_S64x512_o0_384_S64x128 t3) v

/-- The first row of the band of row `r`: the row four above, held inside the 32 rows. -/
def band (r : ℕ) : ℕ := min (r - 4) 24

theorem band_le (r : ℕ) : band r ≤ 24 := by unfold band; omega
theorem band_diff {r : ℕ} (h : r < 32) : band r + 7 - r ≤ 7 := by unfold band; omega

theorem inbQ (r : ℕ) (hr : r < 32) (a : Fin 3) : (![0, 64 * r, 0] : Fin 3 → ℕ) a + S1x64x128.size a ≤ S1x2048x128.size a := by
  match a with
  | ⟨0, _⟩ => exact Nat.le_refl 1
  | ⟨1, _⟩ => show 64 * r + 64 ≤ 2048; omega
  | ⟨2, _⟩ => exact Nat.le_refl 128

theorem inbK (r : ℕ) (a : Fin 3) : (![0, 64 * band r, 0] : Fin 3 → ℕ) a + S1x512x128.size a ≤ S1x2048x128.size a := by
  match a with
  | ⟨0, _⟩ => exact Nat.le_refl 1
  | ⟨1, _⟩ => show 64 * band r + 512 ≤ 2048; have := band_le r; omega
  | ⟨2, _⟩ => exact Nat.le_refl 128

theorem inbT (r j : ℕ) (hr : r < 32) (hj : j < 4) (a : Fin 3) : (![band r + 7 - r + 2 * j, 0, 0] : Fin 3 → ℕ) a + S1x64x128.size a ≤ S14x64x128.size a := by
  match a with
  | ⟨0, _⟩ => show band r + 7 - r + 2 * j + 1 ≤ 14; have := band_diff hr; omega
  | ⟨1, _⟩ => exact Nat.le_refl 64
  | ⟨2, _⟩ => exact Nat.le_refl 128

/-- Row `r`'s result, from the blocks of queries, keys and values and the table. -/
def rowAt (x1 x2 x3 : Vec F S1x2048x128 .bf16) (T : Vec F S14x64x128 .f32) (r : ℕ) (hr : r < 32) : FVec F S1x64x128 .bf16 :=
  rowPay (VecWindow.window x1 ![0, 64 * r, 0] S1x64x128.size (inbQ r hr)) (VecWindow.window x2 ![0, 64 * band r, 0] S1x512x128.size (inbK r))
    (VecWindow.window x3 ![0, 64 * band r, 0] S1x512x128.size (inbK r))
    (VecWindow.window T ![band r + 7 - r + 2 * 0, 0, 0] S1x64x128.size (inbT r 0 hr (by omega)))
    (VecWindow.window T ![band r + 7 - r + 2 * 1, 0, 0] S1x64x128.size (inbT r 1 hr (by omega)))
    (VecWindow.window T ![band r + 7 - r + 2 * 2, 0, 0] S1x64x128.size (inbT r 2 hr (by omega)))
    (VecWindow.window T ![band r + 7 - r + 2 * 3, 0, 0] S1x64x128.size (inbT r 3 hr (by omega)))

/-- A point's whole output block: position `y` is in row `y 1 / 64`. -/
def blockOut (x1 x2 x3 : Vec F S1x2048x128 .bf16) (T : Vec F S14x64x128 .f32) : Vec F S1x2048x128 .bf16 := fun y =>
  rowAt x1 x2 x3 T ((y 1).val / 64) (by have := (y 1).isLt; change (y 1).val < 2048 at this; omega)
    (ValueIdx.ix3 0 ⟨(y 1).val % 64, by omega⟩ ⟨(y 2).val, (y 2).isLt⟩)

end Cert.Proof.Na

end
-- ==== Proof.Na.PieceB.lean ====
/- The pieces the body stores over a table already built are the rows of `blockOut`. -/
module

public import proofs.«01_k».proof.Proof.Na.RunB
public import proofs.«01_k».proof.Proof.Na.Row

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A load of a window of a whole buffer is that window of what the buffer holds. -/
theorem load_eq {sp : Space} {s : Shape} {e : EltTy} (v : Memref sig .tc sp s e) (hv : v.IsWhole) (x : s.Idx → Elt F e)
    (off size : Fin s.rank → ℕ) (inb : ∀ a, off a + size a ≤ s.size a) :
    View.readAt (Elt F) v.view (Rect.unit off size inb).toLoadRect (hv.unread x) = VecWindow.window x off size inb := by
  rw [View.readAt_unit _ _ inb rfl inb, hv.read_unread]

/-- Row `r`'s result written at row `r` agrees with `blockOut`. -/
theorem row_agrees (x1 x2 x3 : Vec F S1x2048x128 .bf16) (T : Vec F S14x64x128 .f32) (r : ℕ) (hr : r < 32)
    (inb : ∀ a, (![0, 64 * r, 0] : Fin 3 → ℕ) a + (![1, 64, 128] : Fin 3 → ℕ) a ≤ S1x2048x128.size a)
    (x : (Rect.unit (s := S1x2048x128) ![0, 64 * r, 0] ![1, 64, 128] inb).shape.Idx) :
    rowAt x1 x2 x3 T r hr x = blockOut x1 x2 x3 T ((Rect.unit (s := S1x2048x128) ![0, 64 * r, 0] ![1, 64, 128] inb).emb x) := by
  have h0 : (x 0).val < 1 := (x 0).isLt
  have h1 : (x 1).val < 64 := (x 1).isLt
  have e1 : (((Rect.unit (s := S1x2048x128) ![0, 64 * r, 0] ![1, 64, 128] inb).emb x) 1).val = 64 * r + 1 * (x 1).val := rfl
  have e2 : (((Rect.unit (s := S1x2048x128) ![0, 64 * r, 0] ![1, 64, 128] inb).emb x) 2).val = 0 + 1 * (x 2).val := rfl
  unfold blockOut
  have hq : (((Rect.unit (s := S1x2048x128) ![0, 64 * r, 0] ![1, 64, 128] inb).emb x) 1).val / 64 = r := by rw [e1]; omega
  simp only [hq]
  congr 1
  funext a
  apply Fin.ext
  match a with
  | ⟨0, _⟩ => show (x 0).val = 0; omega
  | ⟨1, _⟩ => show (x 1).val = _ % 64; rw [e1]; omega
  | ⟨2, _⟩ => show (x 2).val = 0 + 1 * (x 2).val; omega

/-- A payload spelled over the loads of row `r` agrees with `blockOut`. -/
theorem loads_agree (arg3 arg4 arg5 : Memref sig .tc .vmem S1x2048x128 .bf16) (harg3 : arg3.IsWhole) (harg4 : arg4.IsWhole) (harg5 : arg5.IsWhole)
    (arg7 : Memref sig .tc .vmem S14x64x128 .f32) (harg7 : arg7.IsWhole)
    (x1 x2 x3 : Vec F S1x2048x128 .bf16) (T : Vec F S14x64x128 .f32) (r : ℕ) (hr : r < 32)
    (inb : ∀ a, (![0, 64 * r, 0] : Fin 3 → ℕ) a + (![1, 64, 128] : Fin 3 → ℕ) a ≤ S1x2048x128.size a)
    (x : (Rect.unit (s := S1x2048x128) ![0, 64 * r, 0] ![1, 64, 128] inb).shape.Idx) :
    rowPay (View.readAt (Elt F) arg3.view (Rect.unit (s := S1x2048x128) ![0, 64 * r, 0] S1x64x128.size (inbQ r hr)).toLoadRect (harg3.unread x1))
        (View.readAt (Elt F) arg4.view (Rect.unit (s := S1x2048x128) ![0, 64 * band r, 0] S1x512x128.size (inbK r)).toLoadRect (harg4.unread x2))
        (View.readAt (Elt F) arg5.view (Rect.unit (s := S1x2048x128) ![0, 64 * band r, 0] S1x512x128.size (inbK r)).toLoadRect (harg5.unread x3))
        (View.readAt (Elt F) arg7.view (Rect.unit (s := S14x64x128) ![band r + 7 - r + 2 * 0, 0, 0] S1x64x128.size (inbT r 0 hr (by omega))).toLoadRect (harg7.unread T))
        (View.readAt (Elt F) arg7.view (Rect.unit (s := S14x64x128) ![band r + 7 - r + 2 * 1, 0, 0] S1x64x128.size (inbT r 1 hr (by omega))).toLoadRect (harg7.unread T))
        (View.readAt (Elt F) arg7.view (Rect.unit (s := S14x64x128) ![band r + 7 - r + 2 * 2, 0, 0] S1x64x128.size (inbT r 2 hr (by omega))).toLoadRect (harg7.unread T))
        (View.readAt (Elt F) arg7.view (Rect.unit (s := S14x64x128) ![band r + 7 - r + 2 * 3, 0, 0] S1x64x128.size (inbT r 3 hr (by omega))).toLoadRect (harg7.unread T)) x
      = blockOut x1 x2 x3 T ((Rect.unit (s := S1x2048x128) ![0, 64 * r, 0] ![1, 64, 128] inb).emb x) := by
  simp only [load_eq]
  exact row_agrees x1 x2 x3 T r hr inb x

set_option maxHeartbeats 20000000 in
/-- Every piece of the run agrees with `blockOut`. -/
theorem runB_agrees (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole)
    (hc0 : ¬builds i) (x0 : Vec F S3720 .f32) (x1 x2 x3 : Vec F S1x2048x128 .bf16) (T : Vec F S14x64x128 .f32) :
    ∀ p ∈ (runB c i arg2 harg2 arg3 harg3 arg4 harg4 arg5 harg5 arg6 harg6 arg7 harg7 hc0 x0 x1 x2 x3 T).1,
      ∀ x : p.1.shape.Idx, p.2 x = blockOut x1 x2 x3 T (p.1.emb x) := by
  unfold runB
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by intro p hp; cases hp⟩
  · exact fun x => loads_agree arg3 arg4 arg5 harg3 harg4 harg5 arg7 harg7 x1 x2 x3 T 31 (by decide) _ x
  · exact fun x => loads_agree arg3 arg4 arg5 harg3 harg4 harg5 arg7 harg7 x1 x2 x3 T 30 (by decide) _ x
  · exact fun x => loads_agree arg3 arg4 arg5 harg3 harg4 harg5 arg7 harg7 x1 x2 x3 T 29 (by decide) _ x
  · exact fun x => loads_agree arg3 arg4 arg5 harg3 harg4 harg5 arg7 harg7 x1 x2 x3 T 28 (by decide) _ x
  · exact fun x => loads_agree arg3 arg4 arg5 harg3 harg4 harg5 arg7 harg7 x1 x2 x3 T 27 (by decide) _ x
  · exact fun x => loads_agree arg3 arg4 arg5 harg3 harg4 harg5 arg7 harg7 x1 x2 x3 T 26 (by decide) _ x
  · exact fun x => loads_agree arg3 arg4 arg5 harg3 harg4 harg5 arg7 harg7 x1 x2 x3 T 25 (by decide) _ x
  · exact fun x => loads_agree arg3 arg4 arg5 harg3 harg4 harg5 arg7 harg7 x1 x2 x3 T 24 (by decide) _ x
  · exact fun x => loads_agree arg3 arg4 arg5 harg3 harg4 harg5 arg7 harg7 x1 x2 x3 T 23 (by decide) _ x
  · exact fun x => loads_agree arg3 arg4 arg5 harg3 harg4 harg5 arg7 harg7 x1 x2 x3 T 22 (by decide) _ x
  · exact fun x => loads_agree arg3 arg4 arg5 harg3 harg4 harg5 arg7 harg7 x1 x2 x3 T 21 (by decide) _ x
  · exact fun x => loads_agree arg3 arg4 arg5 harg3 harg4 harg5 arg7 harg7 x1 x2 x3 T 20 (by decide) _ x
  · exact fun x => loads_agree arg3 arg4 arg5 harg3 harg4 harg5 arg7 harg7 x1 x2 x3 T 19 (by decide) _ x
  · exact fun x => loads_agree arg3 arg4 arg5 harg3 harg4 harg5 arg7 harg7 x1 x2 x3 T 18 (by decide) _ x
  · exact fun x => loads_agree arg3 arg4 arg5 harg3 harg4 harg5 arg7 harg7 x1 x2 x3 T 17 (by decide) _ x
  · exact fun x => loads_agree arg3 arg4 arg5 harg3 harg4 harg5 arg7 harg7 x1 x2 x3 T 16 (by decide) _ x
  · exact fun x => loads_agree arg3 arg4 arg5 harg3 harg4 harg5 arg7 harg7 x1 x2 x3 T 15 (by decide) _ x
  · exact fun x => loads_agree arg3 arg4 arg5 harg3 harg4 harg5 arg7 harg7 x1 x2 x3 T 14 (by decide) _ x
  · exact fun x => loads_agree arg3 arg4 arg5 harg3 harg4 harg5 arg7 harg7 x1 x2 x3 T 13 (by decide) _ x
  · exact fun x => loads_agree arg3 arg4 arg5 harg3 harg4 harg5 arg7 harg7 x1 x2 x3 T 12 (by decide) _ x
  · exact fun x => loads_agree arg3 arg4 arg5 harg3 harg4 harg5 arg7 harg7 x1 x2 x3 T 11 (by decide) _ x
  · exact fun x => loads_agree arg3 arg4 arg5 harg3 harg4 harg5 arg7 harg7 x1 x2 x3 T 10 (by decide) _ x
  · exact fun x => loads_agree arg3 arg4 arg5 harg3 harg4 harg5 arg7 harg7 x1 x2 x3 T 9 (by decide) _ x
  · exact fun x => loads_agree arg3 arg4 arg5 harg3 harg4 harg5 arg7 harg7 x1 x2 x3 T 8 (by decide) _ x
  · exact fun x => loads_agree arg3 arg4 arg5 harg3 harg4 harg5 arg7 harg7 x1 x2 x3 T 7 (by decide) _ x
  · exact fun x => loads_agree arg3 arg4 arg5 harg3 harg4 harg5 arg7 harg7 x1 x2 x3 T 6 (by decide) _ x
  · exact fun x => loads_agree arg3 arg4 arg5 harg3 harg4 harg5 arg7 harg7 x1 x2 x3 T 5 (by decide) _ x
  · exact fun x => loads_agree arg3 arg4 arg5 harg3 harg4 harg5 arg7 harg7 x1 x2 x3 T 4 (by decide) _ x
  · exact fun x => loads_agree arg3 arg4 arg5 harg3 harg4 harg5 arg7 harg7 x1 x2 x3 T 3 (by decide) _ x
  · exact fun x => loads_agree arg3 arg4 arg5 harg3 harg4 harg5 arg7 harg7 x1 x2 x3 T 2 (by decide) _ x
  · exact fun x => loads_agree arg3 arg4 arg5 harg3 harg4 harg5 arg7 harg7 x1 x2 x3 T 1 (by decide) _ x
  · exact fun x => loads_agree arg3 arg4 arg5 harg3 harg4 harg5 arg7 harg7 x1 x2 x3 T 0 (by decide) _ x

end Cert.Proof.Na

end
-- ==== Proof.Na.Table.lean ====
/- The table of biases that a head's first point builds: what one trip of its loop stores, and the whole table after it. -/
module

public import proofs.«01_k».proof.Proof.Na.PieceB
public import Idealize.ShloMosaic.Lib.ValueIdx
public import Idealize.ShloMosaic.Lib.ValueLayout

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.ValueIdx

/-- One step of a plane: where the key's offset is `n`, the bias of the window's even or odd row (`s` in the left lanes, `t` in the
    right lanes), elsewhere what the steps before left. -/
def planeStep (n : ℕ) (s t : Elt F .f32) (prev : FVec F S64x128 .f32) : FVec F S64x128 .f32 :=
  select (cmpi .eq k0_pay17 (broadcast S64x128 (BitVec.ofNat 32 n)))
    (select k0_pay15 (broadcast S64x128 t) (broadcast S64x128 s)) prev

/-- A plane after its first `n` steps, from the mask. -/
def planeChain (s t : (n : ℕ) → n < 31 → Elt F .f32) : (n : ℕ) → n ≤ 31 → FVec F S64x128 .f32
  | 0, _ => broadcast S64x128 (Named.named κ "mask" (4048155338#32))
  | n + 1, h => planeStep n (s n h) (t n h) (planeChain s t n (Nat.le_of_succ_le h))

/-- A whole plane: the 31 offsets' biases inside the window, the mask outside it. -/
def plane (s t : (n : ℕ) → n < 31 → Elt F .f32) : FVec F S64x128 .f32 :=
  select k0_pay16 (planeChain s t 31 le_rfl) (broadcast S64x128 (Named.named κ "mask" (4048155338#32)))

/-- The bias of head `h` at row offset `d` and column offset `n`, in the flat array of biases. -/
def bias (x0 : Vec F S3720 .f32) (h d n : ℕ) : Elt F .f32 := x0 (ix1 ⟨((h * 15 + d) * 31 + n) % 3720, Nat.mod_lt _ (by decide)⟩)

/-- The table of head `h`: plane `d` carries the biases of row offsets `d` (left lanes) and `d + 1` (right lanes). -/
def tabOf (x0 : Vec F S3720 .f32) (h : ℕ) : Vec F S14x64x128 .f32 := fun y =>
  plane (fun n _ => bias x0 h (y 0).val n) (fun n _ => bias x0 h ((y 0).val + 1) n) (ix2 ⟨(y 1).val, (y 1).isLt⟩ ⟨(y 2).val, (y 2).isLt⟩)

theorem pay18_apply (v : FVec F S64x128 .f32) (a : Fin 64) (b : Fin 128) : k0_pay18 v (ix3 ⟨0, Nat.one_pos⟩ a b) = v (ix2 a b) := by
  unfold k0_pay18
  exact shapeCast_ab_1ab_apply _ _ _ _ _

theorem numel_pos : 0 < S1.numel := by decide

theorem trips_eq : k0_t1_loop.trips = 14 := by decide +kernel

section

variable (𝒱 : Variants) (c : Dev nD) (bd : Option 𝒱.V) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole) (arg0 : BitVec 32) (hc0 : k0_cond1 i = 1#1)

/-- The word a trip loads for the even row at offset `n`. -/
theorem word1 (x0 : Vec F S3720 .f32) (k : Fin k0_t1_loop.trips) (n : ℕ) (hn : n < 31) :
    View.readAt (Elt F) arg2.view (Rect.unit (s := S3720) (k0_off1 i k (BitVec.ofNat 32 n)) S1.size (k0_off1_inb i k hc0 ⟨n, hn⟩)).toLoadRect (harg2.unread x0)
      (Shape.Idx.first numel_pos) = bias x0 (i 0).val k.val n := by
  rw [load_eq]
  have hi : (i 0).val < 8 := (i 0).isLt
  have hk : k.val < 14 := Nat.lt_of_lt_of_le k.isLt k0_t1_abs.2.1
  show x0 _ = x0 _
  congr 1
  funext a
  apply Fin.ext
  match a with
  | ⟨0, _⟩ =>
    show k0_off1 i k (BitVec.ofNat 32 n) 0 + 1 * _ = _ % 3720
    have o := congrFun (k0_off1_eq i k ⟨n, hn⟩) 0
    change k0_off1 i k (BitVec.ofNat 32 n) 0 = 465 * (i 0).val + 31 * k.val + n at o
    have z : (Shape.Idx.first numel_pos (0 : Fin 1)).val = 0 := rfl
    rw [Nat.mod_eq_of_lt (by omega)]
    change k0_off1 i k (BitVec.ofNat 32 n) 0 + 1 * (Shape.Idx.first numel_pos (0 : Fin 1)).val = _
    omega

/-- The word a trip loads for the odd row at offset `n`. -/
theorem word2 (x0 : Vec F S3720 .f32) (k : Fin k0_t1_loop.trips) (n : ℕ) (hn : n < 31) :
    View.readAt (Elt F) arg2.view (Rect.unit (s := S3720) (k0_off2 i k (BitVec.ofNat 32 n)) S1.size (k0_off2_inb i k hc0 ⟨n, hn⟩)).toLoadRect (harg2.unread x0)
      (Shape.Idx.first numel_pos) = bias x0 (i 0).val (k.val + 1) n := by
  rw [load_eq]
  have hi : (i 0).val < 8 := (i 0).isLt
  have hk : k.val < 14 := Nat.lt_of_lt_of_le k.isLt k0_t1_abs.2.1
  show x0 _ = x0 _
  congr 1
  funext a
  apply Fin.ext
  match a with
  | ⟨0, _⟩ =>
    show k0_off2 i k (BitVec.ofNat 32 n) 0 + 1 * _ = _ % 3720
    have o := congrFun (k0_off2_eq i k ⟨n, hn⟩) 0
    change k0_off2 i k (BitVec.ofNat 32 n) 0 = 465 * (i 0).val + 31 * k.val + n + 31 at o
    have z : (Shape.Idx.first numel_pos (0 : Fin 1)).val = 0 := rfl
    rw [Nat.mod_eq_of_lt (by omega)]
    change k0_off2 i k (BitVec.ofNat 32 n) 0 + 1 * (Shape.Idx.first numel_pos (0 : Fin 1)).val = _
    omega

set_option maxHeartbeats 400000 in
/-- A trip's whole plane. -/
theorem trip_plane (x0 : Vec F S3720 .f32) (k : Fin k0_t1_loop.trips) :
    trip_k0_t1.sl.r_63 i arg2 hc0 (harg2.unread x0) k
      = plane (fun n _ => bias x0 (i 0).val k.val n) (fun n _ => bias x0 (i 0).val (k.val + 1) n) := by
  refine Eq.trans (b := plane
    (fun n hn => View.readAt (Elt F) arg2.view (Rect.unit (s := S3720) (k0_off1 i k (BitVec.ofNat 32 n)) S1.size (k0_off1_inb i k hc0 ⟨n, hn⟩)).toLoadRect (harg2.unread x0) (Shape.Idx.first numel_pos))
    (fun n hn => View.readAt (Elt F) arg2.view (Rect.unit (s := S3720) (k0_off2 i k (BitVec.ofNat 32 n)) S1.size (k0_off2_inb i k hc0 ⟨n, hn⟩)).toLoadRect (harg2.unread x0) (Shape.Idx.first numel_pos))) rfl ?_
  congr 1
  · funext n hn; exact word1 i arg2 harg2 hc0 x0 k n hn
  · funext n hn; exact word2 i arg2 harg2 hc0 x0 k n hn

/-- The one piece a trip stores. -/
theorem trip_piece (X : BufTy.Contents (Elt F) arg2.view.ty) (k : Fin k0_t1_loop.trips) :
    tripL_k0_t1 (F := F) 𝒱 c bd i arg2 harg2 arg3 harg3 arg4 harg4 arg5 harg5 arg6 harg6 arg7 harg7 arg0 hc0 X k
      = [⟨Rect.unit (k0_off3 k) ![1, 64, 128] (k0_off3_inb i k hc0), k0_pay18 (trip_k0_t1.sl.r_63 i arg2 hc0 X k)⟩] := by
  unfold tripL_k0_t1 trip_k0_t1
  rfl

/-- After `n` trips: every piece agrees with the table, and the first `n` planes are covered. -/
theorem after_trips (x0 : Vec F S3720 .f32) (n : ℕ) (hn : n ≤ 14) :
    (∀ p ∈ pb_k0_t1 (F := F) 𝒱 c bd i arg2 harg2 arg3 harg3 arg4 harg4 arg5 harg5 arg6 harg6 arg7 harg7 arg0 hc0 (harg2.unread x0) n, ∀ x, p.2 x = tabOf x0 (i 0).val (p.1.emb x))
      ∧ ∀ y : S14x64x128.Idx, (y 0).val < n → ∃ p ∈ pb_k0_t1 (F := F) 𝒱 c bd i arg2 harg2 arg3 harg3 arg4 harg4 arg5 harg5 arg6 harg6 arg7 harg7 arg0 hc0 (harg2.unread x0) n, y ∈ p.1.set := by
  induction n with
  | zero => exact ⟨fun p hp => absurd hp List.not_mem_nil, fun y hy => absurd hy (Nat.not_lt_zero _)⟩
  | succ n ih =>
    obtain ⟨ih1, ih2⟩ := ih (by omega)
    have hk : n < k0_t1_loop.trips := by rw [trips_eq]; omega
    have e := pb_k0_t1_succ (F := F) 𝒱 c bd i arg2 harg2 arg3 harg3 arg4 harg4 arg5 harg5 arg6 harg6 arg7 harg7 arg0 hc0 (harg2.unread x0) ⟨n, hk⟩
    rw [trip_piece] at e
    rw [e]
    have ho := k0_off3_eq ⟨n, hk⟩
    refine ⟨fun p hp => ?_, fun y hy => ?_⟩
    · rcases List.mem_cons.1 hp with rfl | hp
      · intro x
        have h0 : (x 0).val < 1 := (x 0).isLt
        have h1 : (x 1).val < 64 := (x 1).isLt
        have h2 : (x 2).val < 128 := (x 2).isLt
        dsimp only
        rw [trip_plane i arg2 harg2 hc0 x0]
        have hx : x = ix3 ⟨0, Nat.one_pos⟩ ⟨(x 1).val, h1⟩ ⟨(x 2).val, h2⟩ := by
          funext a
          match a with
          | ⟨0, _⟩ => exact Fin.ext (by show (x 0).val = 0; omega)
          | ⟨1, _⟩ => rfl
          | ⟨2, _⟩ => rfl
        have e0 : (((Rect.unit (s := S14x64x128) (k0_off3 ⟨n, hk⟩) ![1, 64, 128] (k0_off3_inb i ⟨n, hk⟩ hc0)).emb x) 0).val = n := by
          show k0_off3 ⟨n, hk⟩ 0 + 1 * (x 0).val = n
          have o := congrFun ho 0; change k0_off3 _ 0 = n at o; omega
        have e1 : (((Rect.unit (s := S14x64x128) (k0_off3 ⟨n, hk⟩) ![1, 64, 128] (k0_off3_inb i ⟨n, hk⟩ hc0)).emb x) 1).val = (x 1).val := by
          show k0_off3 ⟨n, hk⟩ 1 + 1 * (x 1).val = _
          have o := congrFun ho 1; change k0_off3 _ 1 = 0 at o; omega
        have e2 : (((Rect.unit (s := S14x64x128) (k0_off3 ⟨n, hk⟩) ![1, 64, 128] (k0_off3_inb i ⟨n, hk⟩ hc0)).emb x) 2).val = (x 2).val := by
          show k0_off3 ⟨n, hk⟩ 2 + 1 * (x 2).val = _
          have o := congrFun ho 2; change k0_off3 _ 2 = 0 at o; omega
        unfold tabOf
        simp only [e0, e1, e2]
        refine (congrArg _ hx).trans ?_
        exact pay18_apply _ _ _
      · exact ih1 p hp
    · by_cases hyn : (y 0).val < n
      · obtain ⟨p, hp, hy⟩ := ih2 y hyn
        exact ⟨p, List.mem_cons_of_mem _ hp, hy⟩
      · refine ⟨_, List.mem_cons_self .., ?_⟩
        have y1 : (y 1).val < 64 := (y 1).isLt
        have y2 : (y 2).val < 128 := (y 2).isLt
        rw [Rect.mem_set_unit]
        intro a
        rw [ho]
        match a with
        | ⟨0, _⟩ => show n ≤ (y 0).val ∧ (y 0).val < n + 1; omega
        | ⟨1, _⟩ => show 0 ≤ (y 1).val ∧ (y 1).val < 0 + 64; omega
        | ⟨2, _⟩ => show 0 ≤ (y 2).val ∧ (y 2).val < 0 + 128; omega

/-- After the whole loop the scratch holds the table. -/
theorem after_loop (x0 : Vec F S3720 .f32) (f : BufTy.Contents (Elt F) arg7.view.ty) :
    arg7.view.writes (Elt F) f (pb_k0_t1 (F := F) 𝒱 c bd i arg2 harg2 arg3 harg3 arg4 harg4 arg5 harg5 arg6 harg6 arg7 harg7 arg0 hc0 (harg2.unread x0) k0_t1_loop.trips) = harg7.unread (tabOf x0 (i 0).val) := by
  apply harg7.eq_unread
  funext y
  have hy : (y 0).val < 14 := (y 0).isLt
  rw [trips_eq]
  obtain ⟨h1, h2⟩ := after_trips 𝒱 c bd i arg2 harg2 arg3 harg3 arg4 harg4 arg5 harg5 arg6 harg6 arg7 harg7 arg0 hc0 x0 14 le_rfl
  exact View.read_writes_apply_of_pieces _ _ _ _ h1 y (h2 y hy)

end

end Cert.Proof.Na

end
-- ==== Proof.Na.RunA.lean ====
/- The body at a head's first point: it builds the table and then stores the same rows over it. -/
module

public import proofs.«01_k».proof.Proof.Na.Table

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 5120000 in
set_option pp.deepTerms false in
set_option pp.maxSteps 600 in
/-- At a point that builds the table: on whole staging buffers and any scratch, the body runs to the continuation holding the
    inputs as they were, the output with the found pieces written, and the head's table in the scratch. -/
def runA (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole)
    (hc0 : builds i) (x0 : Vec F S3720 .f32) (x1 x2 x3 : Vec F S1x2048x128 .bf16) :
    { L : List (View.Piece (Elt F) S1x2048x128 .bf16) // ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L) ∗ owns (c : Thread nD τ) arg7 fullShare (tabOf x0 (i 0).val)) -∗ K ⟨⟩))
          ⊢ wp frame (wpE (defs₀ (F := F)) Variants.none c none) E (cc0_na i arg2 harg2 arg3 harg3 arg4 harg4 arg5 harg5 arg6 harg6 arg7 harg7) K } := by
  refine ⟨?_, fun E K => ?run⟩
  case run =>
    simp only [cc0_na_eq_skeleton]; unfold cc0_na_skel
    simp only [k0_part75_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    (set_option sl_exec.stopBefore "k0_part11" in sl_exec (disch := first | sl_exact hc0))
    rw [after_loop]
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS0

end Cert.Proof.Na

end
-- ==== Proof.Na.PieceA.lean ====
/- The pieces the body stores after building the table are the rows of `blockOut` over that table; either way they cover the block. -/
module

public import proofs.«01_k».proof.Proof.Na.RunA

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 20000000 in
/-- Every piece of the run agrees with `blockOut`. -/
theorem runA_agrees (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole)
    (hc0 : builds i) (x0 : Vec F S3720 .f32) (x1 x2 x3 : Vec F S1x2048x128 .bf16) :
    ∀ p ∈ (runA c i arg2 harg2 arg3 harg3 arg4 harg4 arg5 harg5 arg6 harg6 arg7 harg7 hc0 x0 x1 x2 x3).1,
      ∀ x : p.1.shape.Idx, p.2 x = blockOut x1 x2 x3 (tabOf x0 (i 0).val) (p.1.emb x) := by
  unfold runA
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, by intro p hp; cases hp⟩
  · exact fun x => loads_agree arg3 arg4 arg5 harg3 harg4 harg5 arg7 harg7 x1 x2 x3 (tabOf x0 (i 0).val) 31 (by decide) _ x
  · exact fun x => loads_agree arg3 arg4 arg5 harg3 harg4 harg5 arg7 harg7 x1 x2 x3 (tabOf x0 (i 0).val) 30 (by decide) _ x
  · exact fun x => loads_agree arg3 arg4 arg5 harg3 harg4 harg5 arg7 harg7 x1 x2 x3 (tabOf x0 (i 0).val) 29 (by decide) _ x
  · exact fun x => loads_agree arg3 arg4 arg5 harg3 harg4 harg5 arg7 harg7 x1 x2 x3 (tabOf x0 (i 0).val) 28 (by decide) _ x
  · exact fun x => loads_agree arg3 arg4 arg5 harg3 harg4 harg5 arg7 harg7 x1 x2 x3 (tabOf x0 (i 0).val) 27 (by decide) _ x
  · exact fun x => loads_agree arg3 arg4 arg5 harg3 harg4 harg5 arg7 harg7 x1 x2 x3 (tabOf x0 (i 0).val) 26 (by decide) _ x
  · exact fun x => loads_agree arg3 arg4 arg5 harg3 harg4 harg5 arg7 harg7 x1 x2 x3 (tabOf x0 (i 0).val) 25 (by decide) _ x
  · exact fun x => loads_agree arg3 arg4 arg5 harg3 harg4 harg5 arg7 harg7 x1 x2 x3 (tabOf x0 (i 0).val) 24 (by decide) _ x
  · exact fun x => loads_agree arg3 arg4 arg5 harg3 harg4 harg5 arg7 harg7 x1 x2 x3 (tabOf x0 (i 0).val) 23 (by decide) _ x
  · exact fun x => loads_agree arg3 arg4 arg5 harg3 harg4 harg5 arg7 harg7 x1 x2 x3 (tabOf x0 (i 0).val) 22 (by decide) _ x
  · exact fun x => loads_agree arg3 arg4 arg5 harg3 harg4 harg5 arg7 harg7 x1 x2 x3 (tabOf x0 (i 0).val) 21 (by decide) _ x
  · exact fun x => loads_agree arg3 arg4 arg5 harg3 harg4 harg5 arg7 harg7 x1 x2 x3 (tabOf x0 (i 0).val) 20 (by decide) _ x
  · exact fun x => loads_agree arg3 arg4 arg5 harg3 harg4 harg5 arg7 harg7 x1 x2 x3 (tabOf x0 (i 0).val) 19 (by decide) _ x
  · exact fun x => loads_agree arg3 arg4 arg5 harg3 harg4 harg5 arg7 harg7 x1 x2 x3 (tabOf x0 (i 0).val) 18 (by decide) _ x
  · exact fun x => loads_agree arg3 arg4 arg5 harg3 harg4 harg5 arg7 harg7 x1 x2 x3 (tabOf x0 (i 0).val) 17 (by decide) _ x
  · exact fun x => loads_agree arg3 arg4 arg5 harg3 harg4 harg5 arg7 harg7 x1 x2 x3 (tabOf x0 (i 0).val) 16 (by decide) _ x
  · exact fun x => loads_agree arg3 arg4 arg5 harg3 harg4 harg5 arg7 harg7 x1 x2 x3 (tabOf x0 (i 0).val) 15 (by decide) _ x
  · exact fun x => loads_agree arg3 arg4 arg5 harg3 harg4 harg5 arg7 harg7 x1 x2 x3 (tabOf x0 (i 0).val) 14 (by decide) _ x
  · exact fun x => loads_agree arg3 arg4 arg5 harg3 harg4 harg5 arg7 harg7 x1 x2 x3 (tabOf x0 (i 0).val) 13 (by decide) _ x
  · exact fun x => loads_agree arg3 arg4 arg5 harg3 harg4 harg5 arg7 harg7 x1 x2 x3 (tabOf x0 (i 0).val) 12 (by decide) _ x
  · exact fun x => loads_agree arg3 arg4 arg5 harg3 harg4 harg5 arg7 harg7 x1 x2 x3 (tabOf x0 (i 0).val) 11 (by decide) _ x
  · exact fun x => loads_agree arg3 arg4 arg5 harg3 harg4 harg5 arg7 harg7 x1 x2 x3 (tabOf x0 (i 0).val) 10 (by decide) _ x
  · exact fun x => loads_agree arg3 arg4 arg5 harg3 harg4 harg5 arg7 harg7 x1 x2 x3 (tabOf x0 (i 0).val) 9 (by decide) _ x
  · exact fun x => loads_agree arg3 arg4 arg5 harg3 harg4 harg5 arg7 harg7 x1 x2 x3 (tabOf x0 (i 0).val) 8 (by decide) _ x
  · exact fun x => loads_agree arg3 arg4 arg5 harg3 harg4 harg5 arg7 harg7 x1 x2 x3 (tabOf x0 (i 0).val) 7 (by decide) _ x
  · exact fun x => loads_agree arg3 arg4 arg5 harg3 harg4 harg5 arg7 harg7 x1 x2 x3 (tabOf x0 (i 0).val) 6 (by decide) _ x
  · exact fun x => loads_agree arg3 arg4 arg5 harg3 harg4 harg5 arg7 harg7 x1 x2 x3 (tabOf x0 (i 0).val) 5 (by decide) _ x
  · exact fun x => loads_agree arg3 arg4 arg5 harg3 harg4 harg5 arg7 harg7 x1 x2 x3 (tabOf x0 (i 0).val) 4 (by decide) _ x
  · exact fun x => loads_agree arg3 arg4 arg5 harg3 harg4 harg5 arg7 harg7 x1 x2 x3 (tabOf x0 (i 0).val) 3 (by decide) _ x
  · exact fun x => loads_agree arg3 arg4 arg5 harg3 harg4 harg5 arg7 harg7 x1 x2 x3 (tabOf x0 (i 0).val) 2 (by decide) _ x
  · exact fun x => loads_agree arg3 arg4 arg5 harg3 harg4 harg5 arg7 harg7 x1 x2 x3 (tabOf x0 (i 0).val) 1 (by decide) _ x
  · exact fun x => loads_agree arg3 arg4 arg5 harg3 harg4 harg5 arg7 harg7 x1 x2 x3 (tabOf x0 (i 0).val) 0 (by decide) _ x

/-- The pieces of the run cover the block. -/
theorem runA_cover (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole)
    (hc0 : builds i) (x0 : Vec F S3720 .f32) (x1 x2 x3 : Vec F S1x2048x128 .bf16) (y : S1x2048x128.Idx) :
    ∃ p ∈ (runA c i arg2 harg2 arg3 harg3 arg4 harg4 arg5 harg5 arg6 harg6 arg7 harg7 hc0 x0 x1 x2 x3).1, y ∈ p.1.set :=
  View.cover_of_tiledL (runA c i arg2 harg2 arg3 harg3 arg4 harg4 arg5 harg5 arg6 harg6 arg7 harg7 hc0 x0 x1 x2 x3).1 S1x64x128.size (by sl_kernel_rfl) y

/-- The pieces of the run cover the block. -/
theorem runB_cover (c : Dev nD) (i : grid0.Coords) (arg2 : Memref sig .tc .smem S3720 .f32) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S14x64x128 .f32) (harg7 : arg7.IsWhole)
    (hc0 : ¬builds i) (x0 : Vec F S3720 .f32) (x1 x2 x3 : Vec F S1x2048x128 .bf16) (T : Vec F S14x64x128 .f32) (y : S1x2048x128.Idx) :
    ∃ p ∈ (runB c i arg2 harg2 arg3 harg3 arg4 harg4 arg5 harg5 arg6 harg6 arg7 harg7 hc0 x0 x1 x2 x3 T).1, y ∈ p.1.set :=
  View.cover_of_tiledL (runB c i arg2 harg2 arg3 harg3 arg4 harg4 arg5 harg5 arg6 harg6 arg7 harg7 hc0 x0 x1 x2 x3 T).1 S1x64x128.size (by sl_kernel_rfl) y

end Cert.Proof.Na

end
-- ==== Proof.Na.Frame.lean ====
/- The launch: the table carried from point to point, what each point leaves in its block, and the frame. -/
module

public import proofs.«01_k».proof.Proof.Na.PieceA
public import Idealize.ShloMosaic.Lib.Claim

@[expose] public section

set_option maxRecDepth 16384

noncomputable section

namespace Cert.Proof.Na

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The biases' window is the whole flat array at every point. -/
theorem iblk0_eq (c : Dev nD) (t : Fin cfg0.N) : (iblk m c 0 t : Vec F S3720 .f32) = V m c main_v1 := by
  funext y
  unfold iblk; rw [View.read_apply]
  show (V m c main_v1 : Vec F S3720 .f32) _ = _
  congr 1; funext a; apply Fin.ext
  have h := (by decide +kernel : ∀ t : Fin grid0.N, win0_0.index t 0 = 0) t
  match a with
  | ⟨0, _⟩ => show win0_0.index t 0 * 3720 + 1 * (y 0).val = (y 0).val; rw [h]; omega

/-- The table of the head that point `n` works on. -/
def tabAt (c : Dev nD) (n : ℕ) : Vec F S14x64x128 .f32 := tabOf (V m c main_v1 : Vec F S3720 .f32) (n / 8)

theorem head_eq (t : Fin cfg0.N) : (grid0.coords t 0).val = t.val / 8 := by
  have ht : t.val < 64 := Nat.lt_of_lt_of_eq t.isLt N_0
  have e0 : (grid0.coords t 0).val = t.val / 8 % 8 := Pipeline.Grid.coords_val t 0 (by decide) rfl
  omega

/-- What point `t` leaves in its output block. -/
def outAt (c : Dev nD) (t : Fin cfg0.N) : Vec F S1x2048x128 .bf16 :=
  blockOut (iblk m c 1 t : Vec F S1x2048x128 .bf16) (iblk m c 2 t : Vec F S1x2048x128 .bf16) (iblk m c 3 t : Vec F S1x2048x128 .bf16) (tabAt m c t.val)

/-- Between points: the table of the head just worked on, and the generator register. -/
def PhiS (c : Dev nD) : ℕ → sProp 𝕄
  | 0 => Pipeline.ΦA spec0 c
  | n + 1 => iprop(owns (c : Thread nD τ) scTab fullShare (tabAt m c n) ∗ (∃ r, prngReg c r))

theorem PhiS_succ (c : Dev nD) (n : ℕ) : PhiS m c (n + 1) = iprop(owns (c : Thread nD τ) scTab fullShare (tabAt m c n) ∗ (∃ r, prngReg c r)) := rfl

theorem PhiS_pos (c : Dev nD) (n : ℕ) (hz : n ≠ 0) : PhiS m c n = iprop(owns (c : Thread nD τ) scTab fullShare (tabAt m c (n - 1)) ∗ (∃ r, prngReg c r)) := by
  cases n with
  | zero => exact absurd rfl hz
  | succ n => rfl

/-- At any point the scratch holds something. -/
theorem PhiS_any (c : Dev nD) (n : ℕ) : PhiS m c n ⊢ iprop(iprop((∃ d, owns (c : Thread nD τ) scTab fullShare d)) ∗ (∃ r, prngReg c r)) := by
  cases n with
  | zero => rw [show PhiS m c 0 = Pipeline.ΦA spec0 c from rfl, phi_eq]
  | succ n =>
    rw [PhiS_succ]
    iintro ⟨HS, Hg⟩
    isplitl [HS]; · iexists _; iexact HS
    iexact Hg

/-- The proof data: inputs stay at their blocks, the output is left at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point: the head's first point builds the table, the others read the one built there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from by unfold Dat.leavesExact; rw [live0 t], after0]
  rw [show (dats m 0 c).leavesExact 1 t = owns (c : Thread nD τ) (ms1 t) fullShare ((dats m 0 c).after 1 t) from by unfold Dat.leavesExact; rw [live1 t], after1]
  rw [show (dats m 0 c).leavesExact 2 t = owns (c : Thread nD τ) (ms2 t) fullShare ((dats m 0 c).after 2 t) from by unfold Dat.leavesExact; rw [live2 t], after2]
  rw [show (dats m 0 c).leavesExact 3 t = owns (c : Thread nD τ) (ms3 t) fullShare ((dats m 0 c).after 3 t) from by unfold Dat.leavesExact; rw [live3 t], after3]
  rw [show (dats m 0 c).leavesExact 4 t = owns (c : Thread nD τ) (ms4 t) fullShare ((dats m 0 c).after 4 t) from by unfold Dat.leavesExact; rw [live4 t], after4]
  rw [show (dats m 0 c).Φ t.succ = PhiS m c (t.val + 1) from by dsimp only [dats]; rfl, PhiS_succ]
  rw [show (dats m 0 c).Φ t.castSucc = PhiS m c t.val from by dsimp only [dats]; rfl]
  by_cases h0 : t.val % 8 = 0
  · refine (sep_mono_left (PhiS_any m c t.val)).trans ?_
    have hT : tabOf (iblk m c 0 t : Vec F S3720 .f32) (grid0.coords t 0).val = tabAt m c t.val := by
      rw [iblk0_eq, head_eq]; rfl
    iintro ⟨⟨HS, Hg⟩, Ho, ⟨%d0, H0⟩, ⟨%d1, H1⟩, ⟨%d2, H2⟩, ⟨%d3, H3⟩, ⟨%d4, H4⟩⟩
    iapply ((runA c (grid0.coords t) _ _ _ _ _ _ _ _ _ _ _ _ ((builds_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f4, H4⟩, HS⟩
    isplitl [HS Hg]
    · isplitl [HS]; · rw [← hT]; iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    funext y
    refine (View.read_writes_apply_of_pieces _ _ _ _ (runA_agrees c _ _ _ _ _ _ _ _ _ _ _ _ _ _ _ _ _ _) y (runA_cover c _ _ _ _ _ _ _ _ _ _ _ _ _ _ _ _ _ _ y)).trans ?_
    show blockOut _ _ _ (tabOf (iblk m c 0 t : Vec F S3720 .f32) (grid0.coords t 0).val) y = blockOut _ _ _ (tabAt m c t.val) y
    rw [hT]
  · have hz : t.val ≠ 0 := fun h => h0 (by rw [h])
    have hp : tabAt m c (t.val - 1) = tabAt m c t.val := by
      unfold tabAt; rw [show (t.val - 1) / 8 = t.val / 8 by omega]
    rw [PhiS_pos m c _ hz, hp]
    iintro ⟨⟨HS, Hg⟩, Ho, ⟨%d0, H0⟩, ⟨%d1, H1⟩, ⟨%d2, H2⟩, ⟨%d3, H3⟩, ⟨%d4, H4⟩⟩
    iapply ((runB c (grid0.coords t) _ _ _ _ _ _ _ _ _ _ _ _ (fun h => h0 ((builds_iff t).mp h)) (iblk m c 0 t) (iblk m c 1 t) (iblk m c 2 t) (iblk m c 3 t) (tabAt m c t.val)).2 Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, ⟨%f4, H4⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro
    funext y
    exact View.read_writes_apply_of_pieces _ _ _ _ (runB_agrees c _ _ _ _ _ _ _ _ _ _ _ _ _ _ _ _ _ _ _) y (runB_cover c _ _ _ _ _ _ _ _ _ _ _ _ _ _ _ _ _ _ _ y)

/-- The body table's row at point `t`'s slots is the body called there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, phi_eq]
  exact PhiS_any m c _

set_option backward.isDefEq.respectTransparency.types false in
/-- Every run ends with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: every run ends, the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.Na

end
-- ==== Proof.Na.Math.lean ====
/- The softmax over a band of 512 keys with a mask of −∞ outside a window of 128 is the softmax over the window, over the extended reals. -/
module

public import Idealize.ShloMosaic.PureOps.Ideal.Laws

@[expose] public section

noncomputable section

namespace Cert.NaMath

open Idealize.ShloMosaic
open scoped BigOperators

/-- `M` is the largest of the values `p`. -/
def IsMax {ι : Type} (p : ι → EReal) (M : EReal) : Prop := (∀ k, p k ≤ M) ∧ ∃ k, p k = M

/-- The fold of `max` from −∞ over at least one value is the largest. -/
theorem isMax_fold {n : ℕ} (hn : 0 < n) (p : Fin n → EReal) : IsMax p ((Finset.univ : Finset (Fin n)).fold max ⊥ p) := by
  have e : (Finset.univ : Finset (Fin n)).fold max ⊥ p = Finset.univ.sup p := rfl
  rw [e]
  refine ⟨fun k => Finset.le_sup (Finset.mem_univ k), ?_⟩
  obtain ⟨i, -, h⟩ := Finset.exists_mem_eq_sup Finset.univ ⟨⟨0, hn⟩, Finset.mem_univ _⟩ p
  exact ⟨i, h.symm⟩

/-- A sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes inside a sum. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- Division by a positive real is the product with its inverse. -/
theorem div_coe (x : EReal) (r : ℝ) (hr : 0 < r) : Ideal.div x (r : EReal) = x * ((r⁻¹ : ℝ) : EReal) := by
  unfold Ideal.div
  rw [if_neg (by simpa using hr.ne'), EReal.coe_inv]

/-- A value that is neither infinity is a real. -/
theorem exists_coe {x : EReal} (h : max x (-x) < ⊤) : ∃ r : ℝ, x = (r : EReal) := by
  induction x with
  | bot => simp at h
  | top => simp at h
  | coe r => exact ⟨r, rfl⟩

/-- The weighted values of a band, over the sum of the weights, are the softmax of the window's scores against its values:
    the scores outside the window are −∞ and weigh nothing. -/
theorem attend_eq {n N : ℕ} (s : Fin n → ℝ) (f : Fin n → Fin N) (hf : Function.Injective f) (p : Fin N → EReal)
    (hp : ∀ i, p (f i) = (s i : EReal)) (hm : ∀ k, k ∉ Set.range f → p k = ⊥) (v : Fin N → EReal) (M M' : EReal)
    (hM : IsMax p M) (hM' : IsMax (fun i => (s i : EReal)) M') :
    Ideal.div (∑ k, Ideal.exp (p k - M) * v k) (∑ k, Ideal.exp (p k - M))
      = ∑ i, Ideal.div (Ideal.exp ((s i : EReal) - M')) (∑ j, Ideal.exp ((s j : EReal) - M')) * v (f i) := by
  obtain ⟨h1, i0, h2⟩ := hM'
  dsimp only at h1 h2
  have hMM : M = M' := by
    refine le_antisymm ?_ ?_
    · obtain ⟨k, hk⟩ := hM.2
      rw [← hk]
      by_cases hr : k ∈ Set.range f
      · obtain ⟨i, rfl⟩ := hr; rw [hp]; exact h1 i
      · rw [hm k hr]; exact bot_le
    · rw [← h2, ← hp]; exact hM.1 _
  subst hMM
  subst h2
  have hE : ∀ i, Ideal.exp ((s i : EReal) - (s i0 : EReal)) = ((Real.exp (s i - s i0) : ℝ) : EReal) := fun i => by
    rw [← EReal.coe_sub]; rfl
  have hEf : ∀ i, Ideal.exp (p (f i) - (s i0 : EReal)) = ((Real.exp (s i - s i0) : ℝ) : EReal) := fun i => by rw [hp, hE]
  have hEm : ∀ k, k ∉ Set.range f → Ideal.exp (p k - (s i0 : EReal)) = 0 := fun k hk => by
    rw [hm k hk, EReal.bot_sub]; rfl
  rw [← Fintype.sum_of_injective f hf (fun i => ((Real.exp (s i - s i0) : ℝ) : EReal)) (fun k => Ideal.exp (p k - (s i0 : EReal))) hEm (fun i => (hEf i).symm),
    ← Fintype.sum_of_injective f hf (fun i => ((Real.exp (s i - s i0) : ℝ) : EReal) * v (f i)) (fun k => Ideal.exp (p k - (s i0 : EReal)) * v k)
      (fun k hk => by rw [hEm k hk, zero_mul]) (fun i => by rw [hEf])]
  simp only [hE]
  rw [← coe_sum]
  have hL : 0 < ∑ i, Real.exp (s i - s i0) := Finset.sum_pos (fun i _ => Real.exp_pos _) ⟨i0, Finset.mem_univ _⟩
  rw [div_coe _ _ hL, sum_mul_coe _ _ _ (inv_nonneg.2 hL.le)]
  refine Finset.sum_congr rfl fun i _ => ?_
  rw [div_coe _ _ hL, mul_right_comm]

/-- Scaling the product of a real query with a real key is scaling the query. -/
theorem score_eq {n : ℕ} (q k : Fin n → EReal) (c : ℝ) (hq : ∀ e, ∃ r : ℝ, q e = r) (hk : ∀ e, ∃ r : ℝ, k e = r) :
    ∃ r : ℝ, (∑ e, q e * k e) * (c : EReal) = r ∧ ∑ e, (q e * (c : EReal)) * k e = r := by
  choose q' hq' using hq
  choose k' hk' using hk
  refine ⟨(∑ e, q' e * k' e) * c, ?_, ?_⟩
  · simp only [hq', hk', ← EReal.coe_mul, ← coe_sum]
  · simp only [hq', hk', ← EReal.coe_mul, ← coe_sum]
    congr 1
    rw [Finset.sum_mul]
    exact Finset.sum_congr rfl fun e _ => by ring

end Cert.NaMath

end
-- ==== Proof.Na.RowVal.lean ====
/- A row's result read at one entry over the extended reals: the values weighted by the exponentials of the scores less the
   largest, over the weights' sum. -/
module

public import proofs.«01_k».proof.Proof.Na.Row
public import proofs.«01_k».proof.Proof.Na.Math
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 16384

noncomputable section

namespace Cert.Proof.Na

open Cert.KernelIdeal Cert.KernelIdeal.Gen Cert.NaMath
open Idealize.ShloMosaic Idealize.ShloMosaic.ValueIdx
open scoped BigOperators

theorem dotS_eq : dot_S64x128_S512x128_S64x512_1_1_0_0_n_n = DotDims.transposedRhs 64 128 512 := rfl
theorem dotO_eq : dot_S64x512_S512x128_S64x128_1_0_0_1_n_n = DotDims.plain 64 512 128 := rfl

/-- Position `l` of quarter `j` of the band. -/
def at4 (j : ℕ) (hj : j < 4) (l : Fin 128) : Fin 512 := ⟨128 * j + l.val, by omega⟩

/-- Every position of the band is in one quarter. -/
theorem at4_cases (Q : Fin 512 → Prop) (h : ∀ j hj l, Q (at4 j hj l)) (k : Fin 512) : Q k := by
  have e : k = at4 (k.val / 128) (by omega) ⟨k.val % 128, by omega⟩ := Fin.ext (by show k.val = 128 * (k.val / 128) + k.val % 128; omega)
  rw [e]; exact h _ _ _

/-- A sum over the band is the sum over the lanes of its four quarters. -/
theorem sum_at4 (f : Fin 512 → EReal) :
    ∑ k, f k = ∑ l, (((f (at4 0 (by omega) l) + f (at4 1 (by omega) l)) + f (at4 2 (by omega) l)) + f (at4 3 (by omega) l)) := by
  rw [Finset.sum_add_distrib, Finset.sum_add_distrib, Finset.sum_add_distrib]
  have e1 := Fin.sum_univ_add (a := 384) (b := 128) f
  have e2 := Fin.sum_univ_add (a := 256) (b := 128) (fun i : Fin 384 => f (Fin.castAdd 128 i))
  have e3 := Fin.sum_univ_add (a := 128) (b := 128) (fun i : Fin 256 => f (Fin.castAdd 128 (Fin.castAdd 128 i)))
  refine e1.trans ?_
  refine (congrArg (· + _) (e2.trans (congrArg (· + _) e3))).trans ?_
  refine congrArg (· + _) (congrArg (· + _) (congrArg (· + _) ?_))
  exact Finset.sum_congr rfl fun l _ => congrArg f (Fin.ext (by show l.val = 128 * 0 + l.val; omega))

theorem bcol64 (v : FVec Ideal S64x1 .f32) (r : Fin 64) (e : Fin 128) :
    broadcastTo S64x128 v broadcasts_S64x1_S64x128 (ix2 r e) = v (ix2 r (0 : Fin 1)) := by
  refine broadcastTo_apply v broadcasts_S64x1_S64x128 (ix2 r e) (ix2 r (0 : Fin 1)) fun ax => ?_
  match ax with
  | ⟨0, _⟩ => rfl
  | ⟨1, _⟩ => rfl

theorem ofBits_neg_inf : Ideal.ofBits .f32 4286578688#32 = ⊥ := by simp [Ideal.ofBits, Ideal.ieee]

theorem lift_eq (r : Fin 64) (k : Fin 128) : (reduces_S64x128_S64).lift (ix1 r) k = ix2 r k := by
  funext a
  match a with
  | ⟨0, _⟩ => rfl
  | ⟨1, _⟩ => rfl

variable (p0 p1 p2 p3 : FVec Ideal S64x128 .f32) (P : Fin 64 → Fin 512 → EReal)
  (h0 : ∀ c l, p0 (ix2 c l) = P c (at4 0 (by omega) l)) (h1 : ∀ c l, p1 (ix2 c l) = P c (at4 1 (by omega) l))
  (h2 : ∀ c l, p2 (ix2 c l) = P c (at4 2 (by omega) l)) (h3 : ∀ c l, p3 (ix2 c l) = P c (at4 3 (by omega) l))

include h0 h1 h2 h3

/-- The row's maximum is the largest score of the band. -/
theorem rowMax_isMax (c : Fin 64) : IsMax (P c) (rowMax (F := Ideal) p0 p1 p2 p3 (ix2 c (0 : Fin 1))) := by
  unfold rowMax
  rw [shapeCast_a_a1_apply]
  have e := Ideal.multiReduction_maximumf_single (maximumf (maximumf (maximumf p0 p1) p2) p3) 4286578688#32 reduces_S64x128_S64 (.inl rfl) rfl (ix1 c)
  rw [e]
  have eb : FloatOps.ofBits (F := Ideal) .f32 4286578688#32 = (⊥ : EReal) := ofBits_neg_inf
  rw [eb]
  have ef : (maximumf (maximumf (maximumf p0 p1) p2) p3 ∘ (reduces_S64x128_S64).lift (ix1 c))
      = fun l : Fin 128 => max (max (max (P c (at4 0 (by omega) l)) (P c (at4 1 (by omega) l))) (P c (at4 2 (by omega) l))) (P c (at4 3 (by omega) l)) := by
    have q : ∀ l : Fin 128, maximumf (maximumf (maximumf p0 p1) p2) p3 (ix2 c l)
        = max (max (max (P c (at4 0 (by omega) l)) (P c (at4 1 (by omega) l))) (P c (at4 2 (by omega) l))) (P c (at4 3 (by omega) l)) := fun l => by
      show max (max (max (p0 (ix2 c l)) (p1 (ix2 c l))) (p2 (ix2 c l))) (p3 (ix2 c l)) = _
      rw [h0, h1, h2, h3]
    funext l
    exact (congrArg (maximumf (maximumf (maximumf p0 p1) p2) p3) (lift_eq c l)).trans (q l)
  have eg : (Finset.univ : Finset (Fin (S64x128.size 1))).fold max (⊥ : EReal) (maximumf (maximumf (maximumf p0 p1) p2) p3 ∘ (reduces_S64x128_S64).lift (ix1 c))
      = (Finset.univ : Finset (Fin 128)).fold max ⊥ (fun l : Fin 128 => max (max (max (P c (at4 0 (by omega) l)) (P c (at4 1 (by omega) l))) (P c (at4 2 (by omega) l))) (P c (at4 3 (by omega) l))) := by
    rw [ef]; rfl
  rw [eg]
  obtain ⟨hu, l, hl⟩ := isMax_fold (n := 128) (by omega)
    (fun l : Fin 128 => max (max (max (P c (at4 0 (by omega) l)) (P c (at4 1 (by omega) l))) (P c (at4 2 (by omega) l))) (P c (at4 3 (by omega) l)))
  refine ⟨at4_cases _ fun j hj l => le_trans ?_ (hu l), ?_⟩
  · match j, hj with
    | 0, _ => exact le_max_of_le_left (le_max_of_le_left (le_max_left _ _))
    | 1, _ => exact le_max_of_le_left (le_max_of_le_left (le_max_right _ _))
    | 2, _ => exact le_max_of_le_left (le_max_right _ _)
    | 3, _ => exact le_max_right _ _
  · rw [← hl]
    dsimp only
    rcases max_choice (max (max (P c (at4 0 (by omega) l)) (P c (at4 1 (by omega) l))) (P c (at4 2 (by omega) l))) (P c (at4 3 (by omega) l)) with e | e <;> rw [e]
    · rcases max_choice (max (P c (at4 0 (by omega) l)) (P c (at4 1 (by omega) l))) (P c (at4 2 (by omega) l)) with e | e <;> rw [e]
      · rcases max_choice (P c (at4 0 (by omega) l)) (P c (at4 1 (by omega) l)) with e | e <;> rw [e]
        · exact ⟨_, rfl⟩
        · exact ⟨_, rfl⟩
      · exact ⟨_, rfl⟩
    · exact ⟨_, rfl⟩

/-- The row's sum is the sum over the band. -/
theorem rowSum_apply (c : Fin 64) : rowSum (F := Ideal) p0 p1 p2 p3 (ix2 c (0 : Fin 1)) = ∑ k, P c k := by
  unfold rowSum
  rw [shapeCast_a_a1_apply, sum_at4]
  refine (Ideal.multiReduction_add_single (addf (addf (addf p0 p1) p2) p3) _ reduces_S64x128_S64 (.inl rfl) rfl (ix1 c)).trans ?_
  have q : ∀ l : Fin 128, addf (addf (addf p0 p1) p2) p3 (ix2 c l)
      = ((P c (at4 0 (by omega) l) + P c (at4 1 (by omega) l)) + P c (at4 2 (by omega) l)) + P c (at4 3 (by omega) l) := fun l => by
    show ((p0 (ix2 c l) + p1 (ix2 c l)) + p2 (ix2 c l)) + p3 (ix2 c l) = _
    rw [h0, h1, h2, h3]
  exact Finset.sum_congr rfl fun l _ => (congrArg (addf (addf (addf p0 p1) p2) p3) (lift_eq c l)).trans (q l)

/-- The four quarters side by side. -/
theorem cat4_apply (c : Fin 64) (k : Fin 512) :
    concatenate S64x512 1 [⟨S64x128, p0⟩, ⟨S64x128, p1⟩, ⟨S64x128, p2⟩, ⟨S64x128, p3⟩] concatenates_S64x128_S64x128_S64x128_S64x128_S64x512_d1 (ix2 c k) = P c k := by
  refine at4_cases (fun k => concatenate S64x512 1 [⟨S64x128, p0⟩, ⟨S64x128, p1⟩, ⟨S64x128, p2⟩, ⟨S64x128, p3⟩] concatenates_S64x128_S64x128_S64x128_S64x128_S64x512_d1 (ix2 c k) = P c k) (fun j hj l => ?_) k
  have off : ∀ b : Fin S64x128.rank, b.cast (rfl : S64x128.rank = S64x512.rank) ≠ (1 : Fin S64x512.rank) →
      ((ix2 c l : S64x128.Idx) b).val = ((ix2 c (at4 j hj l) : S64x512.Idx) (b.cast rfl)).val := fun b hb => by
    match b with
    | ⟨0, _⟩ => rfl
    | ⟨1, _⟩ => exact absurd rfl hb
  match j, hj with
  | 0, _ => exact (concatenate_apply_piece (t := S64x512) 1 _ _ _ 0 (by simp) S64x128 p0 rfl rfl 0 rfl (ix2 c l) off (by rfl)).trans (h0 c l)
  | 1, _ => exact (concatenate_apply_piece (t := S64x512) 1 _ _ _ 1 (by simp) S64x128 p1 rfl rfl 128 rfl (ix2 c l) off (by rfl)).trans (h1 c l)
  | 2, _ => exact (concatenate_apply_piece (t := S64x512) 1 _ _ _ 2 (by simp) S64x128 p2 rfl rfl 256 rfl (ix2 c l) off (by rfl)).trans (h2 c l)
  | 3, _ => exact (concatenate_apply_piece (t := S64x512) 1 _ _ _ 3 (by simp) S64x128 p3 rfl rfl 384 rfl (ix2 c l) off (by rfl)).trans (h3 c l)

/-- The weighted values over the sum. -/
theorem rowOut_apply (v : Vec Ideal S1x512x128 .bf16) (c : Fin 64) (d : Fin 128) :
    rowOut (F := Ideal) p0 p1 p2 p3 v (ix3 (0 : Fin 1) c d)
      = Ideal.div (∑ k, P c k * (v (ix3 (0 : Fin 1) k d) : EReal)) (∑ k, P c k) := by
  unfold rowOut
  rw [shapeCast_ab_1ab_apply]
  simp only [truncf_apply, divf_apply, dotO_eq, matmul]
  rw [Ideal.matmul_plain_apply, bcol64, rowSum_apply p0 p1 p2 p3 P h0 h1 h2 h3]
  simp only [constant_apply, Ideal.ofBits_zero_f32, zero_add, truncf_apply]
  refine congrArg (Ideal.div · _) (Finset.sum_congr rfl fun k _ => ?_)
  rw [cat4_apply p0 p1 p2 p3 P h0 h1 h2 h3, shapeCast_1ab_ab_apply]

/-- The row's result from its scores. -/
theorem rowSoft_apply (v : Vec Ideal S1x512x128 .bf16) (c : Fin 64) (d : Fin 128) :
    ∃ M, IsMax (P c) M ∧ rowSoft (F := Ideal) p0 p1 p2 p3 v (ix3 (0 : Fin 1) c d)
      = Ideal.div (∑ k, Ideal.exp (P c k - M) * (v (ix3 (0 : Fin 1) k d) : EReal)) (∑ k, Ideal.exp (P c k - M)) := by
  refine ⟨_, rowMax_isMax p0 p1 p2 p3 P h0 h1 h2 h3 c, ?_⟩
  unfold rowSoft
  have hx : ∀ (p : FVec Ideal S64x128 .f32) (c : Fin 64) (l : Fin 128), rowExp (F := Ideal) p (rowMax p0 p1 p2 p3) (ix2 c l)
      = Ideal.exp (p (ix2 c l) - rowMax (F := Ideal) p0 p1 p2 p3 (ix2 c (0 : Fin 1))) := fun p c l => by
    unfold rowExp
    show Ideal.exp (p (ix2 c l) - broadcastTo S64x128 (rowMax p0 p1 p2 p3) broadcasts_S64x1_S64x128 (ix2 c l)) = _
    rw [bcol64]
  exact rowOut_apply _ _ _ _ (fun c k => Ideal.exp (P c k - rowMax (F := Ideal) p0 p1 p2 p3 (ix2 c (0 : Fin 1))))
    (fun c l => by rw [hx, h0]) (fun c l => by rw [hx, h1]) (fun c l => by rw [hx, h2]) (fun c l => by rw [hx, h3]) v c d

end Cert.Proof.Na

end
-- ==== Proof.Na.TabWords.lean ====
/- The words the table's entries are chosen by: the lane's half, whether its column is in a query's window, and its offset. -/
module

public import proofs.«01_k».proof.Proof.Na.Table

@[expose] public section

set_option maxRecDepth 16384

noncomputable section

namespace Cert.Proof.Na

open Cert.KernelIdeal Cert.KernelIdeal.Gen
open Idealize.ShloMosaic Idealize.ShloMosaic.ValueIdx

/-- The first column of a query's window: the column eight to the left, held inside the 64 columns. -/
def colStart (c : ℕ) : ℕ := min (c - 8) 48

/-- Whether a key's column lies in a query's window. -/
def inWin (c kc : ℕ) : Bool := colStart c ≤ kc && kc < colStart c + 16

theorem pay15_all : ∀ a : Fin 64, ∀ b : Fin 128, k0_pay15 (ix2 a b) = if 64 ≤ b.val then 1#1 else 0#1 := by decide +kernel

theorem pay16_all : ∀ a : Fin 64, ∀ b : Fin 128, k0_pay16 (ix2 a b) = if inWin a.val (b.val % 64) then 1#1 else 0#1 := by decide +kernel

theorem pay17_all : ∀ a : Fin 64, ∀ b : Fin 128, inWin a.val (b.val % 64) = true → k0_pay17 (ix2 a b) = BitVec.ofNat 32 (b.val % 64 + 15 - a.val) := by
  decide +kernel

end Cert.Proof.Na

end
-- ==== Proof.Na.TabVal.lean ====
/- The table's entries: inside a query's window of columns the bias of the key's offset, elsewhere the mask. -/
module

public import proofs.«01_k».proof.Proof.Na.TabWords

@[expose] public section

set_option maxRecDepth 16384

noncomputable section

namespace Cert.Proof.Na

open Cert.KernelIdeal Cert.KernelIdeal.Gen
open Idealize.ShloMosaic Idealize.ShloMosaic.ValueIdx

variable {F : FTy → Type} [FloatOps F] [Named F]

/-- The value a masked entry holds. -/
abbrev maskVal : Elt F .f32 := Named.named κ "mask" (4048155338#32)

/-- A chain of steps picks the bias of the entry's offset once the steps have reached it. -/
theorem chain_apply (s t : (n : ℕ) → n < 31 → Elt F .f32) (y : S64x128.Idx) (d : ℕ) (hd : d < 31) (hy : k0_pay17 y = BitVec.ofNat 32 d) :
    ∀ (n : ℕ) (h : n ≤ 31), planeChain s t n h y
      = if d < n then (if k0_pay15 y = 1#1 then t d hd else s d hd) else maskVal := by
  intro n
  induction n with
  | zero => intro h; rfl
  | succ n ih =>
    intro h
    show Scalar.select (IntOp.cmpi .eq (k0_pay17 y) (BitVec.ofNat 32 n)) (Scalar.select (k0_pay15 y) (t n _) (s n _)) (planeChain s t n _ y) = _
    rw [ih, hy]
    by_cases e : d = n
    · subst e
      rw [if_pos (Nat.lt_succ_self d), IntOp.cmpi_eq.2 rfl]
      rfl
    · have ne : BitVec.ofNat 32 d ≠ BitVec.ofNat 32 n := fun h' => e (by
        have := congrArg BitVec.toNat h'
        simp only [BitVec.toNat_ofNat] at this
        rwa [Nat.mod_eq_of_lt (by omega), Nat.mod_eq_of_lt (by omega)] at this)
      have hz : IntOp.cmpi .eq (BitVec.ofNat 32 d) (BitVec.ofNat 32 n) ≠ 1#1 := fun h' => ne (IntOp.cmpi_eq.1 h')
      have hs : ∀ a b : Elt F .f32, Scalar.select (IntOp.cmpi .eq (BitVec.ofNat 32 d) (BitVec.ofNat 32 n)) a b = b := fun a b => if_neg hz
      rw [hs]
      by_cases h1 : d < n
      · have h2 : d < n + 1 := by omega
        rw [if_pos h1, if_pos h2]
      · have h2 : ¬d < n + 1 := by omega
        rw [if_neg h1, if_neg h2]

/-- The table's entry for query column `a` at lane `b`: inside the window the bias of the lane's row and column offset, elsewhere the mask. -/
theorem tabOf_apply (x0 : Vec F S3720 .f32) (h : ℕ) (d : Fin 14) (a : Fin 64) (b : Fin 128) :
    tabOf x0 h (ix3 d a b) = if inWin a.val (b.val % 64) then bias x0 h (d.val + b.val / 64) (b.val % 64 + 15 - a.val) else maskVal := by
  unfold tabOf
  show plane (fun n _ => bias x0 h d.val n) (fun n _ => bias x0 h (d.val + 1) n) (ix2 a b) = _
  unfold plane
  show Scalar.select (k0_pay16 (ix2 a b)) _ _ = _
  rw [pay16_all]
  by_cases w : inWin a.val (b.val % 64) = true
  · rw [if_pos w, if_pos w]
    have hw := w
    unfold inWin colStart at hw
    simp only [Bool.and_eq_true, decide_eq_true_eq] at hw
    have hd : b.val % 64 + 15 - a.val < 31 := by omega
    refine Eq.trans (if_pos rfl) ?_
    rw [chain_apply _ _ _ _ hd (pay17_all a b w), if_pos hd, pay15_all]
    by_cases hb : 64 ≤ b.val
    · rw [if_pos hb, if_pos rfl, (by omega : b.val / 64 = 1)]
    · rw [if_neg hb, if_neg (by decide), (by omega : b.val / 64 = 0)]
      rfl
  · rw [if_neg w, if_neg w]
    exact if_neg (by decide)

end Cert.Proof.Na

end
-- ==== Proof.Na.BlockVal.lean ====
/- A point's output block read at one entry over the extended reals. -/
module

public import proofs.«01_k».proof.Proof.Na.RowVal
public import proofs.«01_k».proof.Proof.Na.TabVal

@[expose] public section

set_option maxRecDepth 16384

noncomputable section

namespace Cert.Proof.Na

open Cert.KernelIdeal Cert.KernelIdeal.Gen Cert.NaMath
open Idealize.ShloMosaic Idealize.ShloMosaic.ValueIdx
open scoped BigOperators

/-- The scale of the scores. -/
def scale : EReal := Ideal.ofBits .f32 0x3DB504F3#32

/-- The mask is −∞. -/
theorem mask_eq : maskVal (F := Ideal) = (⊥ : EReal) := IdealRules.named_const.ideal_named_scalar _ _ _ _ rfl

/-- One quarter's scores. -/
theorem quarter_apply (q : Vec Ideal S1x64x128 .bf16) (k : Vec Ideal S1x512x128 .bf16) (t : Vec Ideal S1x64x128 .f32) (j : ℕ) (hj : j < 4)
    (off : Fin 2 → ℕ) (h : S64x512.Slices off S64x128) (e0 : off 0 = 0) (e1 : off 1 = 128 * j) (c : Fin 64) (l : Fin 128) :
    quarter (F := Ideal) (products q k) off h t (ix2 c l)
      = (∑ e : Fin 128, (q (ix3 (0 : Fin 1) c e) : EReal) * k (ix3 (0 : Fin 1) (at4 j hj l) e)) * scale + t (ix3 (0 : Fin 1) c l) := by
  unfold quarter products
  simp only [addf_apply, mulf_apply, dotS_eq, matmul]
  rw [shapeCast_1ab_ab_apply,
    extractStridedSlice_apply off _ h (ix2 c l) (ix2 c (at4 j hj l)) (fun a => by
      match a with
      | ⟨0, _⟩ => show c.val = off 0 + c.val; rw [e0]; omega
      | ⟨1, _⟩ => show 128 * j + l.val = off 1 + l.val; rw [e1]),
    Ideal.matmul_transposedRhs_apply]
  simp only [constant_apply, Ideal.ofBits_zero_f32, zero_add]
  refine congrArg₂ (· + ·) (congrArg₂ (· * ·) (Finset.sum_congr rfl fun e _ => ?_) rfl) rfl
  rw [shapeCast_1ab_ab_apply, shapeCast_1ab_ab_apply]

/-- The score of query `(r, c)` against key `k` of its band: the scaled product plus the bias inside the window, −∞ outside it. -/
def bandScore (x0 : Vec Ideal S3720 .f32) (h : ℕ) (x1 x2 : Vec Ideal S1x2048x128 .bf16) (r : Fin 32) (c : Fin 64) (k : Fin 512) : EReal :=
  (∑ e : Fin 128, (x1 (ix3 (0 : Fin 1) (⟨64 * r.val + c.val, by omega⟩ : Fin 2048) e) : EReal)
      * x2 (ix3 (0 : Fin 1) (⟨64 * band r.val + k.val, by have := band_le r.val; omega⟩ : Fin 2048) e)) * scale
    + (if inWin c.val (k.val % 64) then (bias x0 h (band r.val + 7 - r.val + k.val / 64) (k.val % 64 + 15 - c.val) : EReal) else ⊥)

/-- The table's plane a row's quarter reads. -/
theorem plane_apply (x0 : Vec Ideal S3720 .f32) (h : ℕ) (r : Fin 32) (j : ℕ) (hj : j < 4) (c : Fin 64) (l : Fin 128) :
    VecWindow.window (tabOf (F := Ideal) x0 h) ![band r.val + 7 - r.val + 2 * j, 0, 0] S1x64x128.size (inbT r.val j r.isLt hj) (ix3 (0 : Fin 1) c l)
      = (if inWin c.val ((at4 j hj l).val % 64) then (bias x0 h (band r.val + 7 - r.val + (at4 j hj l).val / 64) ((at4 j hj l).val % 64 + 15 - c.val) : EReal) else ⊥) := by
  have hb := band_diff r.isLt
  have e : VecWindow.window (tabOf (F := Ideal) x0 h) ![band r.val + 7 - r.val + 2 * j, 0, 0] S1x64x128.size (inbT r.val j r.isLt hj) (ix3 (0 : Fin 1) c l)
      = tabOf (F := Ideal) x0 h (ix3 (⟨band r.val + 7 - r.val + 2 * j, by omega⟩ : Fin 14) c l) := by
    unfold VecWindow.window
    congr 1
    funext a
    apply Fin.ext
    match a with
    | ⟨0, _⟩ => show band r.val + 7 - r.val + 2 * j + 1 * 0 = band r.val + 7 - r.val + 2 * j; omega
    | ⟨1, _⟩ => show 0 + 1 * c.val = c.val; omega
    | ⟨2, _⟩ => show 0 + 1 * l.val = l.val; omega
  rw [e, tabOf_apply, mask_eq]
  have e1 : (at4 j hj l).val % 64 = l.val % 64 := by show (128 * j + l.val) % 64 = _; omega
  have e2 : band r.val + 7 - r.val + (at4 j hj l).val / 64 = band r.val + 7 - r.val + 2 * j + l.val / 64 := by
    show _ + (128 * j + l.val) / 64 = _; omega
  rw [e1, e2]

/-- The block at query `(r, c)` and entry `d`. -/
theorem blockOut_apply (x0 : Vec Ideal S3720 .f32) (h : ℕ) (x1 x2 x3 : Vec Ideal S1x2048x128 .bf16) (r : Fin 32) (c : Fin 64) (d : Fin 128) :
    ∃ M, IsMax (bandScore x0 h x1 x2 r c) M
      ∧ blockOut (F := Ideal) x1 x2 x3 (tabOf x0 h) (ix3 (0 : Fin 1) (⟨64 * r.val + c.val, by omega⟩ : Fin 2048) d)
        = Ideal.div (∑ k : Fin 512, Ideal.exp (bandScore x0 h x1 x2 r c k - M)
              * (x3 (ix3 (0 : Fin 1) (⟨64 * band r.val + k.val, by have := band_le r.val; omega⟩ : Fin 2048) d) : EReal))
            (∑ k : Fin 512, Ideal.exp (bandScore x0 h x1 x2 r c k - M)) := by
  have er : (64 * r.val + c.val) / 64 = r.val := by omega
  have ec : (64 * r.val + c.val) % 64 = c.val := by omega
  have key : ∀ (r' : ℕ) (hr' : r' < 32) (c' : Fin 64), r' = r.val → c' = c →
      rowAt (F := Ideal) x1 x2 x3 (tabOf x0 h) r' hr' (ix3 (0 : Fin 1) c' d) = rowAt (F := Ideal) x1 x2 x3 (tabOf x0 h) r.val r.isLt (ix3 (0 : Fin 1) c d) := by
    rintro r' hr' c' rfl rfl; rfl
  have e0 : blockOut (F := Ideal) x1 x2 x3 (tabOf x0 h) (ix3 (0 : Fin 1) (⟨64 * r.val + c.val, by omega⟩ : Fin 2048) d)
      = rowAt (F := Ideal) x1 x2 x3 (tabOf x0 h) r.val r.isLt (ix3 (0 : Fin 1) c d) := key _ _ _ er (Fin.ext ec)
  rw [e0]
  unfold rowAt rowPay
  have hq : ∀ (j : ℕ) (hj : j < 4) (off : Fin 2 → ℕ) (hs : S64x512.Slices off S64x128) (_ : off 0 = 0) (_ : off 1 = 128 * j) (c : Fin 64) (l : Fin 128),
      quarter (F := Ideal) (products (VecWindow.window x1 ![0, 64 * r.val, 0] S1x64x128.size (inbQ r.val r.isLt)) (VecWindow.window x2 ![0, 64 * band r.val, 0] S1x512x128.size (inbK r.val)))
        off hs (VecWindow.window (tabOf x0 h) ![band r.val + 7 - r.val + 2 * j, 0, 0] S1x64x128.size (inbT r.val j r.isLt hj)) (ix2 c l)
        = bandScore x0 h x1 x2 r c (at4 j hj l) := fun j hj off hs o0 o1 c l => by
    rw [quarter_apply _ _ _ j hj off hs o0 o1, plane_apply]
    unfold bandScore
    refine congrArg (· + _) (congrArg (· * _) (Finset.sum_congr rfl fun e _ => congrArg₂ (· * ·) (congrArg x1 (funext fun a => Fin.ext ?_)) (congrArg x2 (funext fun a => Fin.ext ?_))))
    · match a with
      | ⟨0, _⟩ => rfl
      | ⟨1, _⟩ => show 64 * r.val + 1 * c.val = 64 * r.val + c.val; omega
      | ⟨2, _⟩ => show 0 + 1 * e.val = e.val; omega
    · match a with
      | ⟨0, _⟩ => rfl
      | ⟨1, _⟩ => show 64 * band r.val + 1 * (at4 j hj l).val = 64 * band r.val + (at4 j hj l).val; omega
      | ⟨2, _⟩ => show 0 + 1 * e.val = e.val; omega
  obtain ⟨M, hM, hv⟩ := rowSoft_apply _ _ _ _ (fun c k => bandScore x0 h x1 x2 r c k)
    (hq 0 (by omega) ![0, 0] slices_S64x512_o0_0_S64x128 rfl rfl) (hq 1 (by omega) ![0, 128] slices_S64x512_o0_128_S64x128 rfl rfl)
    (hq 2 (by omega) ![0, 256] slices_S64x512_o0_256_S64x128 rfl rfl) (hq 3 (by omega) ![0, 384] slices_S64x512_o0_384_S64x128 rfl rfl)
    (VecWindow.window x3 ![0, 64 * band r.val, 0] S1x512x128.size (inbK r.val)) c d
  refine ⟨M, hM, hv.trans ?_⟩
  refine congrArg (Ideal.div · _) (Finset.sum_congr rfl fun k _ => congrArg (_ * ·) (congrArg x3 (funext fun a => Fin.ext ?_)))
  match a with
  | ⟨0, _⟩ => rfl
  | ⟨1, _⟩ => show 64 * band r.val + 1 * k.val = 64 * band r.val + k.val; omega
  | ⟨2, _⟩ => show 0 + 1 * d.val = d.val; omega

end Cert.Proof.Na

end
-- ==== Proof.Na.RefWords.lean ====
/- The reference's index words: the rows and columns of a query's window, and the offsets its biases are found at. -/
module

public import proofs.«01_k».proof.Proof.Gen.ReferenceIdeal.Read
public import Idealize.ShloMosaic.Lib.ValueIdx

@[expose] public section

set_option maxRecDepth 16384

noncomputable section

namespace Cert.NaRef

open Cert.ReferenceIdeal Cert.ReferenceIdeal.Read Idealize.ShloMosaic Idealize.ShloMosaic.ValueIdx

/-- The first row of the window of row `r`. -/
def rowStart (r : ℕ) : ℕ := min (r - 4) 24
/-- The first column of the window of column `c`. -/
def colStart (c : ℕ) : ℕ := min (c - 8) 48

theorem rowStart_le (r : ℕ) : rowStart r ≤ 24 := by unfold rowStart; omega
theorem colStart_le (c : ℕ) : colStart c ≤ 48 := by unfold colStart; omega

theorem w45 : ∀ (r : Fin 32) (i : Fin 8), (val_main_v45 (F := Ideal) : IVec S32x8x1 32) (ix3 r i (0 : Fin 1)) = BitVec.ofNat 32 (rowStart r.val + i.val) := by decide +kernel
theorem w59 : ∀ (r : Fin 32) (i : Fin 8), (val_main_v59 (F := Ideal) : IVec S32x8x1 32) (ix3 r i (0 : Fin 1)) = BitVec.ofNat 32 (rowStart r.val + i.val) := by decide +kernel
theorem w52 : ∀ (c : Fin 64) (w : Fin 16), (val_main_v52 (F := Ideal) : IVec S64x16x1 32) (ix3 c w (0 : Fin 1)) = BitVec.ofNat 32 (colStart c.val + w.val) := by decide +kernel
theorem w66 : ∀ (c : Fin 64) (w : Fin 16), (val_main_v66 (F := Ideal) : IVec S64x16x1 32) (ix3 c w (0 : Fin 1)) = BitVec.ofNat 32 (colStart c.val + w.val) := by decide +kernel
theorem w74 : ∀ (r : Fin 32) (i : Fin 8), (val_main_v74 (F := Ideal) : IVec S32x1x8x1 32) (ix4 r (0 : Fin 1) i (0 : Fin 1)) = BitVec.ofNat 32 (rowStart r.val + i.val + 7 - r.val) := by decide +kernel
theorem w79 : ∀ (c : Fin 64) (w : Fin 16), (val_main_v79 (F := Ideal) : IVec S1x64x1x16 32) (ix4 (0 : Fin 1) c (0 : Fin 1) w) = BitVec.ofNat 32 (colStart c.val + w.val + 15 - c.val) := by decide +kernel

end Cert.NaRef

end
-- ==== Proof.Na.RefGather.lean ====
/- The reference's gathers read at one entry: the keys and values of a query's window, and its biases. -/
module

public import proofs.«01_k».proof.Proof.Na.RefWords
public import Idealize.ShloMosaic.Lib.ValueIdxRank6
public import Idealize.ShloMosaic.Lib.Pipeline.Value
public import Idealize.ShloMosaic.Lib.ValueLayoutCasts

@[expose] public section

set_option maxRecDepth 16384

noncomputable section

namespace Cert.NaRef

open Cert.ReferenceIdeal Cert.ReferenceIdeal.Gen Cert.ReferenceIdeal.Read Idealize.ShloMosaic Idealize.ShloMosaic.ValueIdx

/-- A rank-7 index from its coordinates. -/
abbrev ix7 {n0 n1 n2 n3 n4 n5 n6 : Nat} (a : Fin n0) (b : Fin n1) (c : Fin n2) (d : Fin n3) (e : Fin n4) (f : Fin n5) (g : Fin n6) :
    (⟨7, ![n0, n1, n2, n3, n4, n5, n6]⟩ : Shape).Idx :=
  fun q => match q with | ⟨0, _⟩ => a | ⟨1, _⟩ => b | ⟨2, _⟩ => c | ⟨3, _⟩ => d | ⟨4, _⟩ => e | ⟨5, _⟩ => f | ⟨6, _⟩ => g

/-- A small word read signed is its number. -/
theorem toInt_ofNat (n : ℕ) (h : n < 1000) : (BitVec.ofNat 32 n).toInt.toNat = n := by
  rw [BitVec.toInt_eq_toNat_of_lt (by rw [BitVec.toNat_ofNat, Nat.mod_eq_of_lt (by omega)]; omega), BitVec.toNat_ofNat, Nat.mod_eq_of_lt (by omega)]
  rfl

variable {α : Type}

/-- The gather of rows. -/
theorem gatherRow (x : S8x32x64x8x128.Idx → α) (idx : IVec S32x8x1 32) (R : ℕ) (hR : R < 32) (b : Fin 8) (r : Fin 32) (i : Fin 8) (c : Fin 64) (h : Fin 8) (e : Fin 128)
    (hi : idx (ix3 r i (0 : Fin 1)) = BitVec.ofNat 32 R) :
    Host.gather gather_S8x32x64x8x128_S32x8x1_S8x32x8x64x8x128_0345_1_n_n_1_2_81648128 x idx (ix6 b r i c h e) = x (ix5 b (⟨R, hR⟩ : Fin 32) c h e) := by
  unfold Host.gather
  refine congrArg x (funext fun a => Fin.ext ?_)
  match a with
  | ⟨0, _⟩ => show 0 + 0 + b.val = b.val; omega
  | ⟨1, _⟩ =>
    show min (idx _).toInt.toNat 31 + 0 + 0 = R
    have e0 : gather_S8x32x64x8x128_S32x8x1_S8x32x8x64x8x128_0345_1_n_n_1_2_81648128.siIdx (ix6 b r i c h e) ⟨0, by decide⟩ = ix3 r i (0 : Fin 1) := by
      funext q
      match q with
      | ⟨0, _⟩ => rfl
      | ⟨1, _⟩ => rfl
      | ⟨2, _⟩ => rfl
    have e1 : (idx (gather_S8x32x64x8x128_S32x8x1_S8x32x8x64x8x128_0345_1_n_n_1_2_81648128.siIdx (ix6 b r i c h e) ⟨0, by decide⟩)).toInt.toNat = R := by
      rw [e0, hi, toInt_ofNat R (by omega)]
    exact (congrArg (fun z => min z 31 + 0 + 0) e1).trans (by omega)
  | ⟨2, _⟩ => show 0 + 0 + c.val = c.val; omega
  | ⟨3, _⟩ => show 0 + 0 + h.val = h.val; omega
  | ⟨4, _⟩ => show 0 + 0 + e.val = e.val; omega

/-- The gather of columns. -/
theorem gatherCol (x : S8x32x8x64x8x128.Idx → α) (idx : IVec S64x16x1 32) (C : ℕ) (hC : C < 64) (b : Fin 8) (r : Fin 32) (i : Fin 8) (c : Fin 64) (w : Fin 16) (h : Fin 8) (e : Fin 128)
    (hi : idx (ix3 c w (0 : Fin 1)) = BitVec.ofNat 32 C) :
    Host.gather gather_S8x32x8x64x8x128_S64x16x1_S8x32x8x64x16x8x128_01256_3_n_n_3_2_832818128 x idx (ix7 b r i c w h e) = x (ix6 b r i (⟨C, hC⟩ : Fin 64) h e) := by
  unfold Host.gather
  refine congrArg x (funext fun a => Fin.ext ?_)
  match a with
  | ⟨0, _⟩ => show 0 + 0 + b.val = b.val; omega
  | ⟨1, _⟩ => show 0 + 0 + r.val = r.val; omega
  | ⟨2, _⟩ => show 0 + 0 + i.val = i.val; omega
  | ⟨3, _⟩ =>
    show min (idx _).toInt.toNat 63 + 0 + 0 = C
    have e0 : gather_S8x32x8x64x8x128_S64x16x1_S8x32x8x64x16x8x128_01256_3_n_n_3_2_832818128.siIdx (ix7 b r i c w h e) ⟨0, by decide⟩ = ix3 c w (0 : Fin 1) := by
      funext q
      match q with
      | ⟨0, _⟩ => rfl
      | ⟨1, _⟩ => rfl
      | ⟨2, _⟩ => rfl
    have e1 : (idx (gather_S8x32x8x64x8x128_S64x16x1_S8x32x8x64x16x8x128_01256_3_n_n_3_2_832818128.siIdx (ix7 b r i c w h e) ⟨0, by decide⟩)).toInt.toNat = C := by
      rw [e0, hi, toInt_ofNat C (by omega)]
    exact (congrArg (fun z => min z 63 + 0 + 0) e1).trans (by omega)
  | ⟨4, _⟩ => show 0 + 0 + h.val = h.val; omega
  | ⟨5, _⟩ => show 0 + 0 + e.val = e.val; omega

/-- The gather of biases. -/
theorem gatherBias (x : S8x15x31.Idx → α) (idx : IVec S32x64x8x16x2 32) (A B : ℕ) (hA : A < 15) (hB : B < 31) (h : Fin 8) (r : Fin 32) (c : Fin 64) (i : Fin 8) (w : Fin 16)
    (h0 : idx (ix5 r c i w (0 : Fin 2)) = BitVec.ofNat 32 A) (h1 : idx (ix5 r c i w (1 : Fin 2)) = BitVec.ofNat 32 B) :
    Host.gather gather_S8x15x31_S32x64x8x16x2_S8x32x64x8x16_0_12_n_n_12_4_811 x idx (ix5 h r c i w) = x (ix3 h (⟨A, hA⟩ : Fin 15) (⟨B, hB⟩ : Fin 31)) := by
  unfold Host.gather
  refine congrArg x (funext fun a => Fin.ext ?_)
  match a with
  | ⟨0, _⟩ => show 0 + 0 + h.val = h.val; omega
  | ⟨1, _⟩ =>
    show min (idx _).toInt.toNat 14 + 0 + 0 = A
    have e0 : gather_S8x15x31_S32x64x8x16x2_S8x32x64x8x16_0_12_n_n_12_4_811.siIdx (ix5 h r c i w) ⟨0, by decide⟩ = ix5 r c i w (0 : Fin 2) := by
      funext q
      match q with
      | ⟨0, _⟩ => rfl
      | ⟨1, _⟩ => rfl
      | ⟨2, _⟩ => rfl
      | ⟨3, _⟩ => rfl
      | ⟨4, _⟩ => rfl
    have e1 : (idx (gather_S8x15x31_S32x64x8x16x2_S8x32x64x8x16_0_12_n_n_12_4_811.siIdx (ix5 h r c i w) ⟨0, by decide⟩)).toInt.toNat = A := by
      rw [e0, h0, toInt_ofNat A (by omega)]
    exact (congrArg (fun z => min z 14 + 0 + 0) e1).trans (by omega)
  | ⟨2, _⟩ =>
    show min (idx _).toInt.toNat 30 + 0 + 0 = B
    have e0 : gather_S8x15x31_S32x64x8x16x2_S8x32x64x8x16_0_12_n_n_12_4_811.siIdx (ix5 h r c i w) ⟨1, by decide⟩ = ix5 r c i w (1 : Fin 2) := by
      funext q
      match q with
      | ⟨0, _⟩ => rfl
      | ⟨1, _⟩ => rfl
      | ⟨2, _⟩ => rfl
      | ⟨3, _⟩ => rfl
      | ⟨4, _⟩ => rfl
    have e1 : (idx (gather_S8x15x31_S32x64x8x16x2_S8x32x64x8x16_0_12_n_n_12_4_811.siIdx (ix5 h r c i w) ⟨1, by decide⟩)).toInt.toNat = B := by
      rw [e0, h1, toInt_ofNat B (by omega)]
    exact (congrArg (fun z => min z 30 + 0 + 0) e1).trans (by omega)

end Cert.NaRef

end
-- ==== Proof.Na.RefVal.lean ====
/- The reference's attention read at one entry over the extended reals: the softmax of a window's scores against its values. -/
module

public import proofs.«01_k».proof.Proof.Na.RefGather
public import proofs.«01_k».proof.Proof.Na.Math
public import Idealize.ShloMosaic.Lib.TwoAxisContraction
public import Idealize.ShloMosaic.Lib.KernelVsHost

@[expose] public section

set_option maxRecDepth 16384

noncomputable section

namespace Cert.NaRef

open Cert.ReferenceIdeal Cert.ReferenceIdeal.Gen Cert.ReferenceIdeal.Read Cert.NaMath Idealize.ShloMosaic Idealize.ShloMosaic.ValueIdx
open scoped BigOperators

/-- The scale of the scores. -/
def scale : EReal := Ideal.ofBits .f32 0x3DB504F3#32

/-- Channel `off + 128 h + e` of the projection at position `(R, C)` of batch `b`. -/
def chan (x0 : FVec Ideal S8x2048x7168 .bf16) (off : ℕ) (hoff : off ≤ 2048) (b : Fin 8) (h : Fin 8) (R : Fin 32) (C : Fin 64) (e : Fin 128) : EReal :=
  x0 (ix3 b (⟨64 * R.val + C.val, by omega⟩ : Fin 2048) (⟨off + (128 * h.val + e.val), by omega⟩ : Fin 7168))

/-- Row `i` of the window of row `r`. -/
def wRow (r : Fin 32) (i : Fin 8) : Fin 32 := ⟨rowStart r.val + i.val, by have := rowStart_le r.val; omega⟩
/-- Column `w` of the window of column `c`. -/
def wCol (c : Fin 64) (w : Fin 16) : Fin 64 := ⟨colStart c.val + w.val, by have := colStart_le c.val; omega⟩

/-- The score of the query at `(r, c)` against the key at `(i, w)` of its window. -/
def score (x0 : FVec Ideal S8x2048x7168 .bf16) (x1 : FVec Ideal S1x8x15x31 .f32) (b h : Fin 8) (r : Fin 32) (c : Fin 64) (i : Fin 8) (w : Fin 16) : EReal :=
  (∑ e : Fin 128, (chan x0 0 (by omega) b h r c e * scale) * chan x0 1024 (by omega) b h (wRow r i) (wCol c w) e)
    + x1 (ix4 (0 : Fin 1) h (⟨rowStart r.val + i.val + 7 - r.val, by have := r.isLt; unfold rowStart; omega⟩ : Fin 15)
        (⟨colStart c.val + w.val + 15 - c.val, by have := c.isLt; unfold colStart; omega⟩ : Fin 31))

section
variable (x0 : FVec Ideal S8x2048x7168 .bf16) (x1 : FVec Ideal S1x8x15x31 .f32)

/-- The split of positions into rows and columns and of channels into heads. -/
theorem split_apply {α : Type} (y : S8x2048x1024.Idx → α) (b : Fin 8) (R : Fin 32) (C : Fin 64) (h : Fin 8) (e : Fin 128) :
    shapeCast S8x32x64x8x128 y shapeCasts_S8x2048x1024_S8x32x64x8x128 (ix5 b R C h e)
      = y (ix3 b (⟨64 * R.val + C.val, by omega⟩ : Fin 2048) (⟨128 * h.val + e.val, by omega⟩ : Fin 1024)) :=
  shapeCast_apply y _ _ _ (by
    rw [Shape.rowMajor_val_three, Shape.rowMajor_val_five]
    show (b.val * 2048 + (64 * R.val + C.val)) * 1024 + (128 * h.val + e.val) = (((b.val * 32 + R.val) * 64 + C.val) * 8 + h.val) * 128 + e.val
    omega)

theorem v4_at (b : Fin 8) (R : Fin 32) (C : Fin 64) (h : Fin 8) (e : Fin 128) :
    (val_main_v4 (F := Ideal) x0 (ix5 b R C h e) : EReal) = chan x0 0 (by omega) b h R C e * scale := by
  unfold val_main_v4
  rw [split_apply, val_main_v3_apply, val_main_v1_apply, val_main_v2_apply]
  refine congrArg₂ (· * ·) (congrArg x0 (funext fun a => Fin.ext ?_)) rfl
  match a with
  | ⟨0, _⟩ => rfl
  | ⟨1, _⟩ => rfl
  | ⟨2, _⟩ => exact (Nat.zero_add _).symm

theorem v6_at (b : Fin 8) (R : Fin 32) (C : Fin 64) (h : Fin 8) (e : Fin 128) :
    (val_main_v6 (F := Ideal) x0 (ix5 b R C h e) : EReal) = chan x0 1024 (by omega) b h R C e := by
  unfold val_main_v6
  rw [split_apply, val_main_v5_apply]
  refine congrArg x0 (funext fun a => Fin.ext ?_)
  match a with
  | ⟨0, _⟩ => rfl
  | ⟨1, _⟩ => rfl
  | ⟨2, _⟩ => first | rfl | exact Nat.add_comm _ _

theorem v8_at (b : Fin 8) (R : Fin 32) (C : Fin 64) (h : Fin 8) (e : Fin 128) :
    (val_main_v8 (F := Ideal) x0 (ix5 b R C h e) : EReal) = chan x0 2048 (by omega) b h R C e := by
  unfold val_main_v8
  rw [split_apply, val_main_v7_apply]
  refine congrArg x0 (funext fun a => Fin.ext ?_)
  match a with
  | ⟨0, _⟩ => rfl
  | ⟨1, _⟩ => rfl
  | ⟨2, _⟩ => first | rfl | exact Nat.add_comm _ _

/-- The keys of a query's window. -/
theorem v53_at (b : Fin 8) (r : Fin 32) (i : Fin 8) (c : Fin 64) (w : Fin 16) (h : Fin 8) (e : Fin 128) :
    (val_main_v53 (F := Ideal) x0 (ix7 b r i c w h e) : EReal) = chan x0 1024 (by omega) b h (wRow r i) (wCol c w) e := by
  unfold val_main_v53
  refine (gatherCol _ _ (colStart c.val + w.val) (wCol c w).isLt b r i c w h e (w52 c w)).trans ?_
  unfold val_main_v46
  refine (gatherRow _ _ (rowStart r.val + i.val) (wRow r i).isLt b r i (wCol c w) h e (w45 r i)).trans ?_
  exact v6_at x0 b (wRow r i) (wCol c w) h e

/-- The values of a query's window. -/
theorem v67_at (b : Fin 8) (r : Fin 32) (i : Fin 8) (c : Fin 64) (w : Fin 16) (h : Fin 8) (e : Fin 128) :
    (val_main_v67 (F := Ideal) x0 (ix7 b r i c w h e) : EReal) = chan x0 2048 (by omega) b h (wRow r i) (wCol c w) e := by
  unfold val_main_v67
  refine (gatherCol _ _ (colStart c.val + w.val) (wCol c w).isLt b r i c w h e (w66 c w)).trans ?_
  unfold val_main_v60
  refine (gatherRow _ _ (rowStart r.val + i.val) (wRow r i).isLt b r i (wCol c w) h e (w59 r i)).trans ?_
  exact v8_at x0 b (wRow r i) (wCol c w) h e

theorem v84_0 (r : Fin 32) (c : Fin 64) (i : Fin 8) (w : Fin 16) :
    (val_main_v84 (F := Ideal) : IVec S32x64x8x16x2 32) (ix5 r c i w (0 : Fin 2)) = BitVec.ofNat 32 (rowStart r.val + i.val + 7 - r.val) := by
  unfold val_main_v84
  refine (concatenate_pair_apply_left (t := S32x64x8x16x2) (s₁ := S32x64x8x16x1) (s₂ := S32x64x8x16x1) 4 _ _ _ _ rfl (ix5 r c i w (0 : Fin 1)) fun a => ?_).trans ?_
  · match a with
    | ⟨0, _⟩ => rfl
    | ⟨1, _⟩ => rfl
    | ⟨2, _⟩ => rfl
    | ⟨3, _⟩ => rfl
    | ⟨4, _⟩ => rfl
  · refine (val_main_v82_apply (F := Ideal) _).trans ((val_main_v80_apply (F := Ideal) _).trans (Eq.trans (congrArg _ ?_) (w74 r i)))
    funext a
    match a with
    | ⟨0, _⟩ => rfl
    | ⟨1, _⟩ => rfl
    | ⟨2, _⟩ => rfl
    | ⟨3, _⟩ => rfl

theorem v84_1 (r : Fin 32) (c : Fin 64) (i : Fin 8) (w : Fin 16) :
    (val_main_v84 (F := Ideal) : IVec S32x64x8x16x2 32) (ix5 r c i w (1 : Fin 2)) = BitVec.ofNat 32 (colStart c.val + w.val + 15 - c.val) := by
  unfold val_main_v84
  refine (concatenate_pair_apply_right (t := S32x64x8x16x2) (s₁ := S32x64x8x16x1) (s₂ := S32x64x8x16x1) 4 _ _ _ _ rfl rfl (ix5 r c i w (0 : Fin 1)) (fun a ha => ?_) rfl).trans ?_
  · match a with
    | ⟨0, _⟩ => rfl
    | ⟨1, _⟩ => rfl
    | ⟨2, _⟩ => rfl
    | ⟨3, _⟩ => rfl
    | ⟨4, _⟩ => exact absurd rfl ha
  · refine (val_main_v83_apply (F := Ideal) _).trans ((val_main_v81_apply (F := Ideal) _).trans (Eq.trans (congrArg _ ?_) (w79 c w)))
    funext a
    match a with
    | ⟨0, _⟩ => rfl
    | ⟨1, _⟩ => rfl
    | ⟨2, _⟩ => rfl
    | ⟨3, _⟩ => rfl

/-- The biases of a query's window. -/
theorem v88_at (b h : Fin 8) (r : Fin 32) (c : Fin 64) (i : Fin 8) (w : Fin 16) :
    (val_main_v88 (F := Ideal) x1 (ix6 b h r c i w) : EReal)
      = x1 (ix4 (0 : Fin 1) h (⟨rowStart r.val + i.val + 7 - r.val, by have := r.isLt; unfold rowStart; omega⟩ : Fin 15)
        (⟨colStart c.val + w.val + 15 - c.val, by have := c.isLt; unfold colStart; omega⟩ : Fin 31)) := by
  rw [val_main_v88_apply, val_main_v87_apply]
  have e : idx_main_v87 (idx_main_v88 (ix6 b h r c i w)) = ix5 h r c i w := by
    funext a
    match a with
    | ⟨0, _⟩ => rfl
    | ⟨1, _⟩ => rfl
    | ⟨2, _⟩ => rfl
    | ⟨3, _⟩ => rfl
    | ⟨4, _⟩ => rfl
  rw [e]
  unfold val_main_v85
  refine (gatherBias _ _ (rowStart r.val + i.val + 7 - r.val) (colStart c.val + w.val + 15 - c.val) (by have := r.isLt; unfold rowStart; omega) (by have := c.isLt; unfold colStart; omega)
    h r c i w (v84_0 r c i w) (v84_1 r c i w)).trans ?_
  unfold val_main_v9
  exact shapeCast_1abc_abc_apply _ _ _ _ _

/-- The scores. -/
theorem v89_at (b h : Fin 8) (r : Fin 32) (c : Fin 64) (i : Fin 8) (w : Fin 16) :
    (val_main_v89 (F := Ideal) x0 x1 (ix6 b h r c i w) : EReal) = score x0 x1 b h r c i w := by
  rw [val_main_v89_apply, val_main_v86_apply]
  refine congrArg₂ (· + ·) (Finset.sum_congr rfl fun e _ => ?_) (v88_at x1 b h r c i w)
  refine congrArg₂ (· * ·) (Eq.trans (congrArg _ ?_) (v4_at x0 b r c h e)) (Eq.trans (congrArg _ ?_) (v53_at x0 b r i c w h e))
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl

/-- The scores of a window on one axis of 128: position `n` is row `n / 16` and column `n % 16`. -/
def lin (x0 : FVec Ideal S8x2048x7168 .bf16) (x1 : FVec Ideal S1x8x15x31 .f32) (b h : Fin 8) (r : Fin 32) (c : Fin 64) (n : Fin 128) : EReal :=
  score x0 x1 b h r c (⟨n.val / 16, by omega⟩ : Fin 8) (⟨n.val % 16, by omega⟩ : Fin 16)

theorem v90_at (b h : Fin 8) (r : Fin 32) (c : Fin 64) (n : Fin 128) :
    (val_main_v90 (F := Ideal) x0 x1 (ix5 b h r c n) : EReal) = lin x0 x1 b h r c n := by
  unfold val_main_v90
  refine (shapeCast_apply _ _ _ (ix6 b h r c (⟨n.val / 16, by omega⟩ : Fin 8) (⟨n.val % 16, by omega⟩ : Fin 16)) (by
    rw [Shape.rowMajor_val_six, Shape.rowMajor_val_five]
    show ((((b.val * 8 + h.val) * 32 + r.val) * 64 + c.val) * 8 + n.val / 16) * 16 + n.val % 16 = (((b.val * 8 + h.val) * 32 + r.val) * 64 + c.val) * 128 + n.val
    omega)).trans (v89_at x0 x1 b h r c _ _)

theorem ofBits_neg_inf : Ideal.ofBits .f32 0xFF800000#32 = ⊥ := by simp [Ideal.ofBits, Ideal.ieee]

theorem reduces5 : S8x8x32x64x128.Reduces [4] S8x8x32x64 := by decide

/-- The largest score of a window. -/
theorem v93_isMax (b h : Fin 8) (r : Fin 32) (c : Fin 64) : IsMax (lin x0 x1 b h r c) (val_main_v93 (F := Ideal) x0 x1 (ix4 b h r c)) := by
  have e1 : (val_main_v93 (F := Ideal) x0 x1 (ix4 b h r c) : EReal) = val_main_v91 (F := Ideal) x0 x1 (ix4 b h r c) := by
    rw [val_main_v93_apply, val_main_v92_apply]
    show max (Ideal.ofBits .f32 0xFF800000#32) _ = _
    rw [ofBits_neg_inf]; exact max_eq_right bot_le
  rw [e1]
  unfold val_main_v91
  have e2 := congrFun (hostReduce_maximumf_eq_multiReduction (F := Ideal) (val_main_v90 (F := Ideal) x0 x1) 0xFF800000#32 reducesTo_S8x8x32x64x128_S8x8x32x64_d4 h_S_ reduces5 (.inl rfl) rfl) (ix4 b h r c)
  have e3 := Ideal.multiReduction_maximumf_single (val_main_v90 (F := Ideal) x0 x1) 0xFF800000#32 reduces5 (.inl rfl) rfl (ix4 b h r c)
  have el : ∀ n : Fin 128, reduces5.lift (ix4 b h r c) n = ix5 b h r c n := fun n => by
    funext a
    match a with
    | ⟨0, _⟩ => rfl
    | ⟨1, _⟩ => rfl
    | ⟨2, _⟩ => rfl
    | ⟨3, _⟩ => rfl
    | ⟨4, _⟩ => rfl
  have ef : (val_main_v90 (F := Ideal) x0 x1 ∘ reduces5.lift (ix4 b h r c)) = lin x0 x1 b h r c := by
    funext n
    exact (congrArg (val_main_v90 (F := Ideal) x0 x1) (el n)).trans (v90_at x0 x1 b h r c n)
  have eb : FloatOps.ofBits (F := Ideal) .f32 0xFF800000#32 = (⊥ : EReal) := ofBits_neg_inf
  have e4 : (Host.reduce (α := Ideal .f32) (FloatOps.maximumf (F := Ideal)) (val_main_v90 (F := Ideal) x0 x1) (val_main_cst_19 (F := Ideal)) reducesTo_S8x8x32x64x128_S8x8x32x64_d4 h_S_ (ix4 b h r c) : EReal)
      = (Finset.univ : Finset (Fin 128)).fold max ⊥ (lin x0 x1 b h r c) := by
    refine (e2.trans e3).trans ?_
    rw [eb, ef]; rfl
  rw [e4]
  exact isMax_fold (by omega) _

/-- The exponentials. -/
theorem v97_at (b h : Fin 8) (r : Fin 32) (c : Fin 64) (n : Fin 128) :
    (val_main_v97 (F := Ideal) x0 x1 (ix5 b h r c n) : EReal) = Ideal.exp (lin x0 x1 b h r c n - val_main_v93 (F := Ideal) x0 x1 (ix4 b h r c)) := by
  rw [val_main_v97_apply, val_main_v96_apply, val_main_v95_apply, val_main_v94_apply]
  show Ideal.exp ((val_main_v90 (F := Ideal) x0 x1 (ix5 b h r c n) : EReal) - val_main_v93 (F := Ideal) x0 x1 _) = _
  rw [v90_at]
  refine congrArg (fun z => Ideal.exp (lin x0 x1 b h r c n - val_main_v93 (F := Ideal) x0 x1 z)) ?_
  funext a
  match a with
  | ⟨0, _⟩ => rfl
  | ⟨1, _⟩ => rfl
  | ⟨2, _⟩ => rfl
  | ⟨3, _⟩ => rfl

/-- The weights. -/
theorem v101_at (b h : Fin 8) (r : Fin 32) (c : Fin 64) (n : Fin 128) :
    (val_main_v101 (F := Ideal) x0 x1 (ix5 b h r c n) : EReal)
      = Ideal.div (Ideal.exp (lin x0 x1 b h r c n - val_main_v93 (F := Ideal) x0 x1 (ix4 b h r c)))
          (∑ k : Fin 128, Ideal.exp (lin x0 x1 b h r c k - val_main_v93 (F := Ideal) x0 x1 (ix4 b h r c))) := by
  rw [val_main_v101_apply, val_main_v100_apply, val_main_v99_apply, val_main_v98_apply]
  show Ideal.div _ (Ideal.ofBits .f32 0x00000000#32 + _) = _
  rw [v97_at, Ideal.ofBits_zero_f32, zero_add]
  refine congrArg (Ideal.div _) (Finset.sum_congr rfl fun k _ => ?_)
  refine Eq.trans (congrArg _ ?_) (v97_at x0 x1 b h r c k)
  funext a
  match a with
  | ⟨0, _⟩ => rfl
  | ⟨1, _⟩ => rfl
  | ⟨2, _⟩ => rfl
  | ⟨3, _⟩ => rfl
  | ⟨4, _⟩ => rfl

theorem v102_at (b h : Fin 8) (r : Fin 32) (c : Fin 64) (i : Fin 8) (w : Fin 16) :
    (val_main_v102 (F := Ideal) x0 x1 (ix6 b h r c i w) : EReal) = val_main_v101 (F := Ideal) x0 x1 (ix5 b h r c (⟨16 * i.val + w.val, by omega⟩ : Fin 128)) := by
  unfold val_main_v102
  exact shapeCast_apply _ _ _ _ (by
    rw [Shape.rowMajor_val_six, Shape.rowMajor_val_five]
    show (((b.val * 8 + h.val) * 32 + r.val) * 64 + c.val) * 128 + (16 * i.val + w.val) = ((((b.val * 8 + h.val) * 32 + r.val) * 64 + c.val) * 8 + i.val) * 16 + w.val
    omega)

/-- The weighted values. -/
theorem v103_at (b : Fin 8) (r : Fin 32) (c : Fin 64) (h : Fin 8) (d : Fin 128) :
    (val_main_v103 (F := Ideal) x0 x1 (ix5 b r c h d) : EReal)
      = ∑ i : Fin 8, ∑ w : Fin 16, (val_main_v102 (F := Ideal) x0 x1 (ix6 b h r c i w) : EReal) * val_main_v67 (F := Ideal) x0 (ix7 b r i c w h d) := by
  unfold val_main_v103
  generalize val_main_v102 (F := Ideal) x0 x1 = y0
  generalize val_main_v67 (F := Ideal) x0 = y1
  simp only [Host.dotGeneral]
  rw [Ideal.dotGeneral_apply, sum_contr2 dot_S8x8x32x64x8x16_S8x32x8x64x16x8x128_S8x32x64x8x128_45_24_n_6_0231_0135 8 16 rfl rfl rfl]
  refine Finset.sum_congr rfl fun i _ => Finset.sum_congr rfl fun w _ => ?_
  have h0 := contrEquiv2_symm_val0 dot_S8x8x32x64x8x16_S8x32x8x64x16x8x128_S8x32x64x8x128_45_24_n_6_0231_0135 8 16 rfl rfl rfl (i, w)
  have h1 := contrEquiv2_symm_val1 dot_S8x8x32x64x8x16_S8x32x8x64x16x8x128_S8x32x64x8x128_45_24_n_6_0231_0135 8 16 rfl rfl rfl (i, w)
  refine congrArg₂ (· * ·) (congrArg y0 (funext fun a => Fin.ext ?_)) (congrArg y1 (funext fun a => Fin.ext ?_))
  · match a with
    | ⟨0, _⟩ => rfl
    | ⟨1, _⟩ => rfl
    | ⟨2, _⟩ => rfl
    | ⟨3, _⟩ => rfl
    | ⟨4, _⟩ => exact h0
    | ⟨5, _⟩ => exact h1
  · match a with
    | ⟨0, _⟩ => rfl
    | ⟨1, _⟩ => rfl
    | ⟨2, _⟩ => exact h0
    | ⟨3, _⟩ => rfl
    | ⟨4, _⟩ => exact h1
    | ⟨5, _⟩ => rfl
    | ⟨6, _⟩ => rfl

/-- A sum over the positions of a window, by rows and columns. -/
theorem sum_window (f : Fin 128 → EReal) : ∑ i : Fin 8, ∑ w : Fin 16, f (⟨16 * i.val + w.val, by omega⟩ : Fin 128) = ∑ n : Fin 128, f n := by
  rw [← Fintype.sum_prod_type' (fun (i : Fin 8) (w : Fin 16) => f (⟨16 * i.val + w.val, by omega⟩ : Fin 128))]
  refine Fintype.sum_equiv (finProdFinEquiv (m := 8) (n := 16)) _ _ fun q => congrArg f (Fin.ext ?_)
  show 16 * q.1.val + q.2.val = q.2.val + 16 * q.1.val
  omega

/-- The value of the reference at position `(r, c)`: the softmax of its window's scores against the window's values. -/
theorem v105_at (b h : Fin 8) (r : Fin 32) (c : Fin 64) (d : Fin 128) :
    ∃ M, IsMax (lin x0 x1 b h r c) M ∧
      (val_main_v105 (F := Ideal) x0 x1 (ix3 b (⟨64 * r.val + c.val, by omega⟩ : Fin 2048) (⟨128 * h.val + d.val, by omega⟩ : Fin 1024)) : EReal)
        = ∑ n : Fin 128, Ideal.div (Ideal.exp (lin x0 x1 b h r c n - M)) (∑ k : Fin 128, Ideal.exp (lin x0 x1 b h r c k - M))
            * chan x0 2048 (by omega) b h (wRow r (⟨n.val / 16, by omega⟩ : Fin 8)) (wCol c (⟨n.val % 16, by omega⟩ : Fin 16)) d := by
  refine ⟨_, v93_isMax x0 x1 b h r c, ?_⟩
  have e : (val_main_v105 (F := Ideal) x0 x1 (ix3 b (⟨64 * r.val + c.val, by omega⟩ : Fin 2048) (⟨128 * h.val + d.val, by omega⟩ : Fin 1024)) : EReal)
      = val_main_v103 (F := Ideal) x0 x1 (ix5 b r c h d) := by
    refine (val_main_v105_apply (F := Ideal) x0 x1 _).trans ?_
    show (val_main_v104 (F := Ideal) x0 x1 _ : EReal) = _
    unfold val_main_v104
    exact shapeCast_apply _ _ _ _ (by
      rw [Shape.rowMajor_val_three, Shape.rowMajor_val_five]
      show (((b.val * 32 + r.val) * 64 + c.val) * 8 + h.val) * 128 + d.val = (b.val * 2048 + (64 * r.val + c.val)) * 1024 + (128 * h.val + d.val)
      omega)
  rw [e, v103_at, ← sum_window]
  refine Finset.sum_congr rfl fun i _ => Finset.sum_congr rfl fun w _ => ?_
  rw [v102_at, v101_at, v67_at]
  have hi : (⟨(16 * i.val + w.val) / 16, by omega⟩ : Fin 8) = i := Fin.ext (by show (16 * i.val + w.val) / 16 = i.val; omega)
  have hw : (⟨(16 * i.val + w.val) % 16, by omega⟩ : Fin 16) = w := Fin.ext (by show (16 * i.val + w.val) % 16 = w.val; omega)
  rw [hi, hw]

end

end Cert.NaRef

end
-- ==== Proof.Na.Finite.lean ====
/- What the precondition says: every query, every key and every bias is a real. -/
module

public import proofs.«01_k».proof.Pre_finite
public import proofs.«01_k».proof.Proof.Na.Math
public import Idealize.ShloMosaic.Lib.ReduceAll
public import Idealize.ShloMosaic.Lib.ValueIdx

@[expose] public section

noncomputable section

namespace Cert.Proof.Na

open Cert.Pre_finite Idealize.ShloMosaic Idealize.ShloMosaic.ValueIdx

theorem ofBits_inf : Ideal.ofBits .f32 0x7F800000#32 = ⊤ := by simp [Ideal.ofBits, Ideal.ieee]

variable [hF : Cert.Pre_finite.Facts] (x0 : FVec Ideal S8x2048x7168 .bf16) (x1 : FVec Ideal S1x8x15x31 .f32)

/-- An entry whose magnitude compares below +∞ is a real. -/
theorem real_of_cmp (x : EReal) (h : Ideal.cmp .olt (max x (-x)) (Ideal.ofBits .f32 0x7F800000#32) = 1#1) : ∃ r : ℝ, x = (r : EReal) := by
  refine Cert.NaMath.exists_coe ?_
  rw [ofBits_inf] at h
  by_contra hn
  simp [Ideal.cmp, hn] at h

variable (h : Cert.Pre_finite.fn (F := Ideal) x0 x1 = fun _ => 1#1)

instance : Subsingleton S_.Idx := ⟨fun a b => funext fun i => i.elim0⟩

include h

theorem both : (∀ i : S8x2048x2048.Idx, ∃ r : ℝ, extractStridedSlice S8x2048x2048 ![0, 0, 0] x0 hF.slices_S8x2048x7168_S8x2048x2048_0_0_0 i = (r : EReal))
    ∧ ∀ i : S1x8x15x31.Idx, ∃ r : ℝ, x1 i = (r : EReal) := by
  have e := congrFun h (fun a => a.elim0)
  have e2 := IntOp.andi_eq_one.1 e
  refine ⟨fun i => ?_, fun i => ?_⟩
  · exact real_of_cmp _ (Host.reduce_andi_all _ _ _ _ _ e2.1 i)
  · exact real_of_cmp _ (Host.reduce_andi_all _ _ _ _ _ e2.2 i)

/-- Every query and every key is a real. -/
theorem real_proj (b : Fin 8) (l : Fin 2048) (e : Fin 2048) : ∃ r : ℝ, x0 (ix3 b l (⟨e.val, by omega⟩ : Fin 7168)) = (r : EReal) := by
  obtain ⟨r, hr⟩ := (both x0 x1 h).1 (ix3 b l e)
  refine ⟨r, hr ▸ congrArg x0 (funext fun a => Fin.ext ?_)⟩
  match a with
  | ⟨0, _⟩ => exact (Nat.zero_add _).symm
  | ⟨1, _⟩ => exact (Nat.zero_add _).symm
  | ⟨2, _⟩ => exact (Nat.zero_add _).symm

/-- Every bias is a real. -/
theorem real_bias (i : S1x8x15x31.Idx) : ∃ r : ℝ, x1 i = (r : EReal) := (both x0 x1 h).2 i

end Cert.Proof.Na

end
-- ==== Proof.Na.Equal.lean ====
/- One entry of the attention: the kernel's softmax over a band of eight rows, masked outside the window, is the
   reference's softmax over the window. -/
module

public import proofs.«01_k».proof.Proof.Na.BlockVal
public import proofs.«01_k».proof.Proof.Na.RefVal
public import proofs.«01_k».proof.Proof.Na.Finite

@[expose] public section

set_option maxRecDepth 16384

noncomputable section

namespace Cert.Proof.Na

open Cert.KernelIdeal Cert.KernelIdeal.Gen Cert.NaMath
open Idealize.ShloMosaic Idealize.ShloMosaic.ValueIdx
open Cert.NaRef (chan wRow wCol score lin rowStart)
open scoped BigOperators

/-- The scale is a real number. -/
theorem scale_real : ∃ s : ℝ, scale = (s : EReal) := by
  unfold scale Ideal.ofBits Ideal.ieee
  simp only []
  rw [if_neg (by decide)]
  exact ⟨_, rfl⟩

/-- Position `n` of a window, as a position of the band. -/
def inBand (c : Fin 64) (n : Fin 128) : Fin 512 :=
  ⟨64 * (n.val / 16) + (colStart c.val + n.val % 16), by unfold colStart; omega⟩

theorem inBand_mod (c : Fin 64) (n : Fin 128) : (inBand c n).val % 64 = colStart c.val + n.val % 16 := by
  show (64 * (n.val / 16) + (colStart c.val + n.val % 16)) % 64 = _; unfold colStart; omega
theorem inBand_div (c : Fin 64) (n : Fin 128) : (inBand c n).val / 64 = n.val / 16 := by
  show (64 * (n.val / 16) + (colStart c.val + n.val % 16)) / 64 = _; unfold colStart; omega

theorem inBand_injective (c : Fin 64) : Function.Injective (inBand c) := by
  intro n n' h
  have h1 := inBand_mod c n
  have h2 := inBand_mod c n'
  have h3 := inBand_div c n
  have h4 := inBand_div c n'
  rw [h] at h1 h3
  apply Fin.ext; omega

theorem inWin_inBand (c : Fin 64) (n : Fin 128) : inWin c.val ((inBand c n).val % 64) = true := by
  rw [inBand_mod]; unfold inWin
  rw [Bool.and_eq_true, decide_eq_true_iff, decide_eq_true_iff]; omega

/-- What lies in the band and outside the window is masked. -/
theorem outside (c : Fin 64) (k : Fin 512) (hk : k ∉ Set.range (inBand c)) : ¬inWin c.val (k.val % 64) = true := by
  intro h
  unfold inWin at h
  rw [Bool.and_eq_true, decide_eq_true_iff, decide_eq_true_iff] at h
  refine hk ⟨⟨16 * (k.val / 64) + (k.val % 64 - colStart c.val), by omega⟩, Fin.ext ?_⟩
  show 64 * ((16 * (k.val / 64) + (k.val % 64 - colStart c.val)) / 16) + (colStart c.val + (16 * (k.val / 64) + (k.val % 64 - colStart c.val)) % 16) = k.val
  omega

/-- The position of row `R` and column `C`. -/
def place (R : Fin 32) (C : Fin 64) : Fin 2048 := ⟨64 * R.val + C.val, by omega⟩
theorem off_q : 0 ≤ 2048 := by omega
theorem off_k : 1024 ≤ 2048 := by omega
theorem off_v : 2048 ≤ 2048 := by omega

section
variable [hF : Cert.Pre_finite.Facts]
variable (a0 : FVec Ideal Cert.ReferenceIdeal.S8x2048x7168 .bf16) (a1 : FVec Ideal Cert.ReferenceIdeal.S1x8x15x31 .f32)
variable (hfin : Cert.Pre_finite.fn (F := Ideal) a0 a1 = fun _ => 1#1)
variable (t0 : Vec Ideal S3720 .f32) (x1 x2 x3 : Vec Ideal S1x2048x128 .bf16) (b h : Fin 8)
variable (h1 : ∀ (R : Fin 32) (C : Fin 64) (e : Fin 128), (x1 (ix3 (0 : Fin 1) (place R C) e) : EReal) = chan a0 0 off_q b h R C e)
variable (h2 : ∀ (R : Fin 32) (C : Fin 64) (e : Fin 128), (x2 (ix3 (0 : Fin 1) (place R C) e) : EReal) = chan a0 1024 off_k b h R C e)
variable (h3 : ∀ (R : Fin 32) (C : Fin 64) (e : Fin 128), (x3 (ix3 (0 : Fin 1) (place R C) e) : EReal) = chan a0 2048 off_v b h R C e)
variable (hb : ∀ (d : Fin 15) (n : Fin 31), (bias t0 h.val d.val n.val : EReal) = a1 (ix4 (0 : Fin 1) h d n))

include hfin in
theorem real_chan (off : ℕ) (ho : off ≤ 1024) (R : Fin 32) (C : Fin 64) (e : Fin 128) : ∃ r : ℝ, chan a0 off (by omega) b h R C e = (r : EReal) :=
  real_proj a0 a1 hfin b (⟨64 * R.val + C.val, by omega⟩ : Fin 2048) (⟨off + (128 * h.val + e.val), by omega⟩ : Fin 2048)

/-- The index of a key of the window among the block's positions. -/
theorem pos_eq (r : Fin 32) (c : Fin 64) (n : Fin 128) (hlt) :
    (⟨64 * band r.val + (inBand c n).val, hlt⟩ : Fin 2048)
      = place (wRow r (⟨n.val / 16, by omega⟩ : Fin 8)) (wCol c (⟨n.val % 16, by omega⟩ : Fin 16)) := by
  apply Fin.ext
  show 64 * band r.val + (64 * (n.val / 16) + (colStart c.val + n.val % 16)) = 64 * (band r.val + n.val / 16) + (colStart c.val + n.val % 16)
  omega

include hfin h1 h2 hb in
/-- Inside the window the kernel's score is the reference's, a real number. -/
theorem score_inside (r : Fin 32) (c : Fin 64) (n : Fin 128) :
    ∃ s : ℝ, bandScore t0 h.val x1 x2 r c (inBand c n) = s ∧ lin a0 a1 b h r c n = s := by
  obtain ⟨s, hs⟩ := scale_real
  obtain ⟨z, hz1, hz2⟩ := score_eq (fun e : Fin 128 => chan a0 0 (by omega) b h r c e)
    (fun e : Fin 128 => chan a0 1024 (by omega) b h (wRow r (⟨n.val / 16, by omega⟩ : Fin 8)) (wCol c (⟨n.val % 16, by omega⟩ : Fin 16)) e) s
    (fun e => real_chan a0 a1 hfin b h 0 (by omega) _ _ e) (fun e => real_chan a0 a1 hfin b h 1024 (by omega) _ _ e)
  obtain ⟨y, hy⟩ := real_bias a0 a1 hfin (ix4 (0 : Fin 1) h (⟨rowStart r.val + n.val / 16 + 7 - r.val, by have := r.isLt; unfold rowStart; omega⟩ : Fin 15)
        (⟨colStart c.val + n.val % 16 + 15 - c.val, by have := c.isLt; unfold colStart; omega⟩ : Fin 31))
  refine ⟨z + y, ?_, ?_⟩
  · unfold bandScore
    rw [if_pos (inWin_inBand c n), EReal.coe_add]
    refine congrArg₂ (· + ·) (Eq.trans ?_ hz1) (Eq.trans ?_ hy)
    · rw [hs]
      refine congrArg (· * (s : EReal)) (Finset.sum_congr rfl fun e _ => ?_)
      rw [pos_eq, h2]; exact congrArg (· * _) (h1 r c e)
    · have hd : band r.val + 7 - r.val + (inBand c n).val / 64 = rowStart r.val + n.val / 16 + 7 - r.val := by
        rw [inBand_div]; show band r.val + 7 - r.val + n.val / 16 = band r.val + n.val / 16 + 7 - r.val
        have := r.isLt; unfold band; omega
      rw [inBand_mod, hd]
      exact hb (⟨rowStart r.val + n.val / 16 + 7 - r.val, _⟩ : Fin 15) (⟨colStart c.val + n.val % 16 + 15 - c.val, _⟩ : Fin 31)
  · unfold lin score
    rw [EReal.coe_add]
    refine congrArg₂ (· + ·) (Eq.trans ?_ hz2) hy
    rw [← hs]; rfl

include hfin h1 h2 h3 hb in
/-- The block's entry is the reference's. -/
theorem block_eq (r : Fin 32) (c : Fin 64) (d : Fin 128) (l : Fin 2048) (hl : l.val = 64 * r.val + c.val) (k : Fin 1024) (hk : k.val = 128 * h.val + d.val) :
    (blockOut (F := Ideal) x1 x2 x3 (tabOf t0 h.val) (ix3 (0 : Fin 1) l d) : EReal)
      = Cert.ReferenceIdeal.Read.val_main_v105 (F := Ideal) a0 a1 (ix3 b l k) := by
  rw [show l = (⟨64 * r.val + c.val, by omega⟩ : Fin 2048) from Fin.ext hl, show k = (⟨128 * h.val + d.val, by omega⟩ : Fin 1024) from Fin.ext hk]
  obtain ⟨M, hM, e⟩ := blockOut_apply t0 h.val x1 x2 x3 r c d
  obtain ⟨M', hM', e'⟩ := Cert.NaRef.v105_at a0 a1 b h r c d
  refine (e.trans ?_).trans e'.symm
  choose s hs1 hs2 using score_inside a0 a1 hfin t0 x1 x2 b h h1 h2 hb r c
  have hl : lin a0 a1 b h r c = fun n => (s n : EReal) := funext hs2
  rw [hl] at hM' ⊢
  refine (attend_eq s (inBand c) (inBand_injective c) _ hs1 (fun k hk => ?_) _ M M' hM hM').trans ?_
  · unfold bandScore
    rw [if_neg (outside c k hk)]
    exact EReal.add_bot _
  · refine Finset.sum_congr rfl fun n _ => congrArg _ ?_
    rw [pos_eq, h3]

end

end Cert.Proof.Na

end
-- ==== Proof.Na.Value.lean ====
/- The attention's result array over the extended reals: the reference's, for finite queries, keys and biases. -/
module

public import proofs.«01_k».proof.Proof.Na.Frame
public import proofs.«01_k».proof.Proof.Na.Equal
public import Idealize.ShloMosaic.Lib.Pipeline.Value
public import Idealize.ShloMosaic.Lib.Pipeline.ValueKit
public import Idealize.ShloMosaic.Lib.StableHlo.Run

@[expose] public section

set_option maxRecDepth 16384

noncomputable section

namespace Cert.Proof.Na

open Cert.KernelIdeal Cert.KernelIdeal.Gen
open Idealize.ShloMosaic Idealize.ShloMosaic.TcCoe Idealize.ShloMosaic.ValueIdx Idealize.ShloMosaic.StableHlo Idealize.SL.Sem
open Cert.NaRef (chan)

variable (m : (ℓ : Loc nD τ sig) → Buf (Elt Ideal) ℓ) (c : Dev nD)

theorem V_v1 : (V m c main_v1 : Vec Ideal S3720 .f32)
    = shapeCast S3720 (shapeCast S8x15x31 (m ((c : Thread nD τ).loc main_arg1) : Vec Ideal S1x8x15x31 .f32) shapeCasts_S1x8x15x31_S8x15x31) shapeCasts_S8x15x31_S3720 := by
  unfold V; simp only [hostOps0, List.flatten_cons, List.flatten_nil, List.append_nil, List.cons_append, List.nil_append]; after_results_simp <;> rfl

/-- A bias read from the flat array. -/
theorem bias_arg (h : Fin 8) (d : Fin 15) (n : Fin 31) :
    (bias (V m c main_v1 : Vec Ideal S3720 .f32) h.val d.val n.val : EReal) = (m ((c : Thread nD τ).loc main_arg1) : Vec Ideal S1x8x15x31 .f32) (ValueIdx.ix4 (0 : Fin 1) h d n) := by
  unfold bias
  rw [V_v1]
  refine (shapeCast_apply _ _ _ (ValueIdx.ix3 h d n) (by
    rw [Shape.rowMajor_val_three, Shape.rowMajor_val_one]
    show (h.val * 15 + d.val) * 31 + n.val = ((h.val * 15 + d.val) * 31 + n.val) % 3720
    omega)).trans ?_
  exact shapeCast_1abc_abc_apply _ _ _ _ _

/-- The head and the batch of a point. -/
abbrev headOf (t : Fin cfg0.N) : Fin 8 := ⟨t.val / 8, by have := lt_of_lt_of_eq t.isLt (show cfg0.N = 64 from N_0); omega⟩
abbrev batchOf (t : Fin cfg0.N) : Fin 8 := ⟨t.val % 8, by omega⟩

theorem idx1 : ∀ t : Fin cfg0.N, win0_1.index t 0 = t.val % 8 ∧ win0_1.index t 1 = 0 ∧ win0_1.index t 2 = t.val / 8 :=
  (by decide +kernel : ∀ t : Fin grid0.N, _)
theorem idx2 : ∀ t : Fin cfg0.N, win0_2.index t 0 = t.val % 8 ∧ win0_2.index t 1 = 0 ∧ win0_2.index t 2 = 8 + t.val / 8 :=
  (by decide +kernel : ∀ t : Fin grid0.N, _)
theorem idx3 : ∀ t : Fin cfg0.N, win0_3.index t 0 = t.val % 8 ∧ win0_3.index t 1 = 0 ∧ win0_3.index t 2 = 16 + t.val / 8 :=
  (by decide +kernel : ∀ t : Fin grid0.N, _)
theorem idx4 : ∀ t : Fin cfg0.N, win0_4.index t 0 = t.val % 8 ∧ win0_4.index t 1 = 0 ∧ win0_4.index t 2 = t.val / 8 :=
  (by decide +kernel : ∀ t : Fin grid0.N, _)

/-- The queries of a point's block. -/
theorem queries (t : Fin cfg0.N) (R : Fin 32) (C : Fin 64) (e : Fin 128) :
    ((iblk m c 1 t : Vec Ideal S1x2048x128 .bf16) (ValueIdx.ix3 (0 : Fin 1) (place R C) e) : EReal)
      = chan (m ((c : Thread nD τ).loc main_arg0)) 0 off_q (batchOf t) (headOf t) R C e := by
  unfold iblk; rw [View.read_apply]
  show (V m c main_arg0 : Vec Ideal S8x2048x7168 .bf16) _ = _
  rw [V_main_arg0]
  unfold chan
  refine congrArg (m ((c : Thread nD τ).loc main_arg0) : Vec Ideal S8x2048x7168 .bf16) (funext fun a => Fin.ext ?_)
  obtain ⟨i0, i1, i2⟩ := idx1 t
  match a with
  | ⟨0, _⟩ => show win0_1.index t 0 * 1 + 1 * 0 = t.val % 8; rw [i0]; omega
  | ⟨1, _⟩ => show win0_1.index t 1 * 2048 + 1 * (64 * R.val + C.val) = 64 * R.val + C.val; rw [i1]; omega
  | ⟨2, _⟩ => show win0_1.index t 2 * 128 + 1 * e.val = 0 + (128 * (t.val / 8) + e.val); rw [i2]; omega

/-- The keys of a point's block. -/
theorem keys (t : Fin cfg0.N) (R : Fin 32) (C : Fin 64) (e : Fin 128) :
    ((iblk m c 2 t : Vec Ideal S1x2048x128 .bf16) (ValueIdx.ix3 (0 : Fin 1) (place R C) e) : EReal)
      = chan (m ((c : Thread nD τ).loc main_arg0)) 1024 off_k (batchOf t) (headOf t) R C e := by
  unfold iblk; rw [View.read_apply]
  show (V m c main_arg0 : Vec Ideal S8x2048x7168 .bf16) _ = _
  rw [V_main_arg0]
  unfold chan
  refine congrArg (m ((c : Thread nD τ).loc main_arg0) : Vec Ideal S8x2048x7168 .bf16) (funext fun a => Fin.ext ?_)
  obtain ⟨i0, i1, i2⟩ := idx2 t
  match a with
  | ⟨0, _⟩ => show win0_2.index t 0 * 1 + 1 * 0 = t.val % 8; rw [i0]; omega
  | ⟨1, _⟩ => show win0_2.index t 1 * 2048 + 1 * (64 * R.val + C.val) = 64 * R.val + C.val; rw [i1]; omega
  | ⟨2, _⟩ => show win0_2.index t 2 * 128 + 1 * e.val = 1024 + (128 * (t.val / 8) + e.val); rw [i2]; omega

/-- The values of a point's block. -/
theorem values (t : Fin cfg0.N) (R : Fin 32) (C : Fin 64) (e : Fin 128) :
    ((iblk m c 3 t : Vec Ideal S1x2048x128 .bf16) (ValueIdx.ix3 (0 : Fin 1) (place R C) e) : EReal)
      = chan (m ((c : Thread nD τ).loc main_arg0)) 2048 off_v (batchOf t) (headOf t) R C e := by
  unfold iblk; rw [View.read_apply]
  show (V m c main_arg0 : Vec Ideal S8x2048x7168 .bf16) _ = _
  rw [V_main_arg0]
  unfold chan
  refine congrArg (m ((c : Thread nD τ).loc main_arg0) : Vec Ideal S8x2048x7168 .bf16) (funext fun a => Fin.ext ?_)
  obtain ⟨i0, i1, i2⟩ := idx3 t
  match a with
  | ⟨0, _⟩ => show win0_3.index t 0 * 1 + 1 * 0 = t.val % 8; rw [i0]; omega
  | ⟨1, _⟩ => show win0_3.index t 1 * 2048 + 1 * (64 * R.val + C.val) = 64 * R.val + C.val; rw [i1]; omega
  | ⟨2, _⟩ => show win0_3.index t 2 * 128 + 1 * e.val = 2048 + (128 * (t.val / 8) + e.val); rw [i2]; omega

/-- The result the reference computes from the program's arguments. -/
abbrev result : Vec Ideal S8x2048x1024 .bf16 :=
  Cert.ReferenceIdeal.Read.val_main_v105 (F := Ideal) (m ((c : Thread nD τ).loc main_arg0)) (m ((c : Thread nD τ).loc main_arg1))

/-- Where the entries of a point's block lie in the result. -/
theorem emb_out (t : Fin cfg0.N) (R : Fin 32) (C : Fin 64) (d : Fin 128) :
    (win0_4.blk t).view.emb (ValueIdx.ix3 (0 : Fin 1) (⟨64 * R.val + C.val, by omega⟩ : Fin 2048) d)
      = (ValueIdx.ix3 (batchOf t) (⟨64 * R.val + C.val, by omega⟩ : Fin 2048) (⟨128 * (headOf t).val + d.val, by omega⟩ : Fin 1024) : S8x2048x1024.Idx) := by
  have i := idx4 t
  funext a; apply Fin.ext
  match a with
  | ⟨0, _⟩ => show win0_4.index t 0 * 1 + 1 * 0 = t.val % 8; rw [i.1]; omega
  | ⟨1, _⟩ => show win0_4.index t 1 * 2048 + 1 * (64 * R.val + C.val) = 64 * R.val + C.val; rw [i.2.1]; omega
  | ⟨2, _⟩ => show win0_4.index t 2 * 128 + 1 * d.val = 128 * (t.val / 8) + d.val; rw [i.2.2]; omega

section
variable [hF : Cert.Pre_finite.Facts]
variable (hfin : Cert.Pre_finite.fn (F := Ideal) (m ((c : Thread nD τ).loc main_arg0)) (m ((c : Thread nD τ).loc main_arg1)) = fun _ => 1#1)

include hfin in
/-- What a point leaves in its block is the reference's result there. -/
theorem outAt_eq (t : Fin cfg0.N) (y : S1x2048x128.Idx) : (outAt m c t : Vec Ideal S1x2048x128 .bf16) y = result m c ((win0_4.blk t).view.emb y) := by
  obtain ⟨z, l, d, rfl⟩ : ∃ (z : Fin 1) (l : Fin 2048) (d : Fin 128), y = ValueIdx.ix3 z l d := ⟨y 0, y 1, y 2, ValueIdx.eq_ix3 y⟩
  obtain rfl : z = 0 := Fin.ext (by omega)
  obtain ⟨R, C, rfl⟩ : ∃ (R : Fin 32) (C : Fin 64), l = (⟨64 * R.val + C.val, by omega⟩ : Fin 2048) :=
    ⟨⟨l.val / 64, by omega⟩, ⟨l.val % 64, by omega⟩, Fin.ext (by show l.val = 64 * (l.val / 64) + l.val % 64; omega)⟩
  refine (block_eq _ _ hfin (V m c main_v1) _ _ _ (batchOf t) (headOf t) (queries m c t) (keys m c t) (values m c t) (bias_arg m c (headOf t)) R C d _ rfl (⟨128 * (headOf t).val + d.val, by omega⟩ : Fin 1024) rfl).trans ?_
  exact congrArg (result m c) (emb_out t R C d).symm

include hfin in
/-- The result array after the run. -/
theorem final : (dats m 0 c).arrAt 4 cfg0.N = result m c := by
  refine (dats m 0 c).arrAt_eq_of_covers 4 _ (by decide +kernel) fun t hf y => ?_
  blk_simp
  rw [after4]
  exact outAt_eq m c hfin t y

end

end Cert.Proof.Na

end
-- ==== Proof.Na.Claim.lean ====
/- The claims about the neighbourhood attention: the frames, and the equation of the kernel's result and the
   reference's over the extended reals, for finite queries, keys and biases. -/
module

public import proofs.«01_k».proof.Defs
public import proofs.«01_k».proof.Proof.Na.Bits.Frame
public import proofs.«01_k».proof.Proof.Gen.ReferenceIdeal.Run
public import proofs.«01_k».proof.Proof.Na.Value

@[expose] public section

noncomputable section

/-- The shapes of the precondition's operations fit. -/
theorem Cert.Proof.Na.pre_facts : Cert.Pre_finite.Facts where
  slices_S8x2048x7168_S8x2048x2048_0_0_0 := by decide
  bitsLt_bf16_f32 := by decide
  bcast_S_S8x2048x2048 := by decide
  reducesTo_S8x2048x2048_S_d0_1_2 := by decide
  h_S_ := by decide
  bcast_S_S1x8x15x31 := by decide
  reducesTo_S1x8x15x31_S_d0_1_2_3 := by decide

namespace Cert.Proof.Na

open Idealize.ShloMosaic Idealize.ShloMosaic.TcCoe Idealize.SL.Sem

/-- The kernel's program runs and keeps its arguments. -/
theorem frame : Cert.quiescent_Kernel := fun m g _ => Cert.Proof.NaBits.frame m g
/-- So does its idealization. -/
theorem frame_ideal : Cert.quiescent_KernelIdeal := fun m g _ => frame_any m g
/-- So it does under the precondition. -/
theorem frame_ideal_pre [Cert.Pre_finite.Facts] : Cert.quiescent_KernelIdeal_pre_finite := fun m g _ => frame_any m g
/-- So does the reference. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
/-- So it does under the precondition. -/
theorem frame_ref_pre [Cert.Pre_finite.Facts] : Cert.quiescent_ReferenceIdeal_pre_finite := fun m g _ =>
  (θ_run Cert.ReferenceIdeal.defs _ _).mono (fun r h => ⟨fun c => (h c).2, sem_eq_zero_of_no_sems (by decide) r.2⟩)
    (Cert.ReferenceIdeal.Value.run (F := Ideal) m g)

/-- The mask's constant is read as minus infinity, and nothing else is rewritten. -/
theorem preserves : Cert.preserves_Kernel_KernelIdeal := IdealRules.named_const.statement Cert.KernelIdeal.κ "mask" .f32 0xF149F2CA#32 ⊥ rfl

/-- Over the extended reals the kernel and the reference end with the same array, if the queries, the keys and
    the biases are finite. -/
theorem algebraic [Cert.Pre_finite.Facts] : Cert.algebraic_KernelIdeal_ReferenceIdeal_pre_finite := by
  intro m g m' g' hpre hagree
  refine ⟨fun c => result m c, ?_, ?_⟩
  · exact (θ_run Cert.KernelIdeal.defs _ _).mono (fun r h c => ⟨((h.1 c).1 4).trans (final m c (hpre c)), h.2 c⟩)
      (θ_run_and (run_main (F := Ideal) m g) (unchanged m g))
  · refine (θ_run Cert.ReferenceIdeal.defs _ _).mono (fun _ h c => ⟨(h c).1.trans ?_, (h c).2⟩) (Cert.ReferenceIdeal.Value.run (F := Ideal) m' g')
    rw [Cert.ReferenceIdeal.Read.val_main_v105_eq, (hagree c).1, (hagree c).2]

end Cert.Proof.Na

end
-- ==== Proof.Ffn.Case.lean ====
/- What one grid point of the fused output projection and feed-forward leaves in its output block and in
   its two carried scratch buffers, as the kernel's own terms of the point's input blocks. -/
module

public import proofs.«01_k».proof.Proof.Gen.FfnIdeal.Value

@[expose] public section

noncomputable section

namespace Cert.FfnIdeal.Hand

open Cert.FfnIdeal Cert.FfnIdeal.Gen Idealize.ShloMosaic Idealize.ShloMosaic.TcCoe Idealize.SL.Sem

variable {F : FTy → Type} [FloatOps F]

theorem off00 : (![0, 0] : Fin 2 → Nat) = fun _ => 0 := funext fun a => by fin_cases a <;> rfl

/-- At the first feed-forward step of a row block the second scratch receives the normalised rows. -/
theorem sout0_A_1_eq (c : Dev nD) (i : grid0.Coords) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (hc0 : cond0_0 i) (hc1 : ¬cond0_1 i)
    (x0 : Vec F S512x2048 .f32) (x1 : Vec F S512x1024 .bf16) (x2 : Vec F S512x1024 .bf16) (x3 : Vec F S1024x2048 .bf16) (x4 : Vec F S1024x2048 .bf16) (x5 : Vec F S1x2048 .f32) (x6 : Vec F S2048x512 .bf16) (x7 : Vec F S2048x512 .bf16) (x8 : Vec F S512x2048 .bf16) (x9 : Vec F S1x2048 .f32) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay3 x1 x3 x2 x4 x0 x5 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_unit_zero off00]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) off00, View.ld_unit_zero (S := S512x1024) off00,
    View.ld_unit_zero (S := S1024x2048) off00, View.ld_unit_zero (S := S1x2048) off00, View.ld_unit_zero (S := S2048x512) off00]

/-- At the first feed-forward step the first scratch receives the residual rows plus the first block of the hidden layer. -/
theorem sout0_A_0_eq (c : Dev nD) (i : grid0.Coords) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (hc0 : cond0_0 i) (hc1 : ¬cond0_1 i)
    (x0 : Vec F S512x2048 .f32) (x1 : Vec F S512x1024 .bf16) (x2 : Vec F S512x1024 .bf16) (x3 : Vec F S1024x2048 .bf16) (x4 : Vec F S1024x2048 .bf16) (x5 : Vec F S1x2048 .f32) (x6 : Vec F S2048x512 .bf16) (x7 : Vec F S2048x512 .bf16) (x8 : Vec F S512x2048 .bf16) (x9 : Vec F S1x2048 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 = k0_pay4 (k0_pay3 x1 x3 x2 x4 x0 x5) x6 x7 (k0_pay2 x1 x3 x2 x4 x0) x8 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9)]
  unfold kernelRun0_A
  dsimp only
  sl_unfold_words
  rw [View.canon_cons_unit_zero (S := S512x2048) off00]
  simp only [View.readCov_unit_zero (S := S512x2048) _ off00]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) off00, View.ld_unit_zero (S := S512x1024) off00,
    View.ld_unit_zero (S := S1024x2048) off00, View.ld_unit_zero (S := S1x2048) off00, View.ld_unit_zero (S := S2048x512) off00]

/-- At a later step the first scratch gains that block of the hidden layer. -/
theorem sout0_B_0_eq (c : Dev nD) (i : grid0.Coords) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (hc0 : ¬cond0_0 i) (hc1 : ¬cond0_1 i)
    (x0 : Vec F S512x2048 .f32) (x1 : Vec F S512x1024 .bf16) (x2 : Vec F S512x1024 .bf16) (x3 : Vec F S1024x2048 .bf16) (x4 : Vec F S1024x2048 .bf16) (x5 : Vec F S1x2048 .f32) (x6 : Vec F S2048x512 .bf16) (x7 : Vec F S2048x512 .bf16) (x8 : Vec F S512x2048 .bf16) (x9 : Vec F S1x2048 .f32) (xs0 : Vec F S512x2048 .f32) (xs1 : Vec F S512x2048 .bf16) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay4 xs1 x6 x7 xs0 x8 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_B
  dsimp only
  sl_unfold_words
  rw [View.canon_unit_zero off00]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) off00, View.ld_unit_zero (S := S512x1024) off00,
    View.ld_unit_zero (S := S1024x2048) off00, View.ld_unit_zero (S := S1x2048) off00, View.ld_unit_zero (S := S2048x512) off00]

/-- The same at the last step. -/
theorem sout0_C_0_eq (c : Dev nD) (i : grid0.Coords) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (hc0 : ¬cond0_0 i) (hc1 : cond0_1 i)
    (x0 : Vec F S512x2048 .f32) (x1 : Vec F S512x1024 .bf16) (x2 : Vec F S512x1024 .bf16) (x3 : Vec F S1024x2048 .bf16) (x4 : Vec F S1024x2048 .bf16) (x5 : Vec F S1x2048 .f32) (x6 : Vec F S2048x512 .bf16) (x7 : Vec F S2048x512 .bf16) (x8 : Vec F S512x2048 .bf16) (x9 : Vec F S1x2048 .f32) (xs0 : Vec F S512x2048 .f32) (xs1 : Vec F S512x2048 .bf16) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay4 xs1 x6 x7 xs0 x8 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero off00]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) off00, View.ld_unit_zero (S := S512x1024) off00,
    View.ld_unit_zero (S := S1024x2048) off00, View.ld_unit_zero (S := S1x2048) off00, View.ld_unit_zero (S := S2048x512) off00]

/-- At the last step the output block receives the normalised total. -/
theorem out0_C_10_eq (c : Dev nD) (i : grid0.Coords) (arg2 : Memref sig .tc .vmem S512x2048 .f32) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S2048x512 .bf16) (harg9 : arg9.IsWhole) (arg10 : Memref sig .tc .vmem S512x2048 .bf16) (harg10 : arg10.IsWhole) (arg11 : Memref sig .tc .vmem S1x2048 .f32) (harg11 : arg11.IsWhole) (arg12 : Memref sig .tc .vmem S512x2048 .f32) (harg12 : arg12.IsWhole) (arg13 : Memref sig .tc .vmem S512x2048 .f32) (harg13 : arg13.IsWhole) (arg14 : Memref sig .tc .vmem S512x2048 .bf16) (harg14 : arg14.IsWhole) (hc0 : ¬cond0_0 i) (hc1 : cond0_1 i)
    (x0 : Vec F S512x2048 .f32) (x1 : Vec F S512x1024 .bf16) (x2 : Vec F S512x1024 .bf16) (x3 : Vec F S1024x2048 .bf16) (x4 : Vec F S1024x2048 .bf16) (x5 : Vec F S1x2048 .f32) (x6 : Vec F S2048x512 .bf16) (x7 : Vec F S2048x512 .bf16) (x8 : Vec F S512x2048 .bf16) (x9 : Vec F S1x2048 .f32) (xs0 : Vec F S512x2048 .f32) (xs1 : Vec F S512x2048 .bf16) :
    out0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1 = k0_pay5 (k0_pay4 xs1 x6 x7 xs0 x8) x9 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 xs0 xs1)]
  unfold kernelRun0_C
  dsimp only
  sl_unfold_words
  rw [View.canon_unit_zero off00]
  simp only [View.readCov_unit_zero (S := S512x2048) _ off00]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x2048) off00, View.ld_unit_zero (S := S512x1024) off00,
    View.ld_unit_zero (S := S1024x2048) off00, View.ld_unit_zero (S := S1x2048) off00, View.ld_unit_zero (S := S2048x512) off00]

end Cert.FfnIdeal.Hand

end
-- ==== Proof.Ffn.Arrays.lean ====
/- The blocks a grid point of the fused output projection and feed-forward reads, entry by entry, as the
   program's arguments. Point `t` works on rows `512 * (t / 11) + r` and hidden units `512 * (t % 11) + j`. -/
module

public import proofs.«01_k».proof.Proof.Gen.FfnIdeal.Frame.Runs
public import Idealize.ShloMosaic.Lib.ValueIdx
public import Idealize.ShloMosaic.Lib.ValueLayout
public import Idealize.ShloMosaic.Lib.Pipeline.Value
public import Idealize.ShloMosaic.Lib.StableHlo.Run

@[expose] public section

noncomputable section

namespace Cert.FfnIdeal.Hand

open Cert.FfnIdeal Cert.FfnIdeal.Gen Idealize.ShloMosaic Idealize.ShloMosaic.TcCoe Idealize.SL.Sem
open Idealize.ShloMosaic.ValueIdx Idealize.ShloMosaic.StableHlo

section
variable {F : FTy → Type} [FloatOps F]
variable (m : (ℓ : Loc nD τ sig) → Buf (Elt F) ℓ)

/-- An argument of the program at launch. -/
abbrev arg (c : Dev nD) (b : Ref sig .tc) : Buf (Elt F) ((c : Thread nD τ).loc b) := m ((c : Thread nD τ).loc b)

theorem V_v0 (c : Dev nD) : (V m c main_v0 : Vec F S16384x2048 .f32) = shapeCast S16384x2048 (arg m c main_arg0 : Vec F S8x2048x2048 .f32) shapeCasts_S8x2048x2048_S16384x2048 := by
  unfold V; simp only [hostOps0, List.flatten_cons, List.flatten_nil, List.append_nil, List.cons_append, List.nil_append]; after_results_simp <;> rfl
theorem V_v1 (c : Dev nD) : (V m c main_v1 : Vec F S16384x1024 .bf16) = shapeCast S16384x1024 (arg m c main_arg1 : Vec F S8x2048x1024 .bf16) shapeCasts_S8x2048x1024_S16384x1024 := by
  unfold V; simp only [hostOps0, List.flatten_cons, List.flatten_nil, List.append_nil, List.cons_append, List.nil_append]; after_results_simp <;> rfl
theorem V_v2 (c : Dev nD) : (V m c main_v2 : Vec F S16384x1024 .bf16) = shapeCast S16384x1024 (arg m c main_arg2 : Vec F S8x2048x1024 .bf16) shapeCasts_S8x2048x1024_S16384x1024 := by
  unfold V; simp only [hostOps0, List.flatten_cons, List.flatten_nil, List.append_nil, List.cons_append, List.nil_append]; after_results_simp <;> rfl
theorem V_v5 (c : Dev nD) : (V m c main_v5 : Vec F S1024x2048 .bf16) = truncf .bf16 (shapeCast S1024x2048 (extractStridedSlice S1x1024x2048 ![0, 0, 0] (arg m c main_arg3 : Vec F S1x2048x2048 .f32) slices_S1x2048x2048_S1x1024x2048_0_0_0) shapeCasts_S1x1024x2048_S1024x2048) bitsLt_bf16_f32 := by
  unfold V; simp only [hostOps0, List.flatten_cons, List.flatten_nil, List.append_nil, List.cons_append, List.nil_append]; after_results_simp <;> rfl
theorem V_v8 (c : Dev nD) : (V m c main_v8 : Vec F S1024x2048 .bf16) = truncf .bf16 (shapeCast S1024x2048 (extractStridedSlice S1x1024x2048 ![0, 1024, 0] (arg m c main_arg3 : Vec F S1x2048x2048 .f32) slices_S1x2048x2048_S1x1024x2048_0_1024_0) shapeCasts_S1x1024x2048_S1024x2048) bitsLt_bf16_f32 := by
  unfold V; simp only [hostOps0, List.flatten_cons, List.flatten_nil, List.append_nil, List.cons_append, List.nil_append]; after_results_simp <;> rfl
theorem V_v10 (c : Dev nD) : (V m c main_v10 : Vec F S1x2048 .f32) = shapeCast S1x2048 (shapeCast S2048 (arg m c main_arg4 : Vec F S1x2048 .f32) shapeCasts_S1x2048_S2048) shapeCasts_S2048_S1x2048 := by
  unfold V; simp only [hostOps0, List.flatten_cons, List.flatten_nil, List.append_nil, List.cons_append, List.nil_append]; after_results_simp <;> rfl
theorem V_v12 (c : Dev nD) : (V m c main_v12 : Vec F S2048x5632 .bf16) = truncf .bf16 (shapeCast S2048x5632 (arg m c main_arg5 : Vec F S1x2048x5632 .f32) shapeCasts_S1x2048x5632_S2048x5632) bitsLt_bf16_f32 := by
  unfold V; simp only [hostOps0, List.flatten_cons, List.flatten_nil, List.append_nil, List.cons_append, List.nil_append]; after_results_simp <;> rfl
theorem V_v14 (c : Dev nD) : (V m c main_v14 : Vec F S2048x5632 .bf16) = truncf .bf16 (shapeCast S2048x5632 (arg m c main_arg6 : Vec F S1x2048x5632 .f32) shapeCasts_S1x2048x5632_S2048x5632) bitsLt_bf16_f32 := by
  unfold V; simp only [hostOps0, List.flatten_cons, List.flatten_nil, List.append_nil, List.cons_append, List.nil_append]; after_results_simp <;> rfl
theorem V_v16 (c : Dev nD) : (V m c main_v16 : Vec F S5632x2048 .bf16) = truncf .bf16 (shapeCast S5632x2048 (arg m c main_arg7 : Vec F S1x5632x2048 .f32) shapeCasts_S1x5632x2048_S5632x2048) bitsLt_bf16_f32 := by
  unfold V; simp only [hostOps0, List.flatten_cons, List.flatten_nil, List.append_nil, List.cons_append, List.nil_append]; after_results_simp <;> rfl
theorem V_v17 (c : Dev nD) : (V m c main_v17 : Vec F S1x2048 .f32) = shapeCast S1x2048 (arg m c main_arg8 : Vec F S2048 .f32) shapeCasts_S2048_S1x2048 := by
  unfold V; simp only [hostOps0, List.flatten_cons, List.flatten_nil, List.append_nil, List.cons_append, List.nil_append]; after_results_simp <;> rfl
end

/-! ## The arrays, entry by entry, over the extended reals -/

/-- Row `n` of the flattened batch and sequence axes. -/
abbrev bl (n : Fin 16384) : Fin 8 × Fin 2048 := (⟨n.val / 2048, by omega⟩, ⟨n.val % 2048, by omega⟩)

theorem cast_rows_apply {α : Type} {w : ℕ} (x : (⟨3, ![8, 2048, w]⟩ : Shape).Idx → α) (h : (⟨3, ![8, 2048, w]⟩ : Shape).ShapeCasts ⟨2, ![16384, w]⟩)
    (n : Fin 16384) (e : Fin w) : shapeCast ⟨2, ![16384, w]⟩ x h (ix2 n e) = x (ix3 (bl n).1 (bl n).2 e) :=
  shapeCast_apply x h _ _ (by
    rw [Shape.rowMajor_val_three, Shape.rowMajor_val_two]
    show (n.val / 2048 * 2048 + n.val % 2048) * w + e.val = n.val * w + e.val
    rw [Nat.div_add_mod' n.val 2048])

variable (m : (ℓ : Loc nD τ sig) → Buf (Elt Ideal) ℓ) (c : Dev nD)

theorem V0_apply (n : Fin 16384) (e : Fin 2048) : (V m c main_v0 : Vec Ideal S16384x2048 .f32) (ix2 n e) = (arg m c main_arg0 : Vec Ideal S8x2048x2048 .f32) (ix3 (bl n).1 (bl n).2 e) := by
  rw [V_v0]; exact cast_rows_apply _ _ _ _
theorem V1_apply (n : Fin 16384) (e : Fin 1024) : (V m c main_v1 : Vec Ideal S16384x1024 .bf16) (ix2 n e) = (arg m c main_arg1 : Vec Ideal S8x2048x1024 .bf16) (ix3 (bl n).1 (bl n).2 e) := by
  rw [V_v1]; exact cast_rows_apply _ _ _ _
theorem V2_apply (n : Fin 16384) (e : Fin 1024) : (V m c main_v2 : Vec Ideal S16384x1024 .bf16) (ix2 n e) = (arg m c main_arg2 : Vec Ideal S8x2048x1024 .bf16) (ix3 (bl n).1 (bl n).2 e) := by
  rw [V_v2]; exact cast_rows_apply _ _ _ _
theorem V3_apply (k : Fin 1024) (e : Fin 2048) : (V m c main_v5 : Vec Ideal S1024x2048 .bf16) (ix2 k e) = (arg m c main_arg3 : Vec Ideal S1x2048x2048 .f32) (ix3 (0 : Fin 1) (⟨k.val, by omega⟩ : Fin 2048) e) := by
  rw [V_v5, truncf_apply]
  refine (shapeCast_1ab_ab_apply _ _ k e).trans (extractStridedSlice_apply _ _ _ _ _ fun a => ?_)
  match a with
  | ⟨0, _⟩ => rfl
  | ⟨1, _⟩ => exact (Nat.zero_add _).symm
  | ⟨2, _⟩ => exact (Nat.zero_add _).symm
theorem V4_apply (k : Fin 1024) (e : Fin 2048) : (V m c main_v8 : Vec Ideal S1024x2048 .bf16) (ix2 k e) = (arg m c main_arg3 : Vec Ideal S1x2048x2048 .f32) (ix3 (0 : Fin 1) (⟨1024 + k.val, by omega⟩ : Fin 2048) e) := by
  rw [V_v8, truncf_apply]
  refine (shapeCast_1ab_ab_apply _ _ k e).trans (extractStridedSlice_apply _ _ _ _ _ fun a => ?_)
  match a with
  | ⟨0, _⟩ => rfl
  | ⟨1, _⟩ => rfl
  | ⟨2, _⟩ => exact (Nat.zero_add _).symm
theorem V5_apply (e : Fin 2048) : (V m c main_v10 : Vec Ideal S1x2048 .f32) (ix2 (0 : Fin 1) e) = (arg m c main_arg4 : Vec Ideal S1x2048 .f32) (ix2 (0 : Fin 1) e) := by
  rw [V_v10]; exact (shapeCast_a_1a_apply _ _ _ e).trans (shapeCast_1a_a_apply _ _ e)
theorem V6_apply (k : Fin 2048) (j : Fin 5632) : (V m c main_v12 : Vec Ideal S2048x5632 .bf16) (ix2 k j) = (arg m c main_arg5 : Vec Ideal S1x2048x5632 .f32) (ix3 (0 : Fin 1) k j) := by
  rw [V_v12, truncf_apply]; exact shapeCast_1ab_ab_apply _ _ k j
theorem V7_apply (k : Fin 2048) (j : Fin 5632) : (V m c main_v14 : Vec Ideal S2048x5632 .bf16) (ix2 k j) = (arg m c main_arg6 : Vec Ideal S1x2048x5632 .f32) (ix3 (0 : Fin 1) k j) := by
  rw [V_v14, truncf_apply]; exact shapeCast_1ab_ab_apply _ _ k j
theorem V8_apply (j : Fin 5632) (e : Fin 2048) : (V m c main_v16 : Vec Ideal S5632x2048 .bf16) (ix2 j e) = (arg m c main_arg7 : Vec Ideal S1x5632x2048 .f32) (ix3 (0 : Fin 1) j e) := by
  rw [V_v16, truncf_apply]; exact shapeCast_1ab_ab_apply _ _ j e
theorem V9_apply (e : Fin 2048) : (V m c main_v17 : Vec Ideal S1x2048 .f32) (ix2 (0 : Fin 1) e) = (arg m c main_arg8 : Vec Ideal S2048 .f32) (ix1 e) := by
  rw [V_v17]; exact shapeCast_a_1a_apply _ _ _ e

/-! ## The blocks -/

/-- The row of the flattened array that row `r` of point `t`'s block is. -/
abbrev row (t : Fin cfg0.N) (r : Fin 512) : Fin 16384 :=
  ⟨512 * (t.val / 11) + r.val, by have := lt_of_lt_of_eq t.isLt (show cfg0.N = 352 from N_0); omega⟩
/-- The hidden unit that column `j` of point `t`'s block is. -/
abbrev col (t : Fin cfg0.N) (j : Fin 512) : Fin 5632 := ⟨512 * (t.val % 11) + j.val, by have := Nat.mod_lt t.val (show 0 < 11 by decide); omega⟩

theorem idxA : ∀ t : Fin cfg0.N, (win0_0.index t 0 = t.val / 11 ∧ win0_0.index t 1 = 0) ∧ (win0_1.index t 0 = t.val / 11 ∧ win0_1.index t 1 = 0) ∧ (win0_2.index t 0 = t.val / 11 ∧ win0_2.index t 1 = 0) :=
  (by decide +kernel : ∀ t : Fin grid0.N, _)
theorem idxB : ∀ t : Fin cfg0.N, (win0_6.index t 0 = 0 ∧ win0_6.index t 1 = t.val % 11) ∧ (win0_7.index t 0 = 0 ∧ win0_7.index t 1 = t.val % 11) ∧ (win0_8.index t 0 = t.val % 11 ∧ win0_8.index t 1 = 0) :=
  (by decide +kernel : ∀ t : Fin grid0.N, _)
theorem idxC : ∀ t : Fin cfg0.N, (win0_3.index t 0 = 0 ∧ win0_3.index t 1 = 0) ∧ (win0_4.index t 0 = 0 ∧ win0_4.index t 1 = 0) ∧ (win0_5.index t 0 = 0 ∧ win0_5.index t 1 = 0) ∧ (win0_9.index t 0 = 0 ∧ win0_9.index t 1 = 0) :=
  (by decide +kernel : ∀ t : Fin grid0.N, _)

theorem iblk0 (t : Fin cfg0.N) (r : Fin 512) (e : Fin 2048) : (iblk m c 0 t : Vec Ideal S512x2048 .f32) (ix2 r e) = (V m c main_v0 : Vec Ideal S16384x2048 .f32) (ix2 (row t r) e) := by
  unfold iblk; rw [View.read_apply]
  show (V m c main_v0 : Vec Ideal S16384x2048 .f32) _ = _
  congr 1; funext a; apply Fin.ext
  obtain ⟨⟨h0, h1⟩, -, -⟩ := idxA t
  match a with
  | ⟨0, _⟩ => show win0_0.index t 0 * 512 + 1 * r.val = 512 * (t.val / 11) + r.val; rw [h0]; omega
  | ⟨1, _⟩ => show win0_0.index t 1 * 2048 + 1 * e.val = e.val; rw [h1]; omega
theorem iblk1 (t : Fin cfg0.N) (r : Fin 512) (e : Fin 1024) : (iblk m c 1 t : Vec Ideal S512x1024 .bf16) (ix2 r e) = (V m c main_v1 : Vec Ideal S16384x1024 .bf16) (ix2 (row t r) e) := by
  unfold iblk; rw [View.read_apply]
  show (V m c main_v1 : Vec Ideal S16384x1024 .bf16) _ = _
  congr 1; funext a; apply Fin.ext
  obtain ⟨-, ⟨h0, h1⟩, -⟩ := idxA t
  match a with
  | ⟨0, _⟩ => show win0_1.index t 0 * 512 + 1 * r.val = 512 * (t.val / 11) + r.val; rw [h0]; omega
  | ⟨1, _⟩ => show win0_1.index t 1 * 1024 + 1 * e.val = e.val; rw [h1]; omega
theorem iblk2 (t : Fin cfg0.N) (r : Fin 512) (e : Fin 1024) : (iblk m c 2 t : Vec Ideal S512x1024 .bf16) (ix2 r e) = (V m c main_v2 : Vec Ideal S16384x1024 .bf16) (ix2 (row t r) e) := by
  unfold iblk; rw [View.read_apply]
  show (V m c main_v2 : Vec Ideal S16384x1024 .bf16) _ = _
  congr 1; funext a; apply Fin.ext
  obtain ⟨-, -, h0, h1⟩ := idxA t
  match a with
  | ⟨0, _⟩ => show win0_2.index t 0 * 512 + 1 * r.val = 512 * (t.val / 11) + r.val; rw [h0]; omega
  | ⟨1, _⟩ => show win0_2.index t 1 * 1024 + 1 * e.val = e.val; rw [h1]; omega
theorem iblk3 (t : Fin cfg0.N) (r : Fin 1024) (e : Fin 2048) : (iblk m c 3 t : Vec Ideal S1024x2048 .bf16) (ix2 r e) = (V m c main_v5 : Vec Ideal S1024x2048 .bf16) (ix2 r e) := by
  unfold iblk; rw [View.read_apply]
  show (V m c main_v5 : Vec Ideal S1024x2048 .bf16) _ = _
  congr 1; funext a; apply Fin.ext
  obtain ⟨⟨h0, h1⟩, -, -, -⟩ := idxC t
  match a with
  | ⟨0, _⟩ => show win0_3.index t 0 * 1024 + 1 * r.val = r.val; rw [h0]; omega
  | ⟨1, _⟩ => show win0_3.index t 1 * 2048 + 1 * e.val = e.val; rw [h1]; omega
theorem iblk4 (t : Fin cfg0.N) (r : Fin 1024) (e : Fin 2048) : (iblk m c 4 t : Vec Ideal S1024x2048 .bf16) (ix2 r e) = (V m c main_v8 : Vec Ideal S1024x2048 .bf16) (ix2 r e) := by
  unfold iblk; rw [View.read_apply]
  show (V m c main_v8 : Vec Ideal S1024x2048 .bf16) _ = _
  congr 1; funext a; apply Fin.ext
  obtain ⟨-, ⟨h0, h1⟩, -, -⟩ := idxC t
  match a with
  | ⟨0, _⟩ => show win0_4.index t 0 * 1024 + 1 * r.val = r.val; rw [h0]; omega
  | ⟨1, _⟩ => show win0_4.index t 1 * 2048 + 1 * e.val = e.val; rw [h1]; omega
theorem iblk5 (t : Fin cfg0.N) (e : Fin 2048) : (iblk m c 5 t : Vec Ideal S1x2048 .f32) (ix2 (0 : Fin 1) e) = (V m c main_v10 : Vec Ideal S1x2048 .f32) (ix2 (0 : Fin 1) e) := by
  unfold iblk; rw [View.read_apply]
  show (V m c main_v10 : Vec Ideal S1x2048 .f32) _ = _
  congr 1; funext a; apply Fin.ext
  obtain ⟨-, -, ⟨h0, h1⟩, -⟩ := idxC t
  match a with
  | ⟨0, _⟩ => show win0_5.index t 0 * 1 + 1 * 0 = 0; rw [h0]
  | ⟨1, _⟩ => show win0_5.index t 1 * 2048 + 1 * e.val = e.val; rw [h1]; omega
theorem iblk6 (t : Fin cfg0.N) (k : Fin 2048) (j : Fin 512) : (iblk m c 6 t : Vec Ideal S2048x512 .bf16) (ix2 k j) = (V m c main_v12 : Vec Ideal S2048x5632 .bf16) (ix2 k (col t j)) := by
  unfold iblk; rw [View.read_apply]
  show (V m c main_v12 : Vec Ideal S2048x5632 .bf16) _ = _
  congr 1; funext a; apply Fin.ext
  obtain ⟨⟨h0, h1⟩, -, -⟩ := idxB t
  match a with
  | ⟨0, _⟩ => show win0_6.index t 0 * 2048 + 1 * k.val = k.val; rw [h0]; omega
  | ⟨1, _⟩ => show win0_6.index t 1 * 512 + 1 * j.val = 512 * (t.val % 11) + j.val; rw [h1]; omega
theorem iblk7 (t : Fin cfg0.N) (k : Fin 2048) (j : Fin 512) : (iblk m c 7 t : Vec Ideal S2048x512 .bf16) (ix2 k j) = (V m c main_v14 : Vec Ideal S2048x5632 .bf16) (ix2 k (col t j)) := by
  unfold iblk; rw [View.read_apply]
  show (V m c main_v14 : Vec Ideal S2048x5632 .bf16) _ = _
  congr 1; funext a; apply Fin.ext
  obtain ⟨-, ⟨h0, h1⟩, -⟩ := idxB t
  match a with
  | ⟨0, _⟩ => show win0_7.index t 0 * 2048 + 1 * k.val = k.val; rw [h0]; omega
  | ⟨1, _⟩ => show win0_7.index t 1 * 512 + 1 * j.val = 512 * (t.val % 11) + j.val; rw [h1]; omega
theorem iblk8 (t : Fin cfg0.N) (j : Fin 512) (e : Fin 2048) : (iblk m c 8 t : Vec Ideal S512x2048 .bf16) (ix2 j e) = (V m c main_v16 : Vec Ideal S5632x2048 .bf16) (ix2 (col t j) e) := by
  unfold iblk; rw [View.read_apply]
  show (V m c main_v16 : Vec Ideal S5632x2048 .bf16) _ = _
  congr 1; funext a; apply Fin.ext
  obtain ⟨-, -, h0, h1⟩ := idxB t
  match a with
  | ⟨0, _⟩ => show win0_8.index t 0 * 512 + 1 * j.val = 512 * (t.val % 11) + j.val; rw [h0]; omega
  | ⟨1, _⟩ => show win0_8.index t 1 * 2048 + 1 * e.val = e.val; rw [h1]; omega
theorem iblk9 (t : Fin cfg0.N) (e : Fin 2048) : (iblk m c 9 t : Vec Ideal S1x2048 .f32) (ix2 (0 : Fin 1) e) = (V m c main_v17 : Vec Ideal S1x2048 .f32) (ix2 (0 : Fin 1) e) := by
  unfold iblk; rw [View.read_apply]
  show (V m c main_v17 : Vec Ideal S1x2048 .f32) _ = _
  congr 1; funext a; apply Fin.ext
  obtain ⟨-, -, -, h0, h1⟩ := idxC t
  match a with
  | ⟨0, _⟩ => show win0_9.index t 0 * 1 + 1 * 0 = 0; rw [h0]
  | ⟨1, _⟩ => show win0_9.index t 1 * 2048 + 1 * e.val = e.val; rw [h1]; omega

/-! ## The blocks as the arguments -/

theorem blk0 (t : Fin cfg0.N) (r : Fin 512) (e : Fin 2048) : (iblk m c 0 t : Vec Ideal S512x2048 .f32) (ix2 r e) = (arg m c main_arg0 : Vec Ideal S8x2048x2048 .f32) (ix3 (bl (row t r)).1 (bl (row t r)).2 e) :=
  (iblk0 m c t r e).trans (V0_apply m c _ e)
theorem blk1 (t : Fin cfg0.N) (r : Fin 512) (e : Fin 1024) : (iblk m c 1 t : Vec Ideal S512x1024 .bf16) (ix2 r e) = (arg m c main_arg1 : Vec Ideal S8x2048x1024 .bf16) (ix3 (bl (row t r)).1 (bl (row t r)).2 e) :=
  (iblk1 m c t r e).trans (V1_apply m c _ e)
theorem blk2 (t : Fin cfg0.N) (r : Fin 512) (e : Fin 1024) : (iblk m c 2 t : Vec Ideal S512x1024 .bf16) (ix2 r e) = (arg m c main_arg2 : Vec Ideal S8x2048x1024 .bf16) (ix3 (bl (row t r)).1 (bl (row t r)).2 e) :=
  (iblk2 m c t r e).trans (V2_apply m c _ e)
theorem blk3 (t : Fin cfg0.N) (k : Fin 1024) (e : Fin 2048) : (iblk m c 3 t : Vec Ideal S1024x2048 .bf16) (ix2 k e) = (arg m c main_arg3 : Vec Ideal S1x2048x2048 .f32) (ix3 (0 : Fin 1) (⟨k.val, by omega⟩ : Fin 2048) e) :=
  (iblk3 m c t k e).trans (V3_apply m c k e)
theorem blk4 (t : Fin cfg0.N) (k : Fin 1024) (e : Fin 2048) : (iblk m c 4 t : Vec Ideal S1024x2048 .bf16) (ix2 k e) = (arg m c main_arg3 : Vec Ideal S1x2048x2048 .f32) (ix3 (0 : Fin 1) (⟨1024 + k.val, by omega⟩ : Fin 2048) e) :=
  (iblk4 m c t k e).trans (V4_apply m c k e)
theorem blk5 (t : Fin cfg0.N) (e : Fin 2048) : (iblk m c 5 t : Vec Ideal S1x2048 .f32) (ix2 (0 : Fin 1) e) = (arg m c main_arg4 : Vec Ideal S1x2048 .f32) (ix2 (0 : Fin 1) e) :=
  (iblk5 m c t e).trans (V5_apply m c e)
theorem blk6 (t : Fin cfg0.N) (k : Fin 2048) (j : Fin 512) : (iblk m c 6 t : Vec Ideal S2048x512 .bf16) (ix2 k j) = (arg m c main_arg5 : Vec Ideal S1x2048x5632 .f32) (ix3 (0 : Fin 1) k (col t j)) :=
  (iblk6 m c t k j).trans (V6_apply m c k _)
theorem blk7 (t : Fin cfg0.N) (k : Fin 2048) (j : Fin 512) : (iblk m c 7 t : Vec Ideal S2048x512 .bf16) (ix2 k j) = (arg m c main_arg6 : Vec Ideal S1x2048x5632 .f32) (ix3 (0 : Fin 1) k (col t j)) :=
  (iblk7 m c t k j).trans (V7_apply m c k _)
theorem blk8 (t : Fin cfg0.N) (j : Fin 512) (e : Fin 2048) : (iblk m c 8 t : Vec Ideal S512x2048 .bf16) (ix2 j e) = (arg m c main_arg7 : Vec Ideal S1x5632x2048 .f32) (ix3 (0 : Fin 1) (col t j) e) :=
  (iblk8 m c t j e).trans (V8_apply m c _ e)
theorem blk9 (t : Fin cfg0.N) (e : Fin 2048) : (iblk m c 9 t : Vec Ideal S1x2048 .f32) (ix2 (0 : Fin 1) e) = (arg m c main_arg8 : Vec Ideal S2048 .f32) (ix1 e) :=
  (iblk9 m c t e).trans (V9_apply m c e)

end Cert.FfnIdeal.Hand

end
-- ==== Proof.Ffn.Block.lean ====
/- The kernel's terms of the fused output projection and feed-forward read at one entry, over the extended
   reals: the residual row, the normalised row, one block of the hidden layer's contribution. -/
module

public import proofs.«01_k».proof.Proof.Gen.FfnIdeal.Skeleton
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.FfnMath

open Idealize.ShloMosaic
open scoped BigOperators

/-- The root-mean-square normalisation of a row of 2048 entries, scaled by `w`. -/
def rms (h w : Fin 2048 → EReal) (e : Fin 2048) : EReal :=
  h e * Ideal.rsqrt (Ideal.div (∑ k, h k * h k) (Ideal.ofBits .f32 0x45000000#32) + Ideal.ofBits .f32 0x358637BD#32) * w e

/-- `g · sigmoid(g)`. -/
def silu (g : EReal) : EReal := g * Ideal.div (Ideal.ofBits .f32 0x3F800000#32) (Ideal.ofBits .f32 0x3F800000#32 + Ideal.exp (-g))

/-- One unit of the hidden layer at a normalised row: `silu(⟨hn, g⟩) · ⟨hn, u⟩`. -/
def unit (hn g u : Fin 2048 → EReal) : EReal := silu (∑ k, hn k * g k) * ∑ k, hn k * u k

/-- The residual row: the input plus the two mixers' halves of the output projection. -/
def res (x : Fin 2048 → EReal) (a b : Fin 1024 → EReal) (wa wb : Fin 1024 → Fin 2048 → EReal) (e : Fin 2048) : EReal :=
  x e + ((∑ k, a k * wa k e) + ∑ k, b k * wb k e)

end Cert.FfnMath

namespace Cert.FfnIdeal.Hand

open Cert.FfnIdeal Cert.FfnIdeal.Gen Cert.FfnMath Idealize.ShloMosaic Idealize.ShloMosaic.ValueIdx
open scoped BigOperators

theorem dotA_eq : dot_S512x1024_S1024x2048_S512x2048_1_0_0_1_n_n = DotDims.plain 512 1024 2048 := rfl
theorem dotG_eq : dot_S512x2048_S2048x512_S512x512_1_0_0_1_n_n = DotDims.plain 512 2048 512 := rfl
theorem dotD_eq : dot_S512x512_S512x2048_S512x2048_1_0_0_1_n_n = DotDims.plain 512 512 2048 := rfl

/-- A column of 512 entries broadcast over 2048 columns reads its own row. -/
theorem bcol_apply (v : FVec Ideal S512x1 .f32) (r : Fin 512) (e : Fin 2048) :
    broadcastTo S512x2048 v broadcasts_S512x1_S512x2048 (ix2 r e) = v (ix2 r (0 : Fin 1)) := by
  refine broadcastTo_apply v broadcasts_S512x1_S512x2048 (ix2 r e) (ix2 r (0 : Fin 1)) fun ax => ?_
  match ax with
  | ⟨0, _⟩ => rfl
  | ⟨1, _⟩ => rfl

/-- The sum along a row. -/
theorem rowsum_apply (x : FVec Ideal S512x2048 .f32) (r : Fin 512) :
    multiReduction .add [1] S512 x 0x00000000#32 reduces_S512x2048_S512 (.inl rfl) rfl (ix1 r) = ∑ k : Fin 2048, x (ix2 r k) := by
  refine (Ideal.multiReduction_add_single x _ reduces_S512x2048_S512 (.inl rfl) rfl (ix1 r)).trans ?_
  refine Finset.sum_congr rfl fun k _ => congrArg x ?_
  funext a
  match a with
  | ⟨0, _⟩ => rfl
  | ⟨1, _⟩ => rfl

/-- The residual block, entry by entry. -/
theorem pay1_apply (a : FVec Ideal S512x1024 .bf16) (wa : FVec Ideal S1024x2048 .bf16) (b : FVec Ideal S512x1024 .bf16)
    (wb : FVec Ideal S1024x2048 .bf16) (x : FVec Ideal S512x2048 .f32) (r : Fin 512) (e : Fin 2048) :
    k0_pay1 (F := Ideal) a wa b wb x (ix2 r e)
      = res (fun k => x (ix2 r k)) (fun k => a (ix2 r k)) (fun k => b (ix2 r k)) (fun k e => wa (ix2 k e)) (fun k e => wb (ix2 k e)) e := by
  unfold k0_pay1 res
  simp only [shapeCast_self, addf_apply, dotA_eq, matmul]
  rw [Ideal.matmul_plain_apply, Ideal.matmul_plain_apply]
  simp only [constant_apply, Ideal.ofBits_zero_f32, zero_add]

theorem pay2_eq (a : FVec Ideal S512x1024 .bf16) (wa : FVec Ideal S1024x2048 .bf16) (b : FVec Ideal S512x1024 .bf16)
    (wb : FVec Ideal S1024x2048 .bf16) (x : FVec Ideal S512x2048 .f32) :
    k0_pay2 (F := Ideal) a wa b wb x = k0_pay1 a wa b wb x := by
  unfold k0_pay2; simp only [shapeCast_self]

/-- The normalised residual block. -/
theorem pay3_apply (a : FVec Ideal S512x1024 .bf16) (wa : FVec Ideal S1024x2048 .bf16) (b : FVec Ideal S512x1024 .bf16)
    (wb : FVec Ideal S1024x2048 .bf16) (x : FVec Ideal S512x2048 .f32) (w : FVec Ideal S1x2048 .f32) (r : Fin 512) (e : Fin 2048) :
    k0_pay3 (F := Ideal) a wa b wb x w (ix2 r e)
      = rms (fun k => k0_pay1 (F := Ideal) a wa b wb x (ix2 r k)) (fun k => w (ix2 (0 : Fin 1) k)) e := by
  unfold k0_pay3 rms
  simp only [shapeCast_self, truncf_apply, mulf_apply, bcol_apply, broadcastTo_1b_ab_apply]
  congr 2
  show Ideal.rsqrt (Ideal.div _ _ + _) = _
  rw [shapeCast_a_a1_apply, rowsum_apply]
  rfl

/-- One block of the hidden layer added to what the accumulator holds. -/
theorem pay4_apply (hn : FVec Ideal S512x2048 .bf16) (g u : FVec Ideal S2048x512 .bf16) (acc : FVec Ideal S512x2048 .f32)
    (d : FVec Ideal S512x2048 .bf16) (r : Fin 512) (e : Fin 2048) :
    k0_pay4 (F := Ideal) hn g u acc d (ix2 r e)
      = acc (ix2 r e) + ∑ j : Fin 512, unit (fun k => hn (ix2 r k)) (fun k => g (ix2 k j)) (fun k => u (ix2 k j)) * d (ix2 j e) := by
  unfold k0_pay4 unit silu
  simp only [shapeCast_self, addf_apply, dotG_eq, dotD_eq, matmul]
  rw [Ideal.matmul_plain_apply]
  simp only [constant_apply, Ideal.ofBits_zero_f32, zero_add, truncf_apply, mulf_apply, divf_apply, addf_apply, broadcast_apply]
  refine congrArg (acc (ix2 r e) + ·) (Finset.sum_congr rfl fun j _ => ?_)
  rw [Ideal.matmul_plain_apply, Ideal.matmul_plain_apply]
  simp only [constant_apply, Ideal.ofBits_zero_f32, zero_add]
  have hexp : ∀ v : FVec Ideal S512x512 .f32, exp v (ix2 r j) = Ideal.exp (v (ix2 r j)) := fun _ => rfl
  rw [hexp, subf_apply, Ideal.matmul_plain_apply]
  simp only [constant_apply, Ideal.ofBits_zero_f32, zero_add, broadcast_apply]
  have h0 : (Scalar.ofBits .f32 0x00000000#32 : Ideal .f32) = (0 : EReal) := Ideal.ofBits_zero_f32
  rw [h0, zero_sub]
  rfl

/-- The normalised total. -/
theorem pay5_apply (y : FVec Ideal S512x2048 .f32) (w : FVec Ideal S1x2048 .f32) (r : Fin 512) (e : Fin 2048) :
    k0_pay5 (F := Ideal) y w (ix2 r e) = rms (fun k => y (ix2 r k)) (fun k => w (ix2 (0 : Fin 1) k)) e := by
  unfold k0_pay5 rms
  simp only [shapeCast_self, mulf_apply, bcol_apply, broadcastTo_1b_ab_apply]
  congr 2
  show Ideal.rsqrt (Ideal.div _ _ + _) = _
  rw [shapeCast_a_a1_apply, rowsum_apply]
  rfl

end Cert.FfnIdeal.Hand

end
-- ==== Proof.Ffn.Ref.lean ====
/- What the reference of the output projection and feed-forward computes, entry by entry, over the extended reals. -/
module

public import proofs.«01_k».proof.Proof.Gen.FfnRefIdeal.Read
public import proofs.«01_k».proof.Proof.Ffn.Block

@[expose] public section

noncomputable section

namespace Cert.FfnRefIdeal.Hand

open Cert.FfnRefIdeal Cert.FfnRefIdeal.Read Cert.FfnMath Idealize.ShloMosaic Idealize.ShloMosaic.ValueIdx
open scoped BigOperators

variable (x0 : FVec Ideal S8x2048x2048 .f32) (x1 x2 : FVec Ideal S8x2048x1024 .bf16) (x3 : FVec Ideal S1x2048x2048 .f32)
  (x4 : FVec Ideal S1x2048 .f32) (x5 x6 : FVec Ideal S1x2048x5632 .f32) (x7 : FVec Ideal S1x5632x2048 .f32) (x8 : FVec Ideal S2048 .f32)

/-- The residual row of token `(b, l)`: the input plus the output projection of the two mixers' rows side by side. -/
def H (b : Fin 8) (l : Fin 2048) : Fin 2048 → EReal :=
  res (fun k => x0 (ix3 b l k)) (fun k => x1 (ix3 b l k)) (fun k => x2 (ix3 b l k))
    (fun k e => x3 (ix3 (0 : Fin 1) (⟨k.val, by omega⟩ : Fin 2048) e)) (fun k e => x3 (ix3 (0 : Fin 1) (⟨1024 + k.val, by omega⟩ : Fin 2048) e))

/-- The normalised residual row. -/
def HN (b : Fin 8) (l : Fin 2048) : Fin 2048 → EReal := rms (H x0 x1 x2 x3 b l) (fun k => x4 (ix2 (0 : Fin 1) k))

/-- The contribution of hidden unit `n` to entry `e`. -/
def term (b : Fin 8) (l : Fin 2048) (e : Fin 2048) (n : Fin 5632) : EReal :=
  unit (HN x0 x1 x2 x3 x4 b l) (fun k => x5 (ix3 (0 : Fin 1) k n)) (fun k => x6 (ix3 (0 : Fin 1) k n)) * x7 (ix3 (0 : Fin 1) n e)

/-- The row before the final normalisation. -/
def Y (b : Fin 8) (l : Fin 2048) (e : Fin 2048) : EReal := H x0 x1 x2 x3 b l e + ∑ n, term x0 x1 x2 x3 x4 x5 x6 x7 b l e n

theorem sum_split (f : Fin 2048 → EReal) :
    ∑ k, f k = (∑ k : Fin 1024, f ⟨k.val, by omega⟩) + ∑ k : Fin 1024, f ⟨1024 + k.val, by omega⟩ := by
  exact Fin.sum_univ_add (a := 1024) (b := 1024) f

theorem v2_left (b : Fin 8) (l : Fin 2048) (k : Fin 1024) :
    val_main_v2 (F := Ideal) x1 x2 (ix3 b l (⟨k.val, by omega⟩ : Fin 2048)) = x1 (ix3 b l k) := by
  unfold val_main_v2
  refine (concatenate_pair_apply_left (t := S8x2048x2048) (s₁ := S8x2048x1024) (s₂ := S8x2048x1024) 2 _ _ _ _ rfl (ix3 b l k) fun a => ?_).trans (val_main_v0_apply (F := Ideal) _ _)
  match a with
  | ⟨0, _⟩ => rfl
  | ⟨1, _⟩ => rfl
  | ⟨2, _⟩ => rfl

theorem v2_right (b : Fin 8) (l : Fin 2048) (k : Fin 1024) :
    val_main_v2 (F := Ideal) x1 x2 (ix3 b l (⟨1024 + k.val, by omega⟩ : Fin 2048)) = x2 (ix3 b l k) := by
  unfold val_main_v2
  refine (concatenate_pair_apply_right (t := S8x2048x2048) (s₁ := S8x2048x1024) (s₂ := S8x2048x1024) 2 _ _ _ _ rfl rfl (ix3 b l k) (fun a ha => ?_) (Nat.add_comm _ _)).trans (val_main_v1_apply (F := Ideal) _ _)
  match a with
  | ⟨0, _⟩ => rfl
  | ⟨1, _⟩ => rfl
  | ⟨2, _⟩ => exact absurd rfl ha

theorem v3_at (k e : Fin 2048) : val_main_v3 (F := Ideal) x3 (ix2 k e) = x3 (ix3 (0 : Fin 1) k e) := by
  unfold val_main_v3; exact shapeCast_1ab_ab_apply _ _ k e
theorem v20_at (k : Fin 2048) (e : Fin 5632) : val_main_v20 (F := Ideal) x5 (ix2 k e) = x5 (ix3 (0 : Fin 1) k e) := by
  unfold val_main_v20; exact shapeCast_1ab_ab_apply _ _ k e
theorem v23_at (k : Fin 2048) (e : Fin 5632) : val_main_v23 (F := Ideal) x6 (ix2 k e) = x6 (ix3 (0 : Fin 1) k e) := by
  unfold val_main_v23; exact shapeCast_1ab_ab_apply _ _ k e
theorem v26_at (k : Fin 5632) (e : Fin 2048) : val_main_v26 (F := Ideal) x7 (ix2 k e) = x7 (ix3 (0 : Fin 1) k e) := by
  unfold val_main_v26; exact shapeCast_1ab_ab_apply _ _ k e

theorem l4 (b : Fin 8) (l e : Fin 2048) (k : Fin 2048) : lidx_main_v4 (ix3 b l e) k = ix3 b l k := by
  funext a; match a with | ⟨0, _⟩ => rfl | ⟨1, _⟩ => rfl | ⟨2, _⟩ => rfl
theorem r4 (b : Fin 8) (l e : Fin 2048) (k : Fin 2048) : ridx_main_v4 (ix3 b l e) k = ix2 k e := by
  funext a; match a with | ⟨0, _⟩ => rfl | ⟨1, _⟩ => rfl
theorem l21 (b : Fin 8) (l : Fin 2048) (e : Fin 5632) (k : Fin 2048) : lidx_main_v21 (ix3 b l e) k = ix3 b l k := by
  funext a; match a with | ⟨0, _⟩ => rfl | ⟨1, _⟩ => rfl | ⟨2, _⟩ => rfl
theorem r21 (b : Fin 8) (l : Fin 2048) (e : Fin 5632) (k : Fin 2048) : ridx_main_v21 (ix3 b l e) k = ix2 k e := by
  funext a; match a with | ⟨0, _⟩ => rfl | ⟨1, _⟩ => rfl
theorem l24 (b : Fin 8) (l : Fin 2048) (e : Fin 5632) (k : Fin 2048) : lidx_main_v24 (ix3 b l e) k = ix3 b l k := by
  funext a; match a with | ⟨0, _⟩ => rfl | ⟨1, _⟩ => rfl | ⟨2, _⟩ => rfl
theorem r24 (b : Fin 8) (l : Fin 2048) (e : Fin 5632) (k : Fin 2048) : ridx_main_v24 (ix3 b l e) k = ix2 k e := by
  funext a; match a with | ⟨0, _⟩ => rfl | ⟨1, _⟩ => rfl
theorem l27 (b : Fin 8) (l e : Fin 2048) (k : Fin 5632) : lidx_main_v27 (ix3 b l e) k = ix3 b l k := by
  funext a; match a with | ⟨0, _⟩ => rfl | ⟨1, _⟩ => rfl | ⟨2, _⟩ => rfl
theorem r27 (b : Fin 8) (l e : Fin 2048) (k : Fin 5632) : ridx_main_v27 (ix3 b l e) k = ix2 k e := by
  funext a; match a with | ⟨0, _⟩ => rfl | ⟨1, _⟩ => rfl
theorem i8 (b : Fin 8) (l e : Fin 2048) : idx_main_v8 (ix2 b l) e = ix3 b l e := by
  funext a; match a with | ⟨0, _⟩ => rfl | ⟨1, _⟩ => rfl | ⟨2, _⟩ => rfl
theorem i30 (b : Fin 8) (l e : Fin 2048) : idx_main_v30 (ix2 b l) e = ix3 b l e := by
  funext a; match a with | ⟨0, _⟩ => rfl | ⟨1, _⟩ => rfl | ⟨2, _⟩ => rfl
theorem i9 (b : Fin 8) (l e : Fin 2048) : idx_main_v9 (idx_main_v15 (ix3 b l e)) = ix2 b l := by
  funext a; match a with | ⟨0, _⟩ => rfl | ⟨1, _⟩ => rfl
theorem i31 (b : Fin 8) (l e : Fin 2048) : idx_main_v31 (idx_main_v37 (ix3 b l e)) = ix2 b l := by
  funext a; match a with | ⟨0, _⟩ => rfl | ⟨1, _⟩ => rfl
theorem i17 (b : Fin 8) (l e : Fin 2048) : idx_main_v17 (idx_main_v18 (ix3 b l e)) = ix1 e := by
  funext a; match a with | ⟨0, _⟩ => rfl
theorem i39 (b : Fin 8) (l e : Fin 2048) : idx_main_v39 (idx_main_v40 (ix3 b l e)) = ix1 e := by
  funext a; match a with | ⟨0, _⟩ => rfl

theorem v6_at (e : Fin 2048) : val_main_v6 (F := Ideal) x4 (ix1 e) = x4 (ix2 (0 : Fin 1) e) := by
  unfold val_main_v6; exact shapeCast_1a_a_apply _ _ e

theorem v5_at (b : Fin 8) (l e : Fin 2048) : val_main_v5 (F := Ideal) x0 x1 x2 x3 (ix3 b l e) = H x0 x1 x2 x3 b l e := by
  rw [val_main_v5_apply]; unfold H res
  show x0 _ + _ = _
  congr 1
  rw [val_main_v4_apply, sum_split]
  simp only [l4, r4, v2_left, v2_right, v3_at]

theorem zero_bits : (FloatOps.ofBits (F := Ideal) .f32 0x00000000#32 : Ideal .f32) = (0 : EReal) := Ideal.ofBits_zero_f32

theorem v8_at (b : Fin 8) (l : Fin 2048) : val_main_v8 (F := Ideal) x0 x1 x2 x3 (ix2 b l) = ∑ k, H x0 x1 x2 x3 b l k * H x0 x1 x2 x3 b l k := by
  rw [val_main_v8_apply, val_main_cst_apply, zero_bits]
  refine (zero_add _).trans (Finset.sum_congr rfl fun k _ => ?_)
  rw [i8, val_main_v7_apply, v5_at]; rfl

theorem v19_at (b : Fin 8) (l e : Fin 2048) : val_main_v19 (F := Ideal) x0 x1 x2 x3 x4 (ix3 b l e) = HN x0 x1 x2 x3 x4 b l e := by
  rw [val_main_v19_apply, val_main_v16_apply, val_main_v15_apply, val_main_v14_apply, val_main_v13_apply, val_main_v12_apply,
    val_main_v11_apply, val_main_v10_apply, val_main_v9_apply, val_main_v18_apply, val_main_v17_apply, i9, i17, v6_at, v8_at, v5_at,
    val_main_cst_0_apply, val_main_cst_1_apply]
  rfl

theorem v21_at (b : Fin 8) (l : Fin 2048) (n : Fin 5632) :
    val_main_v21 (F := Ideal) x0 x1 x2 x3 x4 x5 (ix3 b l n) = ∑ k, HN x0 x1 x2 x3 x4 b l k * x5 (ix3 (0 : Fin 1) k n) := by
  rw [val_main_v21_apply]; simp only [l21, r21, v19_at, v20_at]
theorem v24_at (b : Fin 8) (l : Fin 2048) (n : Fin 5632) :
    val_main_v24 (F := Ideal) x0 x1 x2 x3 x4 x6 (ix3 b l n) = ∑ k, HN x0 x1 x2 x3 x4 b l k * x6 (ix3 (0 : Fin 1) k n) := by
  rw [val_main_v24_apply]; simp only [l24, r24, v19_at, v23_at]

theorem v25_at (b : Fin 8) (l : Fin 2048) (n : Fin 5632) :
    val_main_v25 (F := Ideal) x0 x1 x2 x3 x4 x5 x6 (ix3 b l n)
      = unit (HN x0 x1 x2 x3 x4 b l) (fun k => x5 (ix3 (0 : Fin 1) k n)) (fun k => x6 (ix3 (0 : Fin 1) k n)) := by
  rw [val_main_v25_apply, val_main_v22_apply, val_main_call0_v5_apply, val_main_call0_v4_apply, val_main_call0_v3_apply,
    val_main_call0_v2_apply, val_main_call0_v1_apply, val_main_call0_v0_apply, v21_at, v24_at]
  rfl

theorem v28_at (b : Fin 8) (l e : Fin 2048) : val_main_v28 (F := Ideal) x0 x1 x2 x3 x4 x5 x6 x7 (ix3 b l e) = Y x0 x1 x2 x3 x4 x5 x6 x7 b l e := by
  rw [val_main_v28_apply, val_main_v27_apply, v5_at]
  unfold Y term
  show _ + _ = _
  simp only [l27, r27, v25_at, v26_at]

theorem v30_at (b : Fin 8) (l : Fin 2048) : val_main_v30 (F := Ideal) x0 x1 x2 x3 x4 x5 x6 x7 (ix2 b l)
    = ∑ k, Y x0 x1 x2 x3 x4 x5 x6 x7 b l k * Y x0 x1 x2 x3 x4 x5 x6 x7 b l k := by
  rw [val_main_v30_apply, val_main_cst_2_apply, zero_bits]
  refine (zero_add _).trans (Finset.sum_congr rfl fun k _ => ?_)
  rw [i30, val_main_v29_apply, v28_at]; rfl

theorem v41_at (b : Fin 8) (l e : Fin 2048) : val_main_v41 (F := Ideal) x0 x1 x2 x3 x4 x5 x6 x7 x8 (ix3 b l e)
    = rms (Y x0 x1 x2 x3 x4 x5 x6 x7 b l) (fun k => x8 (ix1 k)) e := by
  rw [val_main_v41_apply, val_main_v38_apply, val_main_v37_apply, val_main_v36_apply, val_main_v35_apply, val_main_v34_apply,
    val_main_v33_apply, val_main_v32_apply, val_main_v31_apply, val_main_v40_apply, val_main_v39_apply, i31, i39, v30_at, v28_at,
    val_main_cst_3_apply, val_main_cst_4_apply]
  rfl

/-- The reference's result at row `n` of the flattened tokens. -/
theorem v42_at (n : Fin 16384) (e : Fin 2048) : val_main_v42 (F := Ideal) x0 x1 x2 x3 x4 x5 x6 x7 x8 (ix2 n e)
    = rms (Y x0 x1 x2 x3 x4 x5 x6 x7 ⟨n.val / 2048, by omega⟩ ⟨n.val % 2048, by omega⟩) (fun k => x8 (ix1 k)) e := by
  rw [← v41_at]
  unfold val_main_v42
  refine shapeCast_apply _ _ _ _ ?_
  rw [Shape.rowMajor_val_three, Shape.rowMajor_val_two]
  show (n.val / 2048 * 2048 + n.val % 2048) * 2048 + e.val = n.val * 2048 + e.val
  rw [Nat.div_add_mod' n.val 2048]

end Cert.FfnRefIdeal.Hand

end
-- ==== Proof.Ffn.Value.lean ====
/- What the two carried scratch buffers hold after each grid point of the output projection and feed-forward,
   and what the call's result is, entry by entry, over the extended reals. -/
module

public import proofs.«01_k».proof.Proof.Ffn.Case
public import proofs.«01_k».proof.Proof.Ffn.Arrays
public import proofs.«01_k».proof.Proof.Ffn.Ref

@[expose] public section

noncomputable section

namespace Cert.FfnIdeal.Hand

open Cert.FfnIdeal Cert.FfnIdeal.Gen Cert.FfnMath Idealize.ShloMosaic Idealize.ShloMosaic.TcCoe Idealize.SL.Sem
open Idealize.ShloMosaic.ValueIdx
open Cert.FfnRefIdeal.Hand (H HN term Y)
open scoped BigOperators

section
variable {F : FTy → Type} [FloatOps F]
variable (m : (ℓ : Loc nD τ sig) → Buf (Elt F) ℓ) (c : Dev nD) (t : Fin cfg0.N)

theorem acc_A (h0 : t.val % 11 = 0) (h1 : ¬t.val % 11 = 10) : (outsAt0 m c t.val t.isLt).2.1
    = k0_pay4 (k0_pay3 (iblk m c 1 t) (iblk m c 3 t) (iblk m c 2 t) (iblk m c 4 t) (iblk m c 0 t) (iblk m c 5 t)) (iblk m c 6 t) (iblk m c 7 t)
        (k0_pay2 (iblk m c 1 t) (iblk m c 3 t) (iblk m c 2 t) (iblk m c 4 t) (iblk m c 0 t)) (iblk m c 8 t) := by
  rw [outsAt0_A m c t h0 h1]; dsimp only; rw [sout0_A_0_eq]
theorem hn_A (h0 : t.val % 11 = 0) (h1 : ¬t.val % 11 = 10) : (outsAt0 m c t.val t.isLt).2.2
    = k0_pay3 (iblk m c 1 t) (iblk m c 3 t) (iblk m c 2 t) (iblk m c 4 t) (iblk m c 0 t) (iblk m c 5 t) := by
  rw [outsAt0_A m c t h0 h1]; dsimp only; rw [sout0_A_1_eq]

theorem acc_BC (h0 : ¬t.val % 11 = 0) : (outsAt0 m c t.val t.isLt).2.1
    = k0_pay4 (outsAt0 m c (t.val - 1) (Nat.lt_of_le_of_lt (Nat.sub_le _ _) t.isLt)).2.2 (iblk m c 6 t) (iblk m c 7 t)
        (outsAt0 m c (t.val - 1) (Nat.lt_of_le_of_lt (Nat.sub_le _ _) t.isLt)).2.1 (iblk m c 8 t) := by
  by_cases h1 : t.val % 11 = 10
  · rw [outsAt0_C m c t h0 h1]; dsimp only; rw [sout0_C_0_eq]
  · rw [outsAt0_B m c t h0 h1]; dsimp only; rw [sout0_B_0_eq]
theorem hn_BC (h0 : ¬t.val % 11 = 0) : (outsAt0 m c t.val t.isLt).2.2
    = (outsAt0 m c (t.val - 1) (Nat.lt_of_le_of_lt (Nat.sub_le _ _) t.isLt)).2.2 := by
  by_cases h1 : t.val % 11 = 10
  · rw [outsAt0_C m c t h0 h1]; rfl
  · rw [outsAt0_B m c t h0 h1]; rfl
theorem out_C (h0 : ¬t.val % 11 = 0) (h1 : t.val % 11 = 10) : (outsAt0 m c t.val t.isLt).1
    = k0_pay5 (outsAt0 m c t.val t.isLt).2.1 (iblk m c 9 t) := by
  rw [acc_BC m c t h0, outsAt0_C m c t h0 h1]; dsimp only; rw [out0_C_10_eq]
end

variable (m : (ℓ : Loc nD τ sig) → Buf (Elt Ideal) ℓ) (c : Dev nD)

/-- The residual row, the normalised row, a hidden unit's contribution and the row before the final normalisation,
    of row `n` of the flattened tokens, at the program's arguments. -/
abbrev Hk (n : Fin 16384) : Fin 2048 → EReal := H (arg m c main_arg0) (arg m c main_arg1) (arg m c main_arg2) (arg m c main_arg3) (bl n).1 (bl n).2
abbrev HNk (n : Fin 16384) : Fin 2048 → EReal := HN (arg m c main_arg0) (arg m c main_arg1) (arg m c main_arg2) (arg m c main_arg3) (arg m c main_arg4) (bl n).1 (bl n).2
abbrev termk (n : Fin 16384) : Fin 2048 → Fin 5632 → EReal := term (arg m c main_arg0) (arg m c main_arg1) (arg m c main_arg2) (arg m c main_arg3) (arg m c main_arg4) (arg m c main_arg5) (arg m c main_arg6) (arg m c main_arg7) (bl n).1 (bl n).2
abbrev Yk (n : Fin 16384) : Fin 2048 → EReal := Y (arg m c main_arg0) (arg m c main_arg1) (arg m c main_arg2) (arg m c main_arg3) (arg m c main_arg4) (arg m c main_arg5) (arg m c main_arg6) (arg m c main_arg7) (bl n).1 (bl n).2

theorem pay1_blk (t : Fin cfg0.N) (r : Fin 512) (e : Fin 2048) :
    k0_pay1 (F := Ideal) (iblk m c 1 t) (iblk m c 3 t) (iblk m c 2 t) (iblk m c 4 t) (iblk m c 0 t) (ix2 r e) = Hk m c (row t r) e := by
  refine (pay1_apply _ _ _ _ _ r e).trans ?_
  simp only [blk0, blk1, blk2, blk3, blk4]
  rfl

theorem pay3_blk (t : Fin cfg0.N) (r : Fin 512) (e : Fin 2048) :
    k0_pay3 (F := Ideal) (iblk m c 1 t) (iblk m c 3 t) (iblk m c 2 t) (iblk m c 4 t) (iblk m c 0 t) (iblk m c 5 t) (ix2 r e) = HNk m c (row t r) e := by
  refine (pay3_apply _ _ _ _ _ _ r e).trans ?_
  simp only [pay1_blk, blk5]
  rfl

/-- A family on the hidden units, extended by zero to the natural numbers. -/
def ext (f : Fin 5632 → EReal) (k : ℕ) : EReal := if h : k < 5632 then f ⟨k, h⟩ else 0

theorem ext_col (f : Fin 5632 → EReal) (t : Fin cfg0.N) (j : Fin 512) : ext f (512 * (t.val % 11) + j.val) = f (col t j) :=
  dif_pos (col t j).isLt

/-- One block of hidden units over a normalised row and a carried sum. -/
theorem pay4_blk (t : Fin cfg0.N) (hn : FVec Ideal S512x2048 .bf16) (acc : FVec Ideal S512x2048 .f32) (r : Fin 512) (e : Fin 2048)
    (hh : ∀ k, hn (ix2 r k) = HNk m c (row t r) k) (S : EReal) (ha : acc (ix2 r e) = S) :
    k0_pay4 (F := Ideal) hn (iblk m c 6 t) (iblk m c 7 t) acc (iblk m c 8 t) (ix2 r e)
      = S + ∑ j ∈ Finset.range 512, ext (termk m c (row t r) e) (512 * (t.val % 11) + j) := by
  refine (pay4_apply _ _ _ _ _ r e).trans ?_
  rw [ha, Finset.sum_range]
  congr 1
  refine Finset.sum_congr rfl fun j _ => ?_
  rw [ext_col]
  simp only [hh, blk6, blk7, blk8]
  rfl

/-- After point `n` the second scratch holds the normalised rows, the first the residual rows plus the
    hidden units met so far. -/
theorem inv (n : ℕ) (hn : n < cfg0.N) (r : Fin 512) :
    (∀ e, (outsAt0 m c n hn).2.2 (ix2 r e) = HNk m c (row ⟨n, hn⟩ r) e)
    ∧ ∀ e, (outsAt0 m c n hn).2.1 (ix2 r e)
        = Hk m c (row ⟨n, hn⟩ r) e + ∑ k ∈ Finset.range (512 * (n % 11 + 1)), ext (termk m c (row ⟨n, hn⟩ r) e) k := by
  induction n using Nat.strong_induction_on with
  | _ n ih =>
    by_cases h0 : n % 11 = 0
    · have h1 : ¬n % 11 = 10 := by omega
      refine ⟨fun e => ?_, fun e => ?_⟩
      · rw [hn_A m c ⟨n, hn⟩ h0 h1]; exact pay3_blk m c ⟨n, hn⟩ r e
      · rw [acc_A m c ⟨n, hn⟩ h0 h1]
        refine (pay4_blk m c ⟨n, hn⟩ _ _ r e (fun k => pay3_blk m c ⟨n, hn⟩ r k) (Hk m c (row ⟨n, hn⟩ r) e) ?_).trans ?_
        · rw [pay2_eq]; exact pay1_blk m c ⟨n, hn⟩ r e
        · show _ + ∑ j ∈ Finset.range 512, ext _ (512 * (n % 11) + j) = _
          rw [h0]; simp only [Nat.mul_zero, Nat.zero_add, Nat.mul_one]
    · have hlt : n - 1 < n := by omega
      have hp : n - 1 < cfg0.N := Nat.lt_of_le_of_lt (Nat.sub_le _ _) hn
      obtain ⟨ihh, iha⟩ := ih (n - 1) hlt hp
      have hrow : row ⟨n - 1, hp⟩ r = row ⟨n, hn⟩ r := by
        apply Fin.ext; show 512 * ((n - 1) / 11) + r.val = 512 * (n / 11) + r.val
        have : (n - 1) / 11 = n / 11 := by omega
        rw [this]
      rw [hrow] at ihh iha
      refine ⟨fun e => ?_, fun e => ?_⟩
      · rw [hn_BC m c ⟨n, hn⟩ h0]; exact ihh e
      · rw [acc_BC m c ⟨n, hn⟩ h0]
        refine (pay4_blk m c ⟨n, hn⟩ _ _ r e ihh _ (iha e)).trans ?_
        have hm : (n - 1) % 11 + 1 = n % 11 := by omega
        show _ + ∑ j ∈ Finset.range 512, ext _ (512 * (n % 11) + j) = _
        rw [hm, add_assoc, ← Finset.sum_range_add, Nat.mul_add, Nat.mul_one]

theorem sum_ext (f : Fin 5632 → EReal) : ∑ k ∈ Finset.range (512 * (10 + 1)), ext f k = ∑ n, f n := by
  rw [Finset.sum_range]
  exact Finset.sum_congr rfl fun k _ => dif_pos k.isLt

/-- The call's result at row `n` of the flattened tokens. -/
theorem G10_at (n : Fin 16384) (e : Fin 2048) :
    (Value.G10 m c : Vec Ideal S16384x2048 .f32) (ix2 n e) = rms (Yk m c n) (fun k => (arg m c main_arg8 : Vec Ideal S2048 .f32) (ix1 k)) e := by
  have hN : cfg0.N = 352 := N_0
  have hn : 11 * (n.val / 512) + 10 < cfg0.N := by omega
  have hpt : (Value.pt10Of (ix2 n e)) = 11 * (n.val / 512) + 10 := by
    show 11 * (1 * (n.val / 512 - 0) + 1 * (e.val / 2048 - 0)) + 10 = _
    have : e.val / 2048 = 0 := Nat.div_eq_of_lt e.isLt
    omega
  have hG : (Value.G10 m c : Vec Ideal S16384x2048 .f32) (ix2 n e)
      = (outsAt0 m c (11 * (n.val / 512) + 10) hn).1 (ix2 (⟨n.val % 512, by omega⟩ : Fin 512) e) := by
    show (if h : Value.pt10Of (ix2 n e) < cfg0.N then _ else _) = _
    rw [dif_pos (by rw [hpt]; exact hn), Value.outsAt0_sweep]
    have hf := Value.fold0_congr m c _ (by rw [hpt]; omega) _ (by omega) hpt
    have hl : Value.loc10Of (ix2 n e) = ix2 (⟨n.val % 512, by omega⟩ : Fin 512) e := by
      funext a
      match a with
      | ⟨0, _⟩ => rfl
      | ⟨1, _⟩ => exact Fin.ext (Nat.mod_eq_of_lt e.isLt)
    rw [hf, hl]
  rw [hG]
  have h0 : ¬(11 * (n.val / 512) + 10) % 11 = 0 := by omega
  have h1 : (11 * (n.val / 512) + 10) % 11 = 10 := by omega
  have hrow : row ⟨11 * (n.val / 512) + 10, hn⟩ (⟨n.val % 512, by omega⟩ : Fin 512) = n := by
    apply Fin.ext; show 512 * ((11 * (n.val / 512) + 10) / 11) + n.val % 512 = n.val; omega
  rw [out_C m c ⟨_, hn⟩ h0 h1]
  refine (pay5_apply _ _ _ e).trans ?_
  have hY : ∀ k, (outsAt0 m c (11 * (n.val / 512) + 10) hn).2.1 (ix2 (⟨n.val % 512, by omega⟩ : Fin 512) k) = Yk m c n k := by
    intro k
    rw [(inv m c _ hn _).2 k, hrow, h1, sum_ext]
    rfl
  simp only [hY, blk9]

end Cert.FfnIdeal.Hand

end
-- ==== Proof.Ffn.Claim.lean ====
/- The claims about the output projection and feed-forward: the frames, and the equation of the kernel's result
   and the reference's over the extended reals. -/
module

public import proofs.«01_k».proof.Defs
public import proofs.«01_k».proof.Proof.Gen.Ffn.Frame
public import proofs.«01_k».proof.Proof.Gen.FfnIdeal.Frame
public import proofs.«01_k».proof.Proof.Gen.FfnRefIdeal.Run
public import proofs.«01_k».proof.Proof.Ffn.Value

@[expose] public section

noncomputable section

namespace Cert.Proof.Ffn

open Idealize.ShloMosaic Idealize.ShloMosaic.TcCoe Idealize.SL.Sem Idealize.ShloMosaic.ValueIdx

/-- The kernel's program runs and keeps its arguments. -/
theorem frame : Cert.quiescent_Ffn := fun m g _ => Cert.Ffn.Gen.frame m g
/-- So does its idealization. -/
theorem frame_ideal : Cert.quiescent_FfnIdeal := fun m g _ => Cert.FfnIdeal.Gen.frame m g
/-- So does the reference. -/
theorem frame_ref : Cert.quiescent_FfnRefIdeal := fun m g _ =>
  (θ_run Cert.FfnRefIdeal.defs _ _).mono (fun r h => ⟨fun c => (h c).2, sem_eq_zero_of_no_sems (by decide) r.2⟩)
    (Cert.FfnRefIdeal.Value.run (F := Ideal) m g)

/-- No operation is rewritten. -/
theorem preserves : Cert.preserves_Ffn_FfnIdeal := trivial

/-- Over the extended reals the kernel and the reference end with the same array. -/
theorem algebraic : Cert.algebraic_FfnIdeal_FfnRefIdeal := by
  intro m g m' g' _ hagree
  refine ⟨fun c => Cert.FfnIdeal.Value.G10 m c, Cert.FfnIdeal.Value.run (F := Ideal) m g, ?_⟩
  refine (θ_run Cert.FfnRefIdeal.defs _ _).mono (fun _ h c => ⟨(h c).1.trans ?_, (h c).2⟩) (Cert.FfnRefIdeal.Value.run (F := Ideal) m' g')
  rw [Cert.FfnRefIdeal.Read.val_main_v42_eq]
  obtain ⟨h0, h1, h2, h3, h4, h5, h6, h7, h8⟩ := hagree c
  rw [h0, h1, h2, h3, h4, h5, h6, h7, h8]
  funext i
  obtain ⟨n, e, rfl⟩ : ∃ (n : Fin 16384) (e : Fin 2048), i = ix2 n e := ⟨i 0, i 1, eq_ix2 i⟩
  exact (Cert.FfnRefIdeal.Hand.v42_at _ _ _ _ _ _ _ _ _ n e).trans (Cert.FfnIdeal.Hand.G10_at m c n e).symm

end Cert.Proof.Ffn

end
-- ==== Proof.Proj.Bits.Runs.lean ====
/- The projection program: what the runs of its body share. Nothing is said of what it computes. -/
module

public import proofs.«01_k».proof.Proof.Gen.Proj.Launch
public import proofs.«01_k».proof.Proof.Gen.Proj.Skeleton
public import proofs.«01_k».proof.Proof.Gen.Proj.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Proof.ProjBits

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S2048x7200`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk m c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = V m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S2048x7200.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Proj`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 4) — by arithmetic of the point. -/
theorem hcond0_0 : ∀ t : Fin cfg0.N, cond0_0 (grid0.coords t) ↔ t.val % 4 = 0 :=
  (fun t => by
    have ht : t.val < 64 := Nat.lt_of_lt_of_eq t.isLt N_0
    have e0 : (grid0.coords t 0).val = t.val / 4 % 16 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val % 4 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1792 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1792 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x2048 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Proof.ProjBits

end
-- ==== Proof.Proj.Bits.RunA.lean ====
/- The projection program: a run of its body at a point where its condition holds. Nothing is said of what it computes. -/
module

public import proofs.«01_k».proof.Proof.Proj.Bits.Runs

@[expose] public section

-- membership in a rectangle of production extents (`View.cover_of_tiled`): the elaborator's structural look
-- recurses once per coordinate of the long axes
set_option maxRecDepth 16384

noncomputable section

namespace Cert.Proof.ProjBits

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 4, … 60: 16 of 64): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S2048x128 .bf16) (harg5 : arg5.IsWhole) (arg6 : Memref sig .tc .vmem S1024x1792 .bf16) (harg6 : arg6.IsWhole) (arg7 : Memref sig .tc .vmem S1024x128 .f32) (harg7 : arg7.IsWhole) (arg8 : Memref sig .tc .vmem S1024x2048 .bf16) (harg8 : arg8.IsWhole) (hc0 : cond0_0 i)
    (x0 : Vec F S1024x2048 .f32) (x1 : Vec F S1x2048 .f32) (x2 : Vec F S2048x1792 .bf16) (x3 : Vec F S2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_in_proj i arg2 harg2 arg3 harg3 arg4 harg4 arg5 harg5 arg6 harg6 arg7 harg7 arg8 harg8) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Proof.ProjBits

end
-- ==== Proof.Proj.Bits.RunB.lean ====
/- The projection program: a run of its body at any other point. Nothing is said of what it computes. -/
module

public import proofs.«01_k».proof.Proof.Proj.Bits.RunA

@[expose] public section

-- membership in a rectangle of production extents (`View.cover_of_tiled`): the elaborator's structural look
-- recurses once per coordinate of the long axes
set_option maxRecDepth 16384

noncomputable section

namespace Cert.Proof.ProjBits

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 63: 48 of 64): on whole staging memrefs — the inputs' at their contents,
    the FORGOTTEN outputs' (4, 5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S2048x128 .bf16) (harg5 : arg5.IsWhole) (arg6 : Memref sig .tc .vmem S1024x1792 .bf16) (harg6 : arg6.IsWhole) (arg7 : Memref sig .tc .vmem S1024x128 .f32) (harg7 : arg7.IsWhole) (arg8 : Memref sig .tc .vmem S1024x2048 .bf16) (harg8 : arg8.IsWhole) (hc0 : ¬cond0_0 i)
    (x0 : Vec F S1024x2048 .f32) (x1 : Vec F S1x2048 .f32) (x2 : Vec F S2048x1792 .bf16) (x3 : Vec F S2048x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)) -∗ K ⟨⟩))
          ⊢ wp frame (wpE (defs₀ (F := F)) Variants.none c none) E (cc0_in_proj i arg2 harg2 arg3 harg3 arg4 harg4 arg5 harg5 arg6 harg6 arg7 harg7 arg8 harg8) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _, _; isplitr; swap; · iexact H4
      ipureintro; rfl
    isplitl [H5]
    · iexists _, _; isplitr; swap; · iexact H5
      ipureintro; rfl
    iexists _, _; isplitr; swap; · iexact HS0
    ipureintro; rfl

end Cert.Proof.ProjBits

end
-- ==== Proof.Proj.Bits.Frame.lean ====
/- The projection program: the launch and the frame. Nothing is said of what it computes. -/
module

public import proofs.«01_k».proof.Proof.Proj.Bits.RunB
public import Idealize.ShloMosaic.Lib.Claim

@[expose] public section

-- membership in a rectangle of production extents (`View.cover_of_tiled`): the elaborator's structural look
-- recurses once per coordinate of the long axes
set_option maxRecDepth 16384

noncomputable section

namespace Cert.Proof.ProjBits

open Cert.Proj Cert.Proj.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 64 := lt_of_lt_of_eq t.isLt (show cfg0.N = 64 from N_0)
  by_cases h0 : t.val % 4 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ ((hcond0_0 t).mpr h0) (iblk m c 0 t) (iblk m c 1 t) (X0_2 m c t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ (fun h => h0 ((hcond0_0 t).mp h)) (iblk m c 0 t) (iblk m c 1 t) (X0_2 m c t) (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    iintro ⟨H0, H1, H2, H3, H4, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.ProjBits

end
-- ==== Proof.Proj.Run.lean ====
/- The input projection's body run on whole staging buffers, at a point that normalises the rows and at one that does not. -/
module

public import proofs.«01_k».proof.Proof.Gen.ProjIdeal.Frame
public import proofs.«01_k».proof.Proof.Gen.ProjIdeal.Skeleton
public import Idealize.ShloMosaic.Lib.VecWindow
public import Idealize.ShloMosaic.Lib.Pipeline.Value
public import Idealize.ShloMosaic.Lib.Pipeline.ValueKit

@[expose] public section

set_option maxRecDepth 16384

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch: the rows are normalised when the column coordinate is 0. -/
abbrev starts (i : grid0.Coords) : Prop := k0_cond1 i = 1#1

/-- That is at the first of each row block's four points. -/
theorem starts_iff (t : Fin cfg0.N) : starts (grid0.coords t) ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [starts, k0_cond1, e0, e1]
  word_cmp

theorem zeros2 : (![0, 0] : Fin 2 → Nat) = fun _ => 0 := funext fun a => by fin_cases a <;> rfl

set_option maxHeartbeats 4000000 in
/-- At a row block's first point the body normalises the rows into the scratch, multiplies them with the gate
    columns and with the point's columns. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S2048x128 .bf16) (harg5 : arg5.IsWhole) (arg6 : Memref sig .tc .vmem S1024x1792 .bf16) (harg6 : arg6.IsWhole) (arg7 : Memref sig .tc .vmem S1024x128 .f32) (harg7 : arg7.IsWhole) (arg8 : Memref sig .tc .vmem S1024x2048 .bf16) (harg8 : arg8.IsWhole) (hc0 : starts i)
    (x0 : Vec F S1024x2048 .f32) (x1 : Vec F S1x2048 .f32) (x2 : Vec F S2048x1792 .bf16) (x3 : Vec F S2048x128 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay4 (k0_pay2 x0 x1) x2) ∗ owns (c : Thread nD τ) arg7 fullShare (k0_pay3 x0 x1 x3) ∗ owns (c : Thread nD τ) arg8 fullShare (k0_pay2 x0 x1)) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    refine (View.read_writes_full _ _ _ _ _).trans ?_
    simp only [View.readCov_unit_zero (S := S1024x2048) _ zeros2]
    simp only [View.readAt_eq_ld, harg2.read_unread, harg3.read_unread, harg4.read_unread, View.ld_unit_zero (S := S1024x2048) zeros2, View.ld_unit_zero (S := S1x2048) zeros2, View.ld_unit_zero (S := S2048x1792) zeros2]
  isplitl [H5]
  · iexists _; isplitr
    swap; · iexact H5
    ipureintro
    sl_unfold_words
    refine (View.read_writes_full _ _ _ _ _).trans ?_
    simp only [View.readAt_eq_ld, harg2.read_unread, harg3.read_unread, harg5.read_unread, View.ld_unit_zero (S := S1024x2048) zeros2, View.ld_unit_zero (S := S1x2048) zeros2, View.ld_unit_zero (S := S2048x128) zeros2]
  iexists _; isplitr
  swap; · iexact HS0
  ipureintro
  sl_unfold_words
  refine (View.read_writes_full _ _ _ _ _).trans ?_
  simp only [View.readAt_eq_ld, harg2.read_unread, harg3.read_unread, View.ld_unit_zero (S := S1024x2048) zeros2, View.ld_unit_zero (S := S1x2048) zeros2]

set_option maxHeartbeats 4000000 in
/-- At a later point of the row block it multiplies the rows normalised before with the point's columns, and
    leaves the gates' buffer alone. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1792 .bf16) (harg4 : arg4.IsWhole) (arg5 : Memref sig .tc .vmem S2048x128 .bf16) (harg5 : arg5.IsWhole) (arg6 : Memref sig .tc .vmem S1024x1792 .bf16) (harg6 : arg6.IsWhole) (arg7 : Memref sig .tc .vmem S1024x128 .f32) (harg7 : arg7.IsWhole) (arg8 : Memref sig .tc .vmem S1024x2048 .bf16) (harg8 : arg8.IsWhole) (hc0 : ¬starts i)
    (x2 : Vec F S2048x1792 .bf16) (s : Vec F S1024x2048 .bf16) (E : Set ℕ) (K : PUnit → sProp 𝕄) :
    iprop(owns (c : Thread nD τ) arg4 fullShare x2 ∗ (∃ d, owns (c : Thread nD τ) arg6 fullShare d) ∗ owns (c : Thread nD τ) arg8 fullShare s
        ∗ (iprop(owns (c : Thread nD τ) arg4 fullShare x2 ∗ owns (c : Thread nD τ) arg6 fullShare (k0_pay4 s x2) ∗ owns (c : Thread nD τ) arg8 fullShare s) -∗ K ⟨⟩))
      ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%d4, %f4, -, H4⟩, ⟨%fs0, %hfs0, HS0⟩, Hk⟩
  obtain rfl := harg4.eq_unread hf2; obtain rfl := harg8.eq_unread hfs0
  sl_exec (disch := first | sl_exact hc0)
  sl_step
  iapply Hk
  isplitl [H2]
  · iexists _; isplitr; · ipureintro; exact harg4.read_unread _
    iexact H2
  isplitl [H4]
  · iexists _; isplitr
    swap; · iexact H4
    ipureintro
    sl_unfold_words
    refine (View.read_writes_full _ _ _ _ _).trans ?_
    simp only [View.readAt_eq_ld, harg4.read_unread, harg8.read_unread, View.ld_unit_zero (S := S1024x2048) zeros2, View.ld_unit_zero (S := S2048x1792) zeros2]
  iexists _; isplitr
  swap; · iexact HS0
  ipureintro; exact harg8.read_unread _

end Cert.Proof.Proj

end
-- ==== Proof.Proj.Frame.lean ====
/- The input projection's launch: the normalised rows carried from point to point, what each point leaves in its
   blocks, and the frame. -/
module

public import proofs.«01_k».proof.Proof.Proj.Run
public import Idealize.ShloMosaic.Lib.Claim

@[expose] public section

set_option maxRecDepth 16384

noncomputable section

namespace Cert.Proof.Proj

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffers of a point. -/
abbrev ms0 (t : Fin cfg0.N) : Memref sig .tc .vmem S1024x2048 .f32 := win0_0.stage (cfg0.slots t 0)
abbrev ms1 (t : Fin cfg0.N) : Memref sig .tc .vmem S1x2048 .f32 := win0_1.stage (cfg0.slots t 1)
abbrev ms2 (t : Fin cfg0.N) : Memref sig .tc .vmem S2048x1792 .bf16 := win0_2.stage (cfg0.slots t 2)
abbrev ms3 (t : Fin cfg0.N) : Memref sig .tc .vmem S2048x128 .bf16 := win0_3.stage (cfg0.slots t 3)
abbrev ms4 (t : Fin cfg0.N) : Memref sig .tc .vmem S1024x1792 .bf16 := win0_4.stage (cfg0.slots t 4)
abbrev ms5 (t : Fin cfg0.N) : Memref sig .tc .vmem S1024x128 .f32 := win0_5.stage (cfg0.slots t 5)
/-- The kernel's scratch: the normalised rows, kept from point to point. -/
abbrev scRows : Memref sig .tc .vmem S1024x2048 .bf16 := Memref.whole cc0_scratch0

/-- What the launch keeps beside the windows: the scratch at some contents, and the generator register. -/
theorem phi_eq (c : Dev nD) :
    (Pipeline.ΦA spec0 c : sProp 𝕄)
      = iprop(iprop((∃ d, owns (c : Thread nD τ) scRows fullShare d)) ∗ (∃ r, prngReg c r)) := by
  unfold Pipeline.ΦA; rw [scopedRest0_eq]; simp only [scRows, owns_whole]; try rfl

/-- The inputs and the columns' block are never idle; -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
/-- the gates' block is stored at a row block's first point only. -/
theorem live5 (t : Fin cfg0.N) (h : t.val % 4 = 0) : cfg0.idle 5 (grid0.coords t) = false := by
  show (!(k0_cond1 (grid0.coords t) == 1#1)) = false
  rw [(starts_iff t).mpr h]; rfl
theorem idle5 (t : Fin cfg0.N) (h : ¬t.val % 4 = 0) : cfg0.idle 5 (grid0.coords t) = true := by
  show (!(k0_cond1 (grid0.coords t) == 1#1)) = true
  rw [beq_eq_false_iff_ne.mpr fun e => h ((starts_iff t).mp e)]; rfl

/-- The first point of the row block that point `n` works on. -/
def lead (n : ℕ) : Fin cfg0.N := ⟨n / 4 * 4 % 64, by rw [show cfg0.N = 64 from N_0]; exact Nat.mod_lt _ (by decide)⟩

theorem lead_first (t : Fin cfg0.N) (h : t.val % 4 = 0) : lead t.val = t := by
  apply Fin.ext
  have ht : t.val < 64 := Nat.lt_of_lt_of_eq t.isLt N_0
  show t.val / 4 * 4 % 64 = t.val
  omega

theorem lead_prev (n : ℕ) (h : ¬n % 4 = 0) : lead (n - 1) = lead n := by
  apply Fin.ext
  show (n - 1) / 4 * 4 % 64 = n / 4 * 4 % 64
  rw [show (n - 1) / 4 = n / 4 by omega]

/-- The normalised rows of the row block of point `n`. -/
def rowsAt (c : Dev nD) (n : ℕ) : Vec F S1024x2048 .bf16 := k0_pay2 (iblk m c 0 (lead n) : Vec F S1024x2048 .f32) (iblk m c 1 (lead n) : Vec F S1x2048 .f32)

/-- What point `t` leaves in its block of the columns. -/
def colsAt (c : Dev nD) (t : Fin cfg0.N) : Vec F S1024x1792 .bf16 := k0_pay4 (rowsAt m c t.val) (X0_2 m c t : Vec F S2048x1792 .bf16)

/-- What the gates' block holds after the points of the row block of point `n`. -/
def gatesAt (c : Dev nD) (n : ℕ) : Vec F S1024x128 .f32 :=
  k0_pay3 (iblk m c 0 (lead n) : Vec F S1024x2048 .f32) (iblk m c 1 (lead n) : Vec F S1x2048 .f32) (iblk m c 3 (lead n) : Vec F S2048x128 .bf16)

/-- Between points: the rows normalised last, and the generator register. -/
def PhiS (c : Dev nD) : ℕ → sProp 𝕄
  | 0 => Pipeline.ΦA spec0 c
  | n + 1 => iprop(owns (c : Thread nD τ) scRows fullShare (rowsAt m c n) ∗ (∃ r, prngReg c r))

theorem PhiS_succ (c : Dev nD) (n : ℕ) : PhiS m c (n + 1) = iprop(owns (c : Thread nD τ) scRows fullShare (rowsAt m c n) ∗ (∃ r, prngReg c r)) := rfl

theorem PhiS_pos (c : Dev nD) (n : ℕ) (hz : n ≠ 0) : PhiS m c n = iprop(owns (c : Thread nD τ) scRows fullShare (rowsAt m c (n - 1)) ∗ (∃ r, prngReg c r)) := by
  cases n with
  | zero => exact absurd rfl hz
  | succ n => rfl

/-- At any point the scratch holds something. -/
theorem PhiS_any (c : Dev nD) (n : ℕ) : PhiS m c n ⊢ iprop(iprop((∃ d, owns (c : Thread nD τ) scRows fullShare d)) ∗ (∃ r, prngReg c r)) := by
  cases n with
  | zero => rw [show PhiS m c 0 = Pipeline.ΦA spec0 c from rfl, phi_eq]
  | succ n =>
    rw [PhiS_succ]
    iintro ⟨HS, Hg⟩
    isplitl [HS]; · iexists _; iexact HS
    iexact Hg

/-- The proof data: inputs stay at their blocks, the outputs are left at `colsAt` and `gatesAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => colsAt m c t
    | ⟨5, _⟩ => gatesAt m c t.val
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = colsAt m c t := by dsimp only [dats]
theorem after5 (c : Dev nD) (t : Fin cfg0.N) : (dats m 0 c).after 5 t = gatesAt m c t.val := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- After a row block's first point the gates' block waits, as stored there, until it is written back. -/
theorem before5 (c : Dev nD) (n : ℕ) (hn : n < cfg0.N) (h : ¬n % 4 = 0) (d) : (dats m 0 c).before 5 ⟨n, hn⟩ d = gatesAt m c n := by
  induction n with
  | zero => exact absurd rfl h
  | succ n ih =>
    have hlt : n < cfg0.N := by omega
    have hf : (cfg0.win 5).flush ⟨n, hlt⟩ = false := by
      rw [Bool.eq_false_iff]; intro e
      have := (flush0_5 ⟨n, hlt⟩).mp e
      exact h (by show (n + 1) % 4 = 0; have e' : n % 4 = 3 := this; omega)
    rw [(dats m 0 c).before_of_pos 5 ⟨n + 1, hn⟩ (Nat.succ_ne_zero n) ((cfg0.win 5).fetch_out rfl _)]
    show (if (cfg0.win 5).flush ⟨n, hlt⟩ then d else (dats m 0 c).left 5 ⟨n, hlt⟩ d) = _
    rw [hf, if_neg Bool.false_ne_true]
    have hg : gatesAt m c n = gatesAt m c (n + 1) := by
      unfold gatesAt; rw [show lead n = lead (n + 1) from lead_prev (n + 1) h]
    unfold Dat.left
    by_cases h0 : n % 4 = 0
    · rw [live5 ⟨n, hlt⟩ h0]
      show (dats m 0 c).kept 5 ⟨n, hlt⟩ d = _
      unfold Dat.kept
      rw [Pipeline.fill_of_clip_none 5 _ (fun _ => rfl) d ((dats m 0 c).after 5 ⟨n, hlt⟩), Pipeline.Window.fill_cut, after5]
      exact hg
    · rw [idle5 ⟨n, hlt⟩ h0]
      exact (ih hlt h0).trans hg

/-- At a later point of a row block the gates' block, kept as it was, is what the point must leave. -/
theorem leaves5 (c : Dev nD) (t : Fin cfg0.N) (h : ¬t.val % 4 = 0) :
    owns (c : Thread nD τ) (ms5 t) fullShare (gatesAt m c t.val) ⊢ ((dats m 0 c).leavesExact 5 t : sProp 𝕄) := by
  by_cases h3 : t.val % 4 = 3
  · rw [show (dats m 0 c).leavesExact 5 t = owns (c : Thread nD τ) (ms5 t) fullShare ((dats m 0 c).after 5 t) from by
      unfold Dat.leavesExact; rw [idle5 t h, (flush0_5 t).mpr h3], after5]
  · rw [(dats m 0 c).leavesExact_idle 5 t (idle5 t h) (Bool.eq_false_iff.mpr fun e => h3 ((flush0_5 t).mp e))]
    have hb : (dats m 0 c).before 5 t (gatesAt m c t.val) = gatesAt m c t.val := before5 m c t.val t.isLt h _
    iintro H
    iexists (gatesAt m c t.val : Vec F S1024x128 .f32)
    rw [hb]
    iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point: a row block's first point normalises its rows and stores the gates, the others read the rows
    normalised there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).leavesExact 0 t = owns (c : Thread nD τ) (ms0 t) fullShare ((dats m 0 c).after 0 t) from by unfold Dat.leavesExact; rw [live0 t], after0]
  rw [show (dats m 0 c).leavesExact 1 t = owns (c : Thread nD τ) (ms1 t) fullShare ((dats m 0 c).after 1 t) from by unfold Dat.leavesExact; rw [live1 t], after1]
  rw [show (dats m 0 c).leavesExact 2 t = owns (c : Thread nD τ) (ms2 t) fullShare ((dats m 0 c).after 2 t) from by unfold Dat.leavesExact; rw [live2 t], after2]
  rw [show (dats m 0 c).leavesExact 3 t = owns (c : Thread nD τ) (ms3 t) fullShare ((dats m 0 c).after 3 t) from by unfold Dat.leavesExact; rw [live3 t], after3]
  rw [show (dats m 0 c).leavesExact 4 t = owns (c : Thread nD τ) (ms4 t) fullShare ((dats m 0 c).after 4 t) from by unfold Dat.leavesExact; rw [live4 t], after4]
  rw [show (dats m 0 c).Φ t.succ = PhiS m c (t.val + 1) from by dsimp only [dats]; rfl, PhiS_succ]
  rw [show (dats m 0 c).Φ t.castSucc = PhiS m c t.val from by dsimp only [dats]; rfl]
  by_cases h0 : t.val % 4 = 0
  · refine (sep_mono_left (PhiS_any m c t.val)).trans ?_
    rw [show (dats m 0 c).leavesExact 5 t = owns (c : Thread nD τ) (ms5 t) fullShare ((dats m 0 c).after 5 t) from by unfold Dat.leavesExact; rw [live5 t h0], after5]
    unfold colsAt rowsAt gatesAt
    rw [lead_first t h0]
    iintro ⟨⟨HS, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ ((starts_iff t).mpr h0) (iblk m c 0 t) (iblk m c 1 t) (X0_2 m c t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := fun h => h0 (by rw [h])
    have hp : rowsAt m c (t.val - 1) = rowsAt m c t.val := by
      unfold rowsAt; rw [lead_prev t.val h0]
    have hb5 : ∀ d, (dats m 0 c).before 5 t d = gatesAt m c t.val := before5 m c t.val t.isLt h0
    rw [PhiS_pos m c _ hz, hp]
    simp only [hb5]
    unfold colsAt
    iintro ⟨⟨HS, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ (fun h => h0 ((starts_iff t).mp h)) (X0_2 m c t) (rowsAt m c t.val) Set.univ _)
    isplitl [H2]; · iexact H2
    isplitl [H4]; · iexists _; iexact H4
    isplitl [HS]; · iexact HS
    iintro ⟨H2, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t h0)
    iexact H5

/-- The body table's row at point `t`'s slots is the body called there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl, phi_eq]
  exact PhiS_any m c _

set_option backward.isDefEq.respectTransparency.types false in
/-- Every run ends with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every run ends, the arguments unchanged and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Proof.Proj

end
-- ==== Proof.Proj.Block.lean ====
/- The input projection's terms read at one entry, over the extended reals: the normalised row, its products with
   a block of columns and with the gates' columns. -/
module

public import proofs.«01_k».proof.Proof.Gen.ProjIdeal.Skeleton
public import proofs.«01_k».proof.Proof.Ffn.Block

@[expose] public section

noncomputable section

namespace Cert.Proof.Proj

open Cert.ProjIdeal Cert.ProjIdeal.Gen Cert.FfnMath Idealize.ShloMosaic Idealize.ShloMosaic.ValueIdx
open scoped BigOperators

theorem dotGates_eq : dot_S1024x2048_S2048x128_S1024x128_1_0_0_1_n_n = DotDims.plain 1024 2048 128 := rfl
theorem dotCols_eq : dot_S1024x2048_S2048x1792_S1024x1792_1_0_0_1_n_n = DotDims.plain 1024 2048 1792 := rfl

/-- A column of 1024 entries broadcast over 2048 columns reads its own row. -/
theorem bcol_apply (v : FVec Ideal S1024x1 .f32) (r : Fin 1024) (e : Fin 2048) :
    broadcastTo S1024x2048 v broadcasts_S1024x1_S1024x2048 (ValueIdx.ix2 r e) = v (ValueIdx.ix2 r (0 : Fin 1)) := by
  refine broadcastTo_apply v broadcasts_S1024x1_S1024x2048 (ValueIdx.ix2 r e) (ValueIdx.ix2 r (0 : Fin 1)) fun ax => ?_
  match ax with
  | ⟨0, _⟩ => rfl
  | ⟨1, _⟩ => rfl

/-- The sum along a row. -/
theorem rowsum_apply (x : FVec Ideal S1024x2048 .f32) (r : Fin 1024) :
    multiReduction .add [1] S1024 x 0x00000000#32 reduces_S1024x2048_S1024 (.inl rfl) rfl (ValueIdx.ix1 r) = ∑ k : Fin 2048, x (ValueIdx.ix2 r k) := by
  refine (Ideal.multiReduction_add_single x _ reduces_S1024x2048_S1024 (.inl rfl) rfl (ValueIdx.ix1 r)).trans ?_
  refine Finset.sum_congr rfl fun k _ => congrArg x ?_
  funext a
  match a with
  | ⟨0, _⟩ => rfl
  | ⟨1, _⟩ => rfl

/-- The normalised block. -/
theorem pay1_apply (x : FVec Ideal S1024x2048 .f32) (w : FVec Ideal S1x2048 .f32) (r : Fin 1024) (e : Fin 2048) :
    k0_pay1 (F := Ideal) x w (ValueIdx.ix2 r e) = rms (fun k => x (ValueIdx.ix2 r k)) (fun k => w (ValueIdx.ix2 (0 : Fin 1) k)) e := by
  unfold k0_pay1 rms
  simp only [shapeCast_self, truncf_apply, mulf_apply, bcol_apply, ValueIdx.broadcastTo_1b_ab_apply]
  congr 2
  show Ideal.rsqrt (Ideal.div _ _ + _) = _
  rw [ValueIdx.shapeCast_a_a1_apply, rowsum_apply]
  rfl

theorem pay2_eq (x : FVec Ideal S1024x2048 .f32) (w : FVec Ideal S1x2048 .f32) : k0_pay2 (F := Ideal) x w = k0_pay1 x w := by
  unfold k0_pay2; simp only [shapeCast_self]

/-- The gates' block: each normalised row times the gates' columns. -/
theorem pay3_apply (x : FVec Ideal S1024x2048 .f32) (w : FVec Ideal S1x2048 .f32) (g : FVec Ideal S2048x128 .bf16) (r : Fin 1024) (e : Fin 128) :
    k0_pay3 (F := Ideal) x w g (ValueIdx.ix2 r e)
      = ∑ k : Fin 2048, rms (fun k => x (ValueIdx.ix2 r k)) (fun k => w (ValueIdx.ix2 (0 : Fin 1) k)) k * g (ValueIdx.ix2 k e) := by
  unfold k0_pay3
  simp only [shapeCast_self, dotGates_eq, matmul]
  rw [Ideal.matmul_plain_apply]
  simp only [constant_apply, Ideal.ofBits_zero_f32, zero_add, pay1_apply]

/-- The columns' block: each normalised row times the block of columns. -/
theorem pay4_apply (s : FVec Ideal S1024x2048 .bf16) (w : FVec Ideal S2048x1792 .bf16) (r : Fin 1024) (e : Fin 1792) :
    k0_pay4 (F := Ideal) s w (ValueIdx.ix2 r e) = ∑ k : Fin 2048, s (ValueIdx.ix2 r k) * w (ValueIdx.ix2 k e) := by
  unfold k0_pay4
  simp only [shapeCast_self, dotCols_eq, matmul, truncf_apply]
  rw [Ideal.matmul_plain_apply]
  simp only [constant_apply, Ideal.ofBits_zero_f32, zero_add]

end Cert.Proof.Proj

end
-- ==== Proof.Proj.Arrays.lean ====
/- The blocks a grid point of the input projection reads, entry by entry, as the program's arguments. Point `t`
   works on rows `1024 * (t / 4) + r` and columns `1792 * (t % 4) + j`. -/
module

public import proofs.«01_k».proof.Proof.Gen.ProjIdeal.Frame
public import proofs.«01_k».proof.Proof.Ffn.Arrays
public import Idealize.ShloMosaic.Lib.ValueIdx
public import Idealize.ShloMosaic.Lib.ValueLayout
public import Idealize.ShloMosaic.Lib.Pipeline.Value
public import Idealize.ShloMosaic.Lib.StableHlo.Run
public import Idealize.ShloMosaic.PureOps.Ideal.Laws

@[expose] public section

set_option maxRecDepth 16384

noncomputable section

namespace Cert.Proof.Proj

open Cert.ProjIdeal Cert.ProjIdeal.Gen Idealize.ShloMosaic Idealize.ShloMosaic.TcCoe Idealize.SL.Sem
open Idealize.ShloMosaic.StableHlo
open Cert.FfnIdeal.Hand (bl cast_rows_apply)

variable (m : (ℓ : Loc nD τ sig) → Buf (Elt Ideal) ℓ) (c : Dev nD)

/-- The arguments at launch. -/
abbrev a0 : Vec Ideal S8x2048x2048 .f32 := m ((c : Thread nD τ).loc main_arg0)
abbrev a1 : Vec Ideal S1x2048 .f32 := m ((c : Thread nD τ).loc main_arg1)
abbrev a2 : Vec Ideal S1x2048x7200 .f32 := m ((c : Thread nD τ).loc main_arg2)

/-- The weights as a matrix, its two groups of gate columns, and the zero columns. -/
abbrev wmat : Vec Ideal S2048x7200 .f32 := shapeCast S2048x7200 (a2 m c) shapeCasts_S1x2048x7200_S2048x7200
abbrev wg1 : Vec Ideal S2048x16 .f32 := extractStridedSlice S2048x16 ![0, 7168] (wmat m c) slices_S2048x7200_S2048x16_0_7168
abbrev wg2 : Vec Ideal S2048x16 .f32 := extractStridedSlice S2048x16 ![0, 7184] (wmat m c) slices_S2048x7200_S2048x16_0_7184
abbrev wz : Vec Ideal S2048x80 .f32 := broadcastInDim S2048x80 ![] bcast_S_S2048x80 (constant (F := Ideal) S_ .f32 0x00000000#32)

theorem V_v4 : (V m c main_v4 : Vec Ideal S16384x2048 .f32) = shapeCast S16384x2048 (a0 m c) shapeCasts_S8x2048x2048_S16384x2048 := by
  unfold V; simp only [hostOps0, List.flatten_cons, List.flatten_nil, List.append_nil, List.cons_append, List.nil_append]; after_results_simp <;> rfl
theorem V_v6 : (V m c main_v6 : Vec Ideal S1x2048 .f32) = shapeCast S1x2048 (shapeCast S2048 (a1 m c) shapeCasts_S1x2048_S2048) shapeCasts_S2048_S1x2048 := by
  unfold V; simp only [hostOps0, List.flatten_cons, List.flatten_nil, List.append_nil, List.cons_append, List.nil_append]; after_results_simp <;> rfl
theorem V_v7 : (V m c main_v7 : Vec Ideal S2048x7200 .bf16) = (truncf .bf16 (wmat m c : FVec Ideal S2048x7200 .f32) bitsLt_bf16_f32 : FVec Ideal S2048x7200 .bf16) := by
  unfold V; simp only [hostOps0, List.flatten_cons, List.flatten_nil, List.append_nil, List.cons_append, List.nil_append]; after_results_simp <;> rfl
theorem V_v9 : (V m c main_v9 : Vec Ideal S2048x128 .bf16)
    = (truncf .bf16 (concatenate S2048x128 1 [⟨S2048x16, wg1 m c⟩, ⟨S2048x16, wg2 m c⟩, ⟨S2048x16, wg2 m c⟩, ⟨S2048x80, wz⟩] concatenates_S2048x16_S2048x16_S2048x16_S2048x80_S2048x128_d1 : FVec Ideal S2048x128 .f32) bitsLt_bf16_f32 : FVec Ideal S2048x128 .bf16) := by
  unfold V; simp only [hostOps0, List.flatten_cons, List.flatten_nil, List.append_nil, List.cons_append, List.nil_append]; after_results_simp <;> rfl

/-- The row of the flattened array that row `r` of point `t`'s block is. -/
abbrev row (t : Fin cfg0.N) (r : Fin 1024) : Fin 16384 :=
  ⟨1024 * (t.val / 4) + r.val, by have := lt_of_lt_of_eq t.isLt (show cfg0.N = 64 from N_0); omega⟩
/-- The column that column `j` of point `t`'s block is. -/
abbrev col (t : Fin cfg0.N) (j : Fin 1792) : Fin 7168 := ⟨1792 * (t.val % 4) + j.val, by have := Nat.mod_lt t.val (by show 0 < 4; decide); omega⟩

theorem idx0 : ∀ t : Fin cfg0.N, win0_0.index t 0 = t.val / 4 ∧ win0_0.index t 1 = 0 := (by decide +kernel : ∀ t : Fin grid0.N, _)
theorem idx1 : ∀ t : Fin cfg0.N, win0_1.index t 0 = 0 ∧ win0_1.index t 1 = 0 := (by decide +kernel : ∀ t : Fin grid0.N, _)
theorem idx2 : ∀ t : Fin cfg0.N, win0_2.index t 0 = 0 ∧ win0_2.index t 1 = t.val % 4 := (by decide +kernel : ∀ t : Fin grid0.N, _)
theorem idx3 : ∀ t : Fin cfg0.N, win0_3.index t 0 = 0 ∧ win0_3.index t 1 = 0 := (by decide +kernel : ∀ t : Fin grid0.N, _)
theorem idx4 : ∀ t : Fin cfg0.N, win0_4.index t 0 = t.val / 4 ∧ win0_4.index t 1 = t.val % 4 := (by decide +kernel : ∀ t : Fin grid0.N, _)
theorem idx5 : ∀ t : Fin cfg0.N, win0_5.index t 0 = t.val / 4 ∧ win0_5.index t 1 = 0 := (by decide +kernel : ∀ t : Fin grid0.N, _)

/-- The block of rows. -/
theorem rows_blk (t : Fin cfg0.N) (r : Fin 1024) (e : Fin 2048) :
    (iblk m c 0 t : Vec Ideal S1024x2048 .f32) (ValueIdx.ix2 r e) = a0 m c (ValueIdx.ix3 (bl (row t r)).1 (bl (row t r)).2 e) := by
  refine Eq.trans ?_ ((congrFun (V_v4 m c) _).trans (cast_rows_apply _ _ (row t r) e))
  unfold iblk; rw [View.read_apply]
  show (V m c main_v4 : Vec Ideal S16384x2048 .f32) _ = _
  congr 1; funext a; apply Fin.ext
  obtain ⟨h0, h1⟩ := idx0 t
  match a with
  | ⟨0, _⟩ => show win0_0.index t 0 * 1024 + 1 * r.val = 1024 * (t.val / 4) + r.val; rw [h0]; omega
  | ⟨1, _⟩ => show win0_0.index t 1 * 2048 + 1 * e.val = e.val; rw [h1]; omega

/-- The normalisation's scales. -/
theorem scale_blk (t : Fin cfg0.N) (e : Fin 2048) :
    (iblk m c 1 t : Vec Ideal S1x2048 .f32) (ValueIdx.ix2 (0 : Fin 1) e) = a1 m c (ValueIdx.ix2 (0 : Fin 1) e) := by
  refine Eq.trans ?_ ((congrFun (V_v6 m c) (ValueIdx.ix2 (0 : Fin 1) e)).trans ((ValueIdx.shapeCast_a_1a_apply _ _ _ e).trans (ValueIdx.shapeCast_1a_a_apply _ _ e)))
  unfold iblk; rw [View.read_apply]
  show (V m c main_v6 : Vec Ideal S1x2048 .f32) _ = _
  congr 1; funext a; apply Fin.ext
  obtain ⟨h0, h1⟩ := idx1 t
  match a with
  | ⟨0, _⟩ => show win0_1.index t 0 * 1 + 1 * 0 = 0; rw [h0]
  | ⟨1, _⟩ => show win0_1.index t 1 * 2048 + 1 * e.val = e.val; rw [h1]; omega

theorem V7_apply (k : Fin 2048) (e : Fin 7200) :
    (V m c main_v7 : Vec Ideal S2048x7200 .bf16) (ValueIdx.ix2 k e) = a2 m c (ValueIdx.ix3 (0 : Fin 1) k e) := by
  rw [V_v7, ValueIdx.truncf_apply]
  exact ValueIdx.shapeCast_1ab_ab_apply _ _ k e

/-- The block of columns. -/
theorem cols_blk (t : Fin cfg0.N) (k : Fin 2048) (j : Fin 1792) :
    (X0_2 m c t : Vec Ideal S2048x1792 .bf16) (ValueIdx.ix2 k j) = a2 m c (ValueIdx.ix3 (0 : Fin 1) k (⟨(col t j).val, by omega⟩ : Fin 7200)) := by
  refine Eq.trans ?_ (V7_apply m c k (⟨(col t j).val, by omega⟩ : Fin 7200))
  unfold X0_2 Pipeline.Window.fill; rw [dif_pos (moved0_2 t _)]
  unfold iblk; rw [View.read_apply]
  show (V m c main_v7 : Vec Ideal S2048x7200 .bf16) _ = _
  congr 1; funext a; apply Fin.ext
  obtain ⟨h0, h1⟩ := idx2 t
  match a with
  | ⟨0, _⟩ => show win0_2.index t 0 * 2048 + 1 * k.val = k.val; rw [h0]; omega
  | ⟨1, _⟩ => show win0_2.index t 1 * 1792 + 1 * j.val = 1792 * (t.val % 4) + j.val; rw [h1]; omega

/-- The gates' columns as the launch finds them. -/
theorem gates_blk (t : Fin cfg0.N) (k : Fin 2048) (e : Fin 128) :
    (iblk m c 3 t : Vec Ideal S2048x128 .bf16) (ValueIdx.ix2 k e) = (V m c main_v9 : Vec Ideal S2048x128 .bf16) (ValueIdx.ix2 k e) := by
  unfold iblk; rw [View.read_apply]
  show (V m c main_v9 : Vec Ideal S2048x128 .bf16) _ = _
  congr 1; funext a; apply Fin.ext
  obtain ⟨h0, h1⟩ := idx3 t
  match a with
  | ⟨0, _⟩ => show win0_3.index t 0 * 2048 + 1 * k.val = k.val; rw [h0]; omega
  | ⟨1, _⟩ => show win0_3.index t 1 * 128 + 1 * e.val = e.val; rw [h1]; omega

theorem wg1_at (k : Fin 2048) (j : Fin 16) : wg1 m c (ValueIdx.ix2 k j) = a2 m c (ValueIdx.ix3 (0 : Fin 1) k (⟨7168 + j.val, by omega⟩ : Fin 7200)) := by
  refine (extractStridedSlice_apply _ _ _ _ (ValueIdx.ix2 k (⟨7168 + j.val, by omega⟩ : Fin 7200)) fun a => ?_).trans (ValueIdx.shapeCast_1ab_ab_apply _ _ k _)
  match a with
  | ⟨0, _⟩ => exact (Nat.zero_add _).symm
  | ⟨1, _⟩ => rfl

theorem wg2_at (k : Fin 2048) (j : Fin 16) : wg2 m c (ValueIdx.ix2 k j) = a2 m c (ValueIdx.ix3 (0 : Fin 1) k (⟨7184 + j.val, by omega⟩ : Fin 7200)) := by
  refine (extractStridedSlice_apply _ _ _ _ (ValueIdx.ix2 k (⟨7184 + j.val, by omega⟩ : Fin 7200)) fun a => ?_).trans (ValueIdx.shapeCast_1ab_ab_apply _ _ k _)
  match a with
  | ⟨0, _⟩ => exact (Nat.zero_add _).symm
  | ⟨1, _⟩ => rfl

/-- Lanes 0 to 15 are the first gate's columns, -/
theorem gate_a (k : Fin 2048) (j : Fin 16) :
    (V m c main_v9 : Vec Ideal S2048x128 .bf16) (ValueIdx.ix2 k (⟨j.val, by omega⟩ : Fin 128)) = a2 m c (ValueIdx.ix3 (0 : Fin 1) k (⟨7168 + j.val, by omega⟩ : Fin 7200)) := by
  rw [V_v9, ValueIdx.truncf_apply]
  refine (concatenate_apply_piece _ _ _ (ValueIdx.ix2 k (⟨j.val, by omega⟩ : Fin 128) : S2048x128.Idx) 0 (by show 0 < 4; decide) S2048x16 _ rfl rfl 0 rfl (ValueIdx.ix2 k j) (fun a ha => ?_) (Nat.zero_add _)).trans (wg1_at m c k j)
  match a with
  | ⟨0, _⟩ => rfl
  | ⟨1, _⟩ => exact absurd rfl ha

/-- lanes 16 to 31 the second gate's, -/
theorem gate_b (k : Fin 2048) (j : Fin 16) :
    (V m c main_v9 : Vec Ideal S2048x128 .bf16) (ValueIdx.ix2 k (⟨16 + j.val, by omega⟩ : Fin 128)) = a2 m c (ValueIdx.ix3 (0 : Fin 1) k (⟨7184 + j.val, by omega⟩ : Fin 7200)) := by
  rw [V_v9, ValueIdx.truncf_apply]
  refine (concatenate_apply_piece _ _ _ (ValueIdx.ix2 k (⟨16 + j.val, by omega⟩ : Fin 128) : S2048x128.Idx) 1 (by show 1 < 4; decide) S2048x16 _ rfl rfl 16 rfl (ValueIdx.ix2 k j) (fun a ha => ?_) rfl).trans (wg2_at m c k j)
  match a with
  | ⟨0, _⟩ => rfl
  | ⟨1, _⟩ => exact absurd rfl ha

/-- lanes 32 to 47 those again, -/
theorem gate_c (k : Fin 2048) (j : Fin 16) :
    (V m c main_v9 : Vec Ideal S2048x128 .bf16) (ValueIdx.ix2 k (⟨32 + j.val, by omega⟩ : Fin 128)) = a2 m c (ValueIdx.ix3 (0 : Fin 1) k (⟨7184 + j.val, by omega⟩ : Fin 7200)) := by
  rw [V_v9, ValueIdx.truncf_apply]
  refine (concatenate_apply_piece _ _ _ (ValueIdx.ix2 k (⟨32 + j.val, by omega⟩ : Fin 128) : S2048x128.Idx) 2 (by show 2 < 4; decide) S2048x16 _ rfl rfl 32 rfl (ValueIdx.ix2 k j) (fun a ha => ?_) rfl).trans (wg2_at m c k j)
  match a with
  | ⟨0, _⟩ => rfl
  | ⟨1, _⟩ => exact absurd rfl ha

/-- and the other lanes zero. -/
theorem gate_d (k : Fin 2048) (j : Fin 80) :
    (V m c main_v9 : Vec Ideal S2048x128 .bf16) (ValueIdx.ix2 k (⟨48 + j.val, by omega⟩ : Fin 128)) = (0 : EReal) := by
  rw [V_v9, ValueIdx.truncf_apply]
  refine (concatenate_apply_piece _ _ _ (ValueIdx.ix2 k (⟨48 + j.val, by omega⟩ : Fin 128) : S2048x128.Idx) 3 (by show 3 < 4; decide) S2048x80 _ rfl rfl 48 rfl (ValueIdx.ix2 k j) (fun a ha => ?_) rfl).trans Ideal.ofBits_zero_f32
  match a with
  | ⟨0, _⟩ => rfl
  | ⟨1, _⟩ => exact absurd rfl ha

end Cert.Proof.Proj

end
-- ==== Proof.Proj.Ref.lean ====
/- What the reference of the input projection computes, entry by entry, over the extended reals. -/
module

public import proofs.«01_k».proof.Proof.Gen.ProjRefIdeal.Read
public import proofs.«01_k».proof.Proof.Ffn.Block
public import proofs.«01_k».proof.Proof.Ffn.Arrays

@[expose] public section

noncomputable section

namespace Cert.ProjRef

open Cert.ProjRefIdeal Cert.ProjRefIdeal.Read Cert.FfnMath Idealize.ShloMosaic
open Cert.FfnIdeal.Hand (bl cast_rows_apply)
open Idealize.ShloMosaic.ValueIdx (ix1 ix2 ix3)
open scoped BigOperators

variable (x0 : FVec Ideal S8x2048x2048 .f32) (x1 : FVec Ideal S1x2048 .f32) (x2 : FVec Ideal S1x2048x7200 .f32)

/-- The normalised row of token `n`. -/
def XN (n : Fin 16384) : Fin 2048 → EReal := rms (fun k => x0 (ix3 (bl n).1 (bl n).2 k)) (fun k => x1 (ix2 (0 : Fin 1) k))

/-- Column `e` of the projection of token `n`. -/
def proj (n : Fin 16384) (e : Fin 7200) : EReal := ∑ k, XN x0 x1 n k * x2 (ix3 (0 : Fin 1) k e)

theorem l15 (b : Fin 8) (l : Fin 2048) (e : Fin 7200) (k : Fin 2048) : lidx_main_v15 (ix3 b l e) k = ix3 b l k := by
  funext a; match a with | ⟨0, _⟩ => rfl | ⟨1, _⟩ => rfl | ⟨2, _⟩ => rfl
theorem r15 (b : Fin 8) (l : Fin 2048) (e : Fin 7200) (k : Fin 2048) : ridx_main_v15 (ix3 b l e) k = ix2 k e := by
  funext a; match a with | ⟨0, _⟩ => rfl | ⟨1, _⟩ => rfl
theorem i2 (b : Fin 8) (l e : Fin 2048) : idx_main_v2 (ix2 b l) e = ix3 b l e := by
  funext a; match a with | ⟨0, _⟩ => rfl | ⟨1, _⟩ => rfl | ⟨2, _⟩ => rfl
theorem i3 (b : Fin 8) (l e : Fin 2048) : idx_main_v3 (idx_main_v9 (ix3 b l e)) = ix2 b l := by
  funext a; match a with | ⟨0, _⟩ => rfl | ⟨1, _⟩ => rfl
theorem i11 (b : Fin 8) (l e : Fin 2048) : idx_main_v11 (idx_main_v12 (ix3 b l e)) = ix1 e := by
  funext a; match a with | ⟨0, _⟩ => rfl

theorem v0_at (e : Fin 2048) : val_main_v0 (F := Ideal) x1 (ix1 e) = x1 (ix2 (0 : Fin 1) e) := by
  unfold val_main_v0; exact ValueIdx.shapeCast_1a_a_apply _ _ e
theorem v14_at (k : Fin 2048) (e : Fin 7200) : val_main_v14 (F := Ideal) x2 (ix2 k e) = x2 (ix3 (0 : Fin 1) k e) := by
  unfold val_main_v14; exact ValueIdx.shapeCast_1ab_ab_apply _ _ k e

theorem zero_bits : (FloatOps.ofBits (F := Ideal) .f32 0x00000000#32 : Ideal .f32) = (0 : EReal) := Ideal.ofBits_zero_f32

theorem v2_at (b : Fin 8) (l : Fin 2048) : val_main_v2 (F := Ideal) x0 (ix2 b l) = ∑ k, x0 (ix3 b l k) * x0 (ix3 b l k) := by
  rw [val_main_v2_apply, val_main_cst_apply, zero_bits]
  refine (zero_add _).trans (Finset.sum_congr rfl fun k _ => ?_)
  rw [i2, val_main_v1_apply]; rfl

theorem v13_at (b : Fin 8) (l e : Fin 2048) : val_main_v13 (F := Ideal) x0 x1 (ix3 b l e)
    = rms (fun k => x0 (ix3 b l k)) (fun k => x1 (ix2 (0 : Fin 1) k)) e := by
  rw [val_main_v13_apply, val_main_v10_apply, val_main_v9_apply, val_main_v8_apply, val_main_v7_apply, val_main_v6_apply,
    val_main_v5_apply, val_main_v4_apply, val_main_v3_apply, val_main_v12_apply, val_main_v11_apply, i3, i11, v0_at, v2_at,
    val_main_cst_0_apply, val_main_cst_1_apply]
  rfl

/-- The flattened projection. -/
theorem v16_at (n : Fin 16384) (e : Fin 7200) : val_main_v16 (F := Ideal) x0 x1 x2 (ix2 n e) = proj x0 x1 x2 n e := by
  unfold val_main_v16
  refine (cast_rows_apply _ _ n e).trans ?_
  rw [val_main_v15_apply]
  unfold proj XN
  refine Finset.sum_congr rfl fun k _ => ?_
  rw [l15, r15, v13_at, v14_at]

/-- The first result: the mixers' columns. -/
theorem v22_at (n : Fin 16384) (e : Fin 7168) : val_main_v22 (F := Ideal) x0 x1 x2 (ix2 n e) = proj x0 x1 x2 n ⟨e.val, by omega⟩ := by
  rw [val_main_v22_apply, ← v16_at]
  show val_main_v21 (F := Ideal) x0 x1 x2 _ = _
  rw [val_main_v21_apply]
  congr 1
  funext a; match a with | ⟨0, _⟩ => rfl | ⟨1, _⟩ => rfl

/-- The second result's lanes 0 to 15: the first gate's columns, -/
theorem v20_a (n : Fin 16384) (j : Fin 16) :
    val_main_v20 (F := Ideal) x0 x1 x2 (ix2 n (⟨j.val, by omega⟩ : Fin 128)) = proj x0 x1 x2 n ⟨7168 + j.val, by omega⟩ := by
  unfold val_main_v20
  refine (concatenate_apply_piece _ _ _ (ix2 n (⟨j.val, by omega⟩ : Fin 128) : S16384x128.Idx) 0 (by show 0 < 4; decide) S16384x16 _ rfl rfl 0 rfl (ix2 n j) (fun a ha => ?_) ?_).trans ?_
  · match a with
    | ⟨0, _⟩ => rfl
    | ⟨1, _⟩ => exact absurd rfl ha
  · show 0 + j.val = j.val; omega
  · rw [val_main_v17_apply, ← v16_at]
    congr 1
    funext a; match a with | ⟨0, _⟩ => rfl | ⟨1, _⟩ => rfl

/-- lanes 16 to 31: the second gate's columns, -/
theorem v20_b (n : Fin 16384) (j : Fin 16) :
    val_main_v20 (F := Ideal) x0 x1 x2 (ix2 n (⟨16 + j.val, by omega⟩ : Fin 128)) = proj x0 x1 x2 n ⟨7184 + j.val, by omega⟩ := by
  unfold val_main_v20
  refine (concatenate_apply_piece _ _ _ (ix2 n (⟨16 + j.val, by omega⟩ : Fin 128) : S16384x128.Idx) 1 (by show 1 < 4; decide) S16384x16 _ rfl rfl 16 rfl (ix2 n j) (fun a ha => ?_) rfl).trans ?_
  · match a with
    | ⟨0, _⟩ => rfl
    | ⟨1, _⟩ => exact absurd rfl ha
  · rw [val_main_v18_apply, ← v16_at]
    congr 1
    funext a; match a with | ⟨0, _⟩ => rfl | ⟨1, _⟩ => rfl

/-- lanes 32 to 47: those again, -/
theorem v20_c (n : Fin 16384) (j : Fin 16) :
    val_main_v20 (F := Ideal) x0 x1 x2 (ix2 n (⟨32 + j.val, by omega⟩ : Fin 128)) = proj x0 x1 x2 n ⟨7184 + j.val, by omega⟩ := by
  unfold val_main_v20
  refine (concatenate_apply_piece _ _ _ (ix2 n (⟨32 + j.val, by omega⟩ : Fin 128) : S16384x128.Idx) 2 (by show 2 < 4; decide) S16384x16 _ rfl rfl 32 rfl (ix2 n j) (fun a ha => ?_) rfl).trans ?_
  · match a with
    | ⟨0, _⟩ => rfl
    | ⟨1, _⟩ => exact absurd rfl ha
  · rw [val_main_v18_apply, ← v16_at]
    congr 1
    funext a; match a with | ⟨0, _⟩ => rfl | ⟨1, _⟩ => rfl

/-- and the other lanes: zero. -/
theorem v20_d (n : Fin 16384) (j : Fin 80) :
    val_main_v20 (F := Ideal) x0 x1 x2 (ix2 n (⟨48 + j.val, by omega⟩ : Fin 128)) = (0 : EReal) := by
  unfold val_main_v20
  refine (concatenate_apply_piece _ _ _ (ix2 n (⟨48 + j.val, by omega⟩ : Fin 128) : S16384x128.Idx) 3 (by show 3 < 4; decide) S16384x80 _ rfl rfl 48 rfl (ix2 n j) (fun a ha => ?_) rfl).trans ?_
  · match a with
    | ⟨0, _⟩ => rfl
    | ⟨1, _⟩ => exact absurd rfl ha
  · rw [val_main_v19_apply]; exact zero_bits

end Cert.ProjRef

end
-- ==== Proof.Proj.Value.lean ====
/- The input projection's two result arrays over the extended reals: the reference's. -/
module

public import proofs.«01_k».proof.Proof.Proj.Frame
public import proofs.«01_k».proof.Proof.Proj.Block
public import proofs.«01_k».proof.Proof.Proj.Arrays
public import proofs.«01_k».proof.Proof.Proj.Ref
public import Idealize.ShloMosaic.Lib.Pipeline.Value
public import Idealize.ShloMosaic.Lib.Pipeline.ValueKit

@[expose] public section

set_option maxRecDepth 16384

noncomputable section

namespace Cert.Proof.Proj

open Cert.ProjIdeal Cert.ProjIdeal.Gen Cert.FfnMath Cert.ProjRef
open Idealize.ShloMosaic Idealize.ShloMosaic.TcCoe Idealize.SL.Sem
open Cert.FfnIdeal.Hand (bl)
open scoped BigOperators

variable (m : (ℓ : Loc nD τ sig) → Buf (Elt Ideal) ℓ) (c : Dev nD)

/-- The reference's results at the program's arguments. -/
abbrev cols : Vec Ideal S16384x7168 .bf16 := Cert.ProjRefIdeal.Read.val_main_v22 (F := Ideal) (a0 m c) (a1 m c) (a2 m c)
abbrev gates : Vec Ideal S16384x128 .f32 := Cert.ProjRefIdeal.Read.val_main_v20 (F := Ideal) (a0 m c) (a1 m c) (a2 m c)

/-- Rows of the row block that point `t` works on, from its first point. -/
theorem row_lead (t : Fin cfg0.N) (r : Fin 1024) : row (lead t.val) r = row t r := by
  have ht : t.val < 64 := Nat.lt_of_lt_of_eq t.isLt N_0
  apply Fin.ext
  show 1024 * (t.val / 4 * 4 % 64 / 4) + r.val = 1024 * (t.val / 4) + r.val
  omega

/-- The normalised row, from the block at the row block's first point. -/
theorem norm_at (t : Fin cfg0.N) (r : Fin 1024) :
    rms (fun k => (iblk m c 0 (lead t.val) : Vec Ideal S1024x2048 .f32) (ValueIdx.ix2 r k))
        (fun k => (iblk m c 1 (lead t.val) : Vec Ideal S1x2048 .f32) (ValueIdx.ix2 (0 : Fin 1) k))
      = XN (a0 m c) (a1 m c) (row t r) := by
  unfold XN
  rw [← row_lead t r]
  congr 1
  · funext k; exact rows_blk m c _ r k
  · funext k; exact scale_blk m c _ k

theorem rowsAt_at (t : Fin cfg0.N) (r : Fin 1024) (k : Fin 2048) :
    (rowsAt m c t.val : Vec Ideal S1024x2048 .bf16) (ValueIdx.ix2 r k) = XN (a0 m c) (a1 m c) (row t r) k := by
  unfold rowsAt
  rw [pay2_eq, pay1_apply]
  exact congrFun (norm_at m c t r) k

/-- What a point leaves in its block of the columns. -/
theorem colsAt_at (t : Fin cfg0.N) (r : Fin 1024) (j : Fin 1792) :
    (colsAt m c t : Vec Ideal S1024x1792 .bf16) (ValueIdx.ix2 r j) = cols m c (ValueIdx.ix2 (row t r) (col t j)) := by
  rw [show cols m c (ValueIdx.ix2 (row t r) (col t j)) = _ from v22_at (a0 m c) (a1 m c) (a2 m c) (row t r) (col t j)]
  unfold colsAt proj
  rw [pay4_apply]
  refine Finset.sum_congr rfl fun k _ => ?_
  rw [rowsAt_at, cols_blk]

/-- A lane of the gates' block: the normalised row times that lane's column. -/
theorem gatesAt_sum (t : Fin cfg0.N) (r : Fin 1024) (e : Fin 128) :
    (gatesAt m c t.val : Vec Ideal S1024x128 .f32) (ValueIdx.ix2 r e)
      = ∑ k, XN (a0 m c) (a1 m c) (row t r) k * (V m c main_v9 : Vec Ideal S2048x128 .bf16) (ValueIdx.ix2 k e) := by
  unfold gatesAt
  rw [pay3_apply]
  refine Finset.sum_congr rfl fun k _ => ?_
  rw [norm_at m c t r]
  exact congrArg _ (gates_blk m c _ k e)

/-- What a row block's points leave in the gates' block. -/
theorem gatesAt_at (t : Fin cfg0.N) (r : Fin 1024) (e : Fin 128) :
    (gatesAt m c t.val : Vec Ideal S1024x128 .f32) (ValueIdx.ix2 r e) = gates m c (ValueIdx.ix2 (row t r) e) := by
  refine (gatesAt_sum m c t r e).trans ?_
  by_cases ha : e.val < 16
  · obtain ⟨j, rfl⟩ : ∃ j : Fin 16, e = (⟨j.val, Nat.lt_of_lt_of_le j.isLt (by decide)⟩ : Fin 128) := ⟨⟨e.val, ha⟩, rfl⟩
    refine Eq.trans ?_ (v20_a (a0 m c) (a1 m c) (a2 m c) (row t r) j).symm
    exact Finset.sum_congr rfl fun k _ => congrArg _ (gate_a m c k j)
  by_cases hb : e.val < 32
  · obtain ⟨j, rfl⟩ : ∃ j : Fin 16, e = (⟨16 + j.val, Nat.lt_of_lt_of_le (Nat.add_lt_add_left j.isLt 16) (by decide)⟩ : Fin 128) := ⟨⟨e.val - 16, by omega⟩, Fin.ext (by show e.val = 16 + (e.val - 16); omega)⟩
    refine Eq.trans ?_ (v20_b (a0 m c) (a1 m c) (a2 m c) (row t r) j).symm
    exact Finset.sum_congr rfl fun k _ => congrArg _ (gate_b m c k j)
  by_cases hc : e.val < 48
  · obtain ⟨j, rfl⟩ : ∃ j : Fin 16, e = (⟨32 + j.val, Nat.lt_of_lt_of_le (Nat.add_lt_add_left j.isLt 32) (by decide)⟩ : Fin 128) := ⟨⟨e.val - 32, by omega⟩, Fin.ext (by show e.val = 32 + (e.val - 32); omega)⟩
    refine Eq.trans ?_ (v20_c (a0 m c) (a1 m c) (a2 m c) (row t r) j).symm
    exact Finset.sum_congr rfl fun k _ => congrArg _ (gate_c m c k j)
  · obtain ⟨j, rfl⟩ : ∃ j : Fin 80, e = (⟨48 + j.val, Nat.lt_of_lt_of_le (Nat.add_lt_add_left j.isLt 48) (by decide)⟩ : Fin 128) := ⟨⟨e.val - 48, by omega⟩, Fin.ext (by show e.val = 48 + (e.val - 48); omega)⟩
    refine Eq.trans ?_ (v20_d (a0 m c) (a1 m c) (a2 m c) (row t r) j).symm
    refine Finset.sum_eq_zero fun k _ => ?_
    exact (congrArg _ (gate_d m c k j)).trans (mul_zero _)

/-- Where the entries of a point's blocks lie in the results. -/
theorem emb_cols (t : Fin cfg0.N) (r : Fin 1024) (j : Fin 1792) :
    (win0_4.blk t).view.emb (ValueIdx.ix2 r j) = (ValueIdx.ix2 (row t r) (col t j) : S16384x7168.Idx) := by
  have i := idx4 t
  funext a; apply Fin.ext
  match a with
  | ⟨0, _⟩ => show win0_4.index t 0 * 1024 + 1 * r.val = 1024 * (t.val / 4) + r.val; rw [i.1]; omega
  | ⟨1, _⟩ => show win0_4.index t 1 * 1792 + 1 * j.val = 1792 * (t.val % 4) + j.val; rw [i.2]; omega

theorem emb_gates (t : Fin cfg0.N) (r : Fin 1024) (e : Fin 128) :
    (win0_5.blk t).view.emb (ValueIdx.ix2 r e) = (ValueIdx.ix2 (row t r) e : S16384x128.Idx) := by
  have i := idx5 t
  funext a; apply Fin.ext
  match a with
  | ⟨0, _⟩ => show win0_5.index t 0 * 1024 + 1 * r.val = 1024 * (t.val / 4) + r.val; rw [i.1]; omega
  | ⟨1, _⟩ => show win0_5.index t 1 * 128 + 1 * e.val = e.val; rw [i.2]; omega

theorem colsAt_eq (t : Fin cfg0.N) (y : S1024x1792.Idx) : (colsAt m c t : Vec Ideal S1024x1792 .bf16) y = cols m c ((win0_4.blk t).view.emb y) := by
  obtain ⟨r, j, rfl⟩ : ∃ (r : Fin 1024) (j : Fin 1792), y = ValueIdx.ix2 r j := ⟨y 0, y 1, ValueIdx.eq_ix2 y⟩
  exact (colsAt_at m c t r j).trans (congrArg (cols m c) (emb_cols t r j).symm)

theorem gatesAt_eq (t : Fin cfg0.N) (y : S1024x128.Idx) : (gatesAt m c t.val : Vec Ideal S1024x128 .f32) y = gates m c ((win0_5.blk t).view.emb y) := by
  obtain ⟨r, e, rfl⟩ : ∃ (r : Fin 1024) (e : Fin 128), y = ValueIdx.ix2 r e := ⟨y 0, y 1, ValueIdx.eq_ix2 y⟩
  exact (gatesAt_at m c t r e).trans (congrArg (gates m c) (emb_gates t r e).symm)

/-- The columns after the run. -/
theorem final_cols : (dats m 0 c).arrAt 4 cfg0.N = cols m c := by
  refine (dats m 0 c).arrAt_eq_of_covers 4 _ (by decide +kernel) fun t hf y => ?_
  blk_simp
  rw [after4]
  exact colsAt_eq m c t y

/-- The gates after the run. -/
theorem final_gates : (dats m 0 c).arrAt 5 cfg0.N = gates m c := by
  refine (dats m 0 c).arrAt_eq_of_covers 5 _ (by decide +kernel) fun t hf y => ?_
  blk_simp
  rw [after5]
  exact gatesAt_eq m c t y

end Cert.Proof.Proj

end
-- ==== Proof.Proj.Claim.lean ====
/- The claims about the input projection: the frames, and the equations of the kernel's two results and the
   reference's over the extended reals. -/
module

public import proofs.«01_k».proof.Defs
public import proofs.«01_k».proof.Proof.Proj.Bits.Frame
public import proofs.«01_k».proof.Proof.Gen.ProjRefIdeal.Run
public import proofs.«01_k».proof.Proof.Proj.Value

@[expose] public section

noncomputable section

namespace Cert.Proof.Proj

open Idealize.ShloMosaic Idealize.ShloMosaic.TcCoe Idealize.SL.Sem

/-- The kernel's program runs and keeps its arguments. -/
theorem frame : Cert.quiescent_Proj := fun m g _ => Cert.Proof.ProjBits.frame m g
/-- So does its idealization. -/
theorem frame_ideal : Cert.quiescent_ProjIdeal := fun m g _ => frame_any m g
/-- So does the reference. -/
theorem frame_ref : Cert.quiescent_ProjRefIdeal := fun m g _ =>
  (θ_run Cert.ProjRefIdeal.defs _ _).mono (fun r h => ⟨fun c => (h c).2.2, sem_eq_zero_of_no_sems (by decide) r.2⟩)
    (Cert.ProjRefIdeal.Value.run (F := Ideal) m g)

/-- No operation is rewritten. -/
theorem preserves : Cert.preserves_Proj_ProjIdeal := trivial

/-- Over the extended reals the kernel and the reference end with the same two arrays. -/
theorem algebraic : Cert.algebraic_ProjIdeal_ProjRefIdeal := by
  intro m g m' g' _ hagree
  refine ⟨fun c => cols m c, fun c => gates m c, ?_, ?_⟩
  · exact (θ_run Cert.ProjIdeal.defs _ _).mono (fun r h c => ⟨((h.1 c).1 4).trans (final_cols m c), ((h.1 c).1 5).trans (final_gates m c), h.2 c⟩)
      (θ_run_and (run_main (F := Ideal) m g) (unchanged m g))
  · refine (θ_run Cert.ProjRefIdeal.defs _ _).mono (fun _ h c => ⟨(h c).1.trans ?_, (h c).2.1.trans ?_, (h c).2.2⟩) (Cert.ProjRefIdeal.Value.run (F := Ideal) m' g')
    · rw [Cert.ProjRefIdeal.Read.val_main_v22_eq, (hagree c).1, (hagree c).2.1, (hagree c).2.2]
    · rw [Cert.ProjRefIdeal.Read.val_main_v20_eq, (hagree c).1, (hagree c).2.1, (hagree c).2.2]

end Cert.Proof.Proj

end
-- ==== Proof.Gates.Sums.lean ====
/- Running sums inside runs of 64 rows, forwards and backwards, built by doubling: the arithmetic of the gates. -/
module

public import Idealize.ShloMosaic.PureOps.Ideal.Laws

@[expose] public section

noncomputable section

namespace Cert.GatesMath

open Idealize.ShloMosaic
open scoped BigOperators

/-- The logistic function. -/
def sigm (x : EReal) : EReal := Ideal.div (Ideal.ofBits .f32 0x3F800000#32) (Ideal.ofBits .f32 0x3F800000#32 + Ideal.exp (-x))

/-- `max(x, 0) + log(1 + exp(-|x|))`. -/
def softp (x : EReal) : EReal := max x 0 + Ideal.log (1 + Ideal.exp (-(max x (-x))))

/-- The logarithm of a token's decay: minus `exp lg` times the softplus of `a + dt`. -/
def decay (a dt lg : EReal) : EReal := -(Ideal.exp lg) * softp (a + dt)

/-- The last `s` entries up to row `r`, without leaving the run of 64 rows. -/
def fwd (s : ℕ) (g : ℕ → EReal) (r : ℕ) : EReal := ∑ j ∈ Finset.range (min s (r % 64 + 1)), g (r - j)

/-- The first `s` entries from row `r` on, without leaving the run of 64 rows. -/
def bwd (s : ℕ) (g : ℕ → EReal) (r : ℕ) : EReal := ∑ j ∈ Finset.range (min s (64 - r % 64)), g (r + j)

theorem fwd_one (g : ℕ → EReal) (r : ℕ) : fwd 1 g r = g r := by
  unfold fwd
  rw [show min 1 (r % 64 + 1) = 1 by omega, Finset.sum_range_one, Nat.sub_zero]

theorem bwd_one (g : ℕ → EReal) (r : ℕ) : bwd 1 g r = g r := by
  unfold bwd
  rw [show min 1 (64 - r % 64) = 1 by omega, Finset.sum_range_one, Nat.add_zero]

/-- Two neighbouring spans of `s` entries are one of `2 * s`. -/
theorem fwd_double (s : ℕ) (g : ℕ → EReal) (r : ℕ) :
    fwd s g r + (if s ≤ r % 64 then fwd s g (r - s) else 0) = fwd (2 * s) g r := by
  unfold fwd
  by_cases h : s ≤ r % 64
  · rw [if_pos h, show min (2 * s) (r % 64 + 1) = s + min s ((r - s) % 64 + 1) by omega, Finset.sum_range_add,
      show min s (r % 64 + 1) = s by omega]
    congr 1
    exact Finset.sum_congr rfl fun j _ => by rw [Nat.sub_sub]
  · rw [if_neg h, add_zero, show min (2 * s) (r % 64 + 1) = min s (r % 64 + 1) by omega]

/-- The same backwards. -/
theorem bwd_double (s : ℕ) (g : ℕ → EReal) (r : ℕ) :
    bwd s g r + (if r % 64 < 64 - s then bwd s g (r + s) else 0) = bwd (2 * s) g r := by
  unfold bwd
  by_cases h : r % 64 < 64 - s
  · rw [if_pos h, show min (2 * s) (64 - r % 64) = s + min s (64 - (r + s) % 64) by omega, Finset.sum_range_add,
      show min s (64 - r % 64) = s by omega]
    congr 1
    exact Finset.sum_congr rfl fun j _ => by rw [Nat.add_assoc]
  · rw [if_neg h, add_zero, show min (2 * s) (64 - r % 64) = min s (64 - r % 64) by omega]

/-- A sum over a span depends on the entries of the run only. -/
theorem fwd_congr (s : ℕ) (g g' : ℕ → EReal) (r : ℕ) (h : ∀ n ≤ r, g n = g' n) : fwd s g r = fwd s g' r :=
  Finset.sum_congr rfl fun j _ => h _ (Nat.sub_le _ _)

theorem bwd_congr (s : ℕ) (g g' : ℕ → EReal) (r : ℕ) (h : ∀ n, n / 64 = r / 64 → g n = g' n) : bwd s g r = bwd s g' r :=
  Finset.sum_congr rfl fun j hj => h _ (by have := Finset.mem_range.1 hj; omega)

/-- A column of 2048 entries read at any number. -/
def col (f : Fin 2048 → EReal) (n : ℕ) : EReal := if h : n < 2048 then f ⟨n, h⟩ else 0

theorem col_val (f : Fin 2048 → EReal) (r : Fin 2048) : col f r.val = f r := dif_pos r.isLt

/-- A token's running sum of the decays within its run of 64, towards the later tokens or the earlier. -/
def total (back : Bool) (f : Fin 2048 → EReal) (r : Fin 2048) : EReal :=
  if back then bwd 64 (col f) r.val else fwd 64 (col f) r.val

theorem ite_one {α : Type} (p : Prop) [Decidable p] (a b : α) : (if (if p then 1#1 else 0#1 : BitVec 1) = 1#1 then a else b) = if p then a else b := by
  by_cases h : p
  · rw [if_pos h, if_pos h]; exact if_pos rfl
  · rw [if_neg h, if_neg h]; exact if_neg (by decide)

end Cert.GatesMath

end
-- ==== Proof.Gates.Block.lean ====
/- What one grid point of the gates stores, read at one token and lane, over the extended reals. -/
module

public import proofs.«01_k».proof.Proof.Gen.GatesIdeal.Frame
public import proofs.«01_k».proof.Proof.Gates.Sums
public import Idealize.ShloMosaic.Lib.ValueIdx
public import Idealize.ShloMosaic.Lib.ValueLayout
public import Idealize.ShloMosaic.Lib.ValueLayoutCasts
public import Idealize.ShloMosaic.Lib.KernelVsHost
public import Idealize.ShloMosaic.Lib.IdealHost
public import Idealize.ShloMosaic.Lib.Pipeline.Value

@[expose] public section

noncomputable section

namespace Cert.GatesIdeal.Hand

open Cert.GatesIdeal Cert.GatesIdeal.Gen Cert.GatesMath Idealize.ShloMosaic Idealize.ShloMosaic.ValueIdx
open scoped BigOperators

/-! ## The index vectors -/

set_option maxRecDepth 16384 in
theorem pos_all : ∀ r : Fin 2048, k0_pay3 (ix2 r (0 : Fin 128)) = BitVec.ofNat 32 (r.val % 64) := by decide +kernel

/-- The position of a row in its run of 64. -/
theorem pos_apply (r : Fin 2048) (l : Fin 128) : k0_pay3 (ix2 r l) = BitVec.ofNat 32 (r.val % 64) := pos_all r

set_option maxRecDepth 16384 in
theorem group_all : ∀ l : Fin 128, k0_pay7 k0_pay4 k0_pay5 k0_pay6 (ix2 (0 : Fin 2048) l) = BitVec.ofNat 32 (l.val / 16) := by decide +kernel

/-- The group of 16 lanes. -/
theorem group_apply (r : Fin 2048) (l : Fin 128) : k0_pay7 k0_pay4 k0_pay5 k0_pay6 (ix2 r l) = BitVec.ofNat 32 (l.val / 16) := group_all l

set_option maxRecDepth 16384 in
theorem back_all : ∀ l : Fin 128, k0_pay8 (iota .tc S2048x128 32 [1] iota_S2048x128_d1_w32) (ix2 (0 : Fin 2048) l)
    = if 8 ≤ l.val % 16 then 1#1 else 0#1 := by decide +kernel

/-- The lanes of the second direction. -/
theorem back_apply (r : Fin 2048) (l : Fin 128) : k0_pay8 (iota .tc S2048x128 32 [1] iota_S2048x128_d1_w32) (ix2 r l)
    = if 8 ≤ l.val % 16 then 1#1 else 0#1 := back_all l

/-! ## The doubling steps -/

/-- One step forwards. -/
theorem step_fwd (s : ℕ) (sw : BitVec 32) (hsw : sw.toNat = s) (hs : s < 64) (hm : ∀ p : Fin 64, IntOp.cmpi .sge (BitVec.ofNat 32 p.val) sw = if s ≤ p.val then 1#1 else 0#1)
    (g : Fin 128 → ℕ → EReal) (x : FVec Ideal S2048x128 .f32) (hx : ∀ (r : Fin 2048) (l : Fin 128), x (ix2 r l) = fwd s (g l) r.val)
    (r : Fin 2048) (l : Fin 128) :
    addf x (select (cmpi .sge k0_pay3 (broadcast S2048x128 sw)) (dynamicRotate 0 sw none x rotates_S2048x128_d0)
      (broadcast S2048x128 (Scalar.ofBits .f32 0x00000000#32 : Ideal .f32))) (ix2 r l) = fwd (2 * s) (g l) r.val := by
  rw [← fwd_double, ← hx r l]
  show x (ix2 r l) + (if IntOp.cmpi .sge (k0_pay3 (ix2 r l)) sw = 1 then dynamicRotate 0 sw none x rotates_S2048x128_d0 (ix2 r l) else Ideal.ofBits .f32 0x00000000#32) = _
  congr 1
  rw [pos_apply, hm ⟨r.val % 64, Nat.mod_lt _ (by decide)⟩, Ideal.ofBits_zero_f32]
  refine (ite_one _ _ _).trans ?_
  show (if s ≤ r.val % 64 then _ else _) = _
  by_cases h : s ≤ r.val % 64
  · rw [if_pos h, if_pos h]
    have hr := r.isLt
    have hlt : r.val - s < 2048 := by omega
    refine (dynamicRotate_apply 0 sw x rotates_S2048x128_d0 (ix2 r l) (ix2 (⟨r.val - s, hlt⟩ : Fin 2048) l) fun b => ?_).trans (hx _ l)
    match b with
    | ⟨0, _⟩ =>
      show r.val - s = if (0 : Fin 2) = 0 then (r.val + 2048 - sw.toNat % 2048) % 2048 else r.val
      rw [if_pos rfl, hsw]; omega
    | ⟨1, _⟩ =>
      show l.val = if (1 : Fin 2) = 0 then (l.val + 128 - sw.toNat % 128) % 128 else l.val
      rw [if_neg (by decide)]
  · rw [if_neg h, if_neg h]

/-- One step backwards. -/
theorem step_bwd (s : ℕ) (sw cw : BitVec 32) (hsw : sw.toNat = 2048 - s) (hs : s < 64) (hs0 : 0 < s) (hm : ∀ p : Fin 64, IntOp.cmpi .slt (BitVec.ofNat 32 p.val) cw = if p.val < 64 - s then 1#1 else 0#1)
    (g : Fin 128 → ℕ → EReal) (x : FVec Ideal S2048x128 .f32) (hx : ∀ (r : Fin 2048) (l : Fin 128), x (ix2 r l) = bwd s (g l) r.val)
    (r : Fin 2048) (l : Fin 128) :
    addf x (select (cmpi .slt k0_pay3 (broadcast S2048x128 cw)) (dynamicRotate 0 sw none x rotates_S2048x128_d0)
      (broadcast S2048x128 (Scalar.ofBits .f32 0x00000000#32 : Ideal .f32))) (ix2 r l) = bwd (2 * s) (g l) r.val := by
  rw [← bwd_double, ← hx r l]
  show x (ix2 r l) + (if IntOp.cmpi .slt (k0_pay3 (ix2 r l)) cw = 1 then dynamicRotate 0 sw none x rotates_S2048x128_d0 (ix2 r l) else Ideal.ofBits .f32 0x00000000#32) = _
  congr 1
  rw [pos_apply, hm ⟨r.val % 64, Nat.mod_lt _ (by decide)⟩, Ideal.ofBits_zero_f32]
  refine (ite_one _ _ _).trans ?_
  show (if r.val % 64 < 64 - s then _ else _) = _
  by_cases h : r.val % 64 < 64 - s
  · rw [if_pos h, if_pos h]
    have hr := r.isLt
    have hlt : r.val + s < 2048 := by omega
    refine (dynamicRotate_apply 0 sw x rotates_S2048x128_d0 (ix2 r l) (ix2 (⟨r.val + s, hlt⟩ : Fin 2048) l) fun b => ?_).trans (hx _ l)
    match b with
    | ⟨0, _⟩ =>
      show r.val + s = if (0 : Fin 2) = 0 then (r.val + 2048 - sw.toNat % 2048) % 2048 else r.val
      rw [if_pos rfl, hsw]; omega
    | ⟨1, _⟩ =>
      show l.val = if (1 : Fin 2) = 0 then (l.val + 128 - sw.toNat % 128) % 128 else l.val
      rw [if_neg (by decide)]
  · rw [if_neg h, if_neg h]

/-- The first three steps forwards. -/
theorem pay13_apply (g : Fin 128 → ℕ → EReal) (a : FVec Ideal S2048x128 .f32) (e : FVec Ideal S1x128 .f32)
    (hg : ∀ (r : Fin 2048) (l : Fin 128), k0_pay12 a e (ix2 r l) = g l r.val) (r : Fin 2048) (l : Fin 128) :
    k0_pay13 k0_pay3 a e (ix2 r l) = fwd 8 (g l) r.val :=
  step_fwd 4 4#32 rfl (by decide) (by decide +kernel) g _ (step_fwd 2 2#32 rfl (by decide) (by decide +kernel) g _
    (step_fwd 1 1#32 rfl (by decide) (by decide +kernel) g _ (fun r l => (hg r l).trans (fwd_one _ _).symm))) r l

/-- The first three steps backwards. -/
theorem pay14_apply (g : Fin 128 → ℕ → EReal) (a : FVec Ideal S2048x128 .f32) (e : FVec Ideal S1x128 .f32)
    (hg : ∀ (r : Fin 2048) (l : Fin 128), k0_pay12 a e (ix2 r l) = g l r.val) (r : Fin 2048) (l : Fin 128) :
    k0_pay14 k0_pay3 a e (ix2 r l) = bwd 8 (g l) r.val :=
  step_bwd 4 2044#32 60#32 rfl (by decide) (by decide) (by decide +kernel) g _ (step_bwd 2 2046#32 62#32 rfl (by decide) (by decide) (by decide +kernel) g _
    (step_bwd 1 2047#32 63#32 rfl (by decide) (by decide) (by decide +kernel) g _ (fun r l => (hg r l).trans (bwd_one _ _).symm))) r l

/-- All steps: the running sum in the lane's direction. -/
theorem pay15_apply (g : Fin 128 → Fin 2048 → EReal) (a b : FVec Ideal S2048x128 .f32)
    (ha : ∀ (r : Fin 2048) (l : Fin 128), a (ix2 r l) = fwd 8 (col (g l)) r.val)
    (hb : ∀ (r : Fin 2048) (l : Fin 128), b (ix2 r l) = bwd 8 (col (g l)) r.val) (r : Fin 2048) (l : Fin 128) :
    k0_pay15 k0_pay3 (k0_pay8 (iota .tc S2048x128 32 [1] iota_S2048x128_d1_w32)) a b 8#32 (ix2 r l) = total (decide (8 ≤ l.val % 16)) (g l) r := by
  have hf := step_fwd 32 32#32 rfl (by decide) (by decide +kernel) (fun l => col (g l)) _ (step_fwd 16 16#32 rfl (by decide) (by decide +kernel) (fun l => col (g l)) _
    (step_fwd 8 8#32 rfl (by decide) (by decide +kernel) (fun l => col (g l)) a ha)) r l
  have hk := step_bwd 32 2016#32 32#32 rfl (by decide) (by decide) (by decide +kernel) (fun l => col (g l)) _ (step_bwd 16 2032#32 48#32 rfl (by decide) (by decide) (by decide +kernel) (fun l => col (g l)) _
    (step_bwd 8 2040#32 56#32 rfl (by decide) (by decide) (by decide +kernel) (fun l => col (g l)) b hb)) r l
  unfold k0_pay15
  refine (congrArg₂ (Scalar.select _) hk hf).trans ?_
  rw [back_apply]
  refine (ite_one _ _ _).trans ?_
  unfold total
  by_cases h : 8 ≤ l.val % 16 <;> simp [h]

/-! ## The entries -/

theorem off2 : (![0, 0] : Fin 2 → ℕ) = fun _ => 0 := by funext a; fin_cases a <;> rfl
theorem off3 : (![0, 0, 0] : Fin 3 → ℕ) = fun _ => 0 := by funext a; fin_cases a <;> rfl

theorem neg_of (x : EReal) : Ideal.ofBits .f32 0x00000000#32 - x = -x := by
  rw [Ideal.ofBits_zero_f32, sub_eq_add_neg, zero_add]

theorem x_apply (x : FVec Ideal S1x2048x128 .f32) (r : Fin 2048) (l : Fin 128) : k0_pay2 x (ix2 r l) = x (ix3 (0 : Fin 1) r l) := by
  unfold k0_pay2
  exact shapeCast_apply x shapeCasts_S1x2048x128_S2048x128 _ _ (by
    rw [Shape.rowMajor_val_three, Shape.rowMajor_val_two]
    show (0 * 2048 + r.val) * 128 + l.val = r.val * 128 + l.val; omega)

theorem row_apply (v : FVec Ideal S1x128 .f32) (r : Fin 2048) (l : Fin 128) :
    broadcastTo S2048x128 v broadcasts_S1x128_S2048x128 (ix2 r l) = v (ix2 (0 : Fin 1) l) := by
  refine broadcastTo_apply v broadcasts_S1x128_S2048x128 (ix2 r l) (ix2 (0 : Fin 1) l) fun ax => ?_
  match ax with
  | ⟨0, _⟩ => rfl
  | ⟨1, _⟩ => rfl

theorem same_apply (v : FVec Ideal S1x128 .f32) (l : Fin 128) : shapeCast S1x128 v shapeCasts_S1x128_S1x128 (ix2 (0 : Fin 1) l) = v (ix2 (0 : Fin 1) l) :=
  shapeCast_apply v shapeCasts_S1x128_S1x128 _ _ rfl

theorem pay9_apply (v : FVec Ideal S2048x128 .f32) (i : S2048x128.Idx) : k0_pay9 v i = sigm (v i) := by
  show Ideal.div (Ideal.ofBits .f32 0x3F800000#32) (Ideal.ofBits .f32 0x3F800000#32 + Ideal.exp (Ideal.ofBits .f32 0x00000000#32 - v i)) = _
  rw [neg_of]; rfl

theorem pay10_apply (v : FVec Ideal S2048x128 .f32) (d : FVec Ideal S1x128 .f32) (r : Fin 2048) (l : Fin 128) :
    k0_pay10 v d (ix2 r l) = softp (v (ix2 r l) + d (ix2 (0 : Fin 1) l)) := by
  have hz : broadcastTo S2048x128 (shapeCast S1x128 d shapeCasts_S1x128_S1x128) broadcasts_S1x128_S2048x128 (ix2 r l) = d (ix2 (0 : Fin 1) l) :=
    (row_apply _ r l).trans (same_apply d l)
  unfold k0_pay10
  show (fun z : EReal => max z (Ideal.ofBits .f32 0x00000000#32)
    + Ideal.log (Ideal.ofBits .f32 0x3F800000#32 + Ideal.exp (Ideal.ofBits .f32 0x00000000#32 - max z (-z))))
      (v (ix2 r l) + broadcastTo S2048x128 (shapeCast S1x128 d shapeCasts_S1x128_S1x128) broadcasts_S1x128_S2048x128 (ix2 r l)) = _
  rw [hz]
  show max _ (Ideal.ofBits .f32 0x00000000#32) + Ideal.log (Ideal.ofBits .f32 0x3F800000#32 + Ideal.exp (Ideal.ofBits .f32 0x00000000#32 - max _ (-_))) = _
  rw [neg_of, Ideal.ofBits_zero_f32, Ideal.ofBits_one_f32]; rfl

theorem pay12_apply (v : FVec Ideal S2048x128 .f32) (d e : FVec Ideal S1x128 .f32) (r : Fin 2048) (l : Fin 128) :
    k0_pay12 (k0_pay10 v d) (k0_pay11 e) (ix2 r l) = decay (v (ix2 r l)) (d (ix2 (0 : Fin 1) l)) (e (ix2 (0 : Fin 1) l)) := by
  unfold k0_pay12
  refine (congrArg₂ (fun p q : EReal => p * q) (row_apply _ r l) (pay10_apply v d r l)).trans ?_
  show (Ideal.ofBits .f32 0x00000000#32 - Ideal.exp (shapeCast S1x128 e shapeCasts_S1x128_S1x128 (ix2 (0 : Fin 1) l))) * _ = _
  rw [neg_of, same_apply]; rfl

/-- What a grid point stores at a token and lane, from the lane's running sum. -/
def stored (l : ℕ) (beta s : EReal) : EReal :=
  if l / 16 = 0 then beta else if l / 16 = 1 then s else if l / 16 = 2 then s - s else 0

set_option maxRecDepth 16384 in
theorem eq_all : ∀ l : Fin 128, (IntOp.cmpi .eq (BitVec.ofNat 32 (l.val / 16)) 0#32 = if l.val / 16 = 0 then 1#1 else 0#1)
    ∧ (IntOp.cmpi .eq (BitVec.ofNat 32 (l.val / 16)) 1#32 = if l.val / 16 = 1 then 1#1 else 0#1)
    ∧ (IntOp.cmpi .eq (BitVec.ofNat 32 (l.val / 16)) 2#32 = if l.val / 16 = 2 then 1#1 else 0#1) := by decide +kernel

theorem pay1_apply (b s h : FVec Ideal S2048x128 .f32) (r : Fin 2048) (l : Fin 128) (hh : h (ix2 r l) = s (ix2 r l)) :
    k0_pay1 (k0_pay7 k0_pay4 k0_pay5 k0_pay6) b s h (k0_pay17 (k0_pay7 k0_pay4 k0_pay5 k0_pay6)) (Scalar.ofBits .f32 0x00000000#32) (ix3 (0 : Fin 1) r l)
      = stored l.val (b (ix2 r l)) (s (ix2 r l)) := by
  unfold k0_pay1
  refine (shapeCast_apply _ shapeCasts_S2048x128_S1x2048x128 _ (ix2 r l) (by
    rw [Shape.rowMajor_val_three, Shape.rowMajor_val_two]
    show r.val * 128 + l.val = (0 * 2048 + r.val) * 128 + l.val; omega)).trans ?_
  show (if IntOp.cmpi .eq (k0_pay7 k0_pay4 k0_pay5 k0_pay6 (ix2 r l)) 2#32 = 1 then s (ix2 r l) - h (ix2 r l)
    else if IntOp.cmpi .eq (k0_pay7 k0_pay4 k0_pay5 k0_pay6 (ix2 r l)) 1#32 = 1 then h (ix2 r l)
    else if IntOp.cmpi .eq (k0_pay7 k0_pay4 k0_pay5 k0_pay6 (ix2 r l)) 0#32 = 1 then b (ix2 r l) else Ideal.ofBits .f32 0x00000000#32) = _
  rw [group_apply, (eq_all l).1, (eq_all l).2.1, (eq_all l).2.2, hh, Ideal.ofBits_zero_f32]
  refine (ite_one _ _ _).trans ?_
  unfold stored
  by_cases h2 : l.val / 16 = 2
  · rw [if_pos h2, if_neg (by omega), if_neg (by omega), if_pos h2]
  rw [if_neg h2]
  refine (ite_one _ _ _).trans ?_
  by_cases h1 : l.val / 16 = 1
  · rw [if_pos h1, if_neg (by omega), if_pos h1]
  rw [if_neg h1]
  refine (ite_one _ _ _).trans ?_
  by_cases h0 : l.val / 16 = 0
  · rw [if_pos h0, if_pos h0]
  · rw [if_neg h0, if_neg h0, if_neg h1, if_neg h2]

/-- The stored block of a grid point. -/
theorem out_apply (x : Vec Ideal S1x2048x128 .f32) (e d : Vec Ideal S1x128 .f32) (r : Fin 2048) (l : Fin 128) :
    (out0_3 (F := Ideal) x e d : Vec Ideal S1x2048x128 .bf16) (ix3 (0 : Fin 1) r l)
      = stored l.val (sigm (x (ix3 (0 : Fin 1) r l)))
          (total (decide (8 ≤ l.val % 16)) (fun r => decay (x (ix3 (0 : Fin 1) r l)) (d (ix2 (0 : Fin 1) l)) (e (ix2 (0 : Fin 1) l))) r) := by
  unfold out0_3
  rw [View.canon_unit_zero off3]
  unfold k0_pay25 k0_pay24 k0_pay23 k0_pay22 k0_pay21 k0_pay20 k0_pay19 k0_pay18
  simp only [View.ld_unit_zero (S := S1x2048x128) off3, View.ld_unit_zero (S := S1x128) off2]
  have hg : ∀ (r : Fin 2048) (l : Fin 128), k0_pay12 (k0_pay10 (k0_pay2 x) d) (k0_pay11 e) (ix2 r l)
      = col (fun r => decay (x (ix3 (0 : Fin 1) r l)) (d (ix2 (0 : Fin 1) l)) (e (ix2 (0 : Fin 1) l))) r.val := fun r l => by
    rw [col_val, pay12_apply, x_apply]
  refine (pay1_apply _ _ _ r l rfl).trans ?_
  rw [pay9_apply, x_apply, pay15_apply (fun l r => decay (x (ix3 (0 : Fin 1) r l)) (d (ix2 (0 : Fin 1) l)) (e (ix2 (0 : Fin 1) l))) _ _
    (pay13_apply _ _ _ hg) (pay14_apply _ _ _ hg)]

end Cert.GatesIdeal.Hand

end
-- ==== Proof.Gates.Arrays.lean ====
/- The blocks a grid point of the gates reads, entry by entry, as the program's arguments: point `t` works on
   batch element `t`, and lane `l` of the two rows holds the parameter of direction `l % 16 / 8` and head `l % 8`. -/
module

public import proofs.«01_k».proof.Proof.Gates.Block
public import proofs.«01_k».proof.Proof.Gen.GatesIdeal.Value
public import Idealize.ShloMosaic.Lib.StableHlo.Run

@[expose] public section

noncomputable section

namespace Cert.GatesIdeal.Hand

open Cert.GatesIdeal Cert.GatesIdeal.Gen Cert.GatesMath Idealize.ShloMosaic Idealize.ShloMosaic.TcCoe Idealize.SL.Sem
open Idealize.ShloMosaic.ValueIdx Idealize.ShloMosaic.StableHlo

/-- Sixteen parameters in eight copies along one row. -/
def lanes (x : FVec Ideal S1x2x8 .f32) : FVec Ideal S1x128 .f32 :=
  shapeCast S1x128 (shapeCast S128 (broadcastInDim S8x16 ![0, 1] bcast_S1x16_S8x16_0_1
    (shapeCast S1x16 (shapeCast S16 (shapeCast S2x8 x shapeCasts_S1x2x8_S2x8) shapeCasts_S2x8_S16) shapeCasts_S16_S1x16))
    shapeCasts_S8x16_S128) shapeCasts_S128_S1x128

theorem lanes_apply (x : FVec Ideal S1x2x8 .f32) (l : Fin 128) :
    lanes x (ix2 (0 : Fin 1) l) = x (ix3 (0 : Fin 1) (⟨l.val % 16 / 8, by omega⟩ : Fin 2) (⟨l.val % 8, by omega⟩ : Fin 8)) := by
  have hl := l.isLt
  unfold lanes
  refine (shapeCast_apply _ shapeCasts_S128_S1x128 _ (ix1 l) (by
    rw [Shape.rowMajor_val_one, Shape.rowMajor_val_two]; show l.val = 0 * 128 + l.val; omega)).trans ?_
  refine (shapeCast_apply _ shapeCasts_S8x16_S128 _ (ix2 (⟨l.val / 16, by omega⟩ : Fin 8) (⟨l.val % 16, by omega⟩ : Fin 16)) (by
    rw [Shape.rowMajor_val_one, Shape.rowMajor_val_two]; show l.val / 16 * 16 + l.val % 16 = l.val; omega)).trans ?_
  refine (broadcastInDim_apply _ bcast_S1x16_S8x16_0_1 _ _ (ix2 (0 : Fin 1) (⟨l.val % 16, by omega⟩ : Fin 16)) (fun a => match a with
    | ⟨0, _⟩ => by show 0 = if (1 : Nat) = 1 then 0 else l.val / 16; rw [if_pos rfl]
    | ⟨1, _⟩ => by show l.val % 16 = if (16 : Nat) = 1 then 0 else l.val % 16; rw [if_neg (by decide)])).trans ?_
  refine (shapeCast_apply _ shapeCasts_S16_S1x16 _ (ix1 (⟨l.val % 16, by omega⟩ : Fin 16)) (by
    rw [Shape.rowMajor_val_one, Shape.rowMajor_val_two]; show l.val % 16 = 0 * 16 + l.val % 16; omega)).trans ?_
  refine (shapeCast_apply _ shapeCasts_S2x8_S16 _ (ix2 (⟨l.val % 16 / 8, by omega⟩ : Fin 2) (⟨l.val % 8, by omega⟩ : Fin 8)) (by
    rw [Shape.rowMajor_val_one, Shape.rowMajor_val_two]; show l.val % 16 / 8 * 8 + l.val % 8 = l.val % 16; omega)).trans ?_
  exact shapeCast_apply _ shapeCasts_S1x2x8_S2x8 _ _ (by
    rw [Shape.rowMajor_val_three, Shape.rowMajor_val_two]
    show (0 * 2 + l.val % 16 / 8) * 8 + l.val % 8 = l.val % 16 / 8 * 8 + l.val % 8; omega)

variable (m : (ℓ : Loc nD τ sig) → Buf (Elt Ideal) ℓ)

/-- An argument of the program at launch. -/
abbrev arg (c : Dev nD) (b : Ref sig .tc) : Buf (Elt Ideal) ((c : Thread nD τ).loc b) := m ((c : Thread nD τ).loc b)

theorem V_v5 (c : Dev nD) : (V m c main_v5 : Vec Ideal S1x128 .f32) = lanes (arg m c main_arg1 : Vec Ideal S1x2x8 .f32) := by
  unfold V; simp only [hostOps0, List.flatten_cons, List.flatten_nil, List.append_nil, List.cons_append, List.nil_append]; after_results_simp <;> rfl
theorem V_v11 (c : Dev nD) : (V m c main_v11 : Vec Ideal S1x128 .f32) = lanes (arg m c main_arg2 : Vec Ideal S1x2x8 .f32) := by
  unfold V; simp only [hostOps0, List.flatten_cons, List.flatten_nil, List.append_nil, List.cons_append, List.nil_append]; after_results_simp <;> rfl

theorem idx : ∀ t : Fin cfg0.N, (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ win0_3.index t 0 = t.val ∧ win0_3.index t 1 = 0 ∧ win0_3.index t 2 = 0 :=
  (by decide +kernel : ∀ t : Fin grid0.N, (win0_0.index t 0 = t.val ∧ win0_0.index t 1 = 0 ∧ win0_0.index t 2 = 0)
    ∧ (win0_1.index t 0 = 0 ∧ win0_1.index t 1 = 0) ∧ (win0_2.index t 0 = 0 ∧ win0_2.index t 1 = 0)
    ∧ win0_3.index t 0 = t.val ∧ win0_3.index t 1 = 0 ∧ win0_3.index t 2 = 0)

theorem flush_all : ∀ t : Fin cfg0.N, (cfg0.win 3).flush t = true :=
  (by decide +kernel : ∀ t : Fin grid0.N, win0_3.flush t = true)

variable (c : Dev nD)

/-- The grid point of a batch element. -/
abbrev pt (b : Fin 8) : Fin cfg0.N := ⟨b.val, Nat.lt_of_lt_of_le b.isLt (by decide)⟩

theorem iblk0 (b : Fin 8) (r : Fin 2048) (l : Fin 128) :
    (iblk m c 0 (pt b) : Vec Ideal S1x2048x128 .f32) (ix3 (0 : Fin 1) r l) = (arg m c main_arg0 : Vec Ideal S8x2048x128 .f32) (ix3 b r l) := by
  unfold iblk; rw [View.read_apply]
  show (V m c main_arg0 : Vec Ideal S8x2048x128 .f32) _ = _
  rw [V_main_arg0]
  show (arg m c main_arg0 : Vec Ideal S8x2048x128 .f32) _ = _
  congr 1; funext a; apply Fin.ext
  obtain ⟨⟨h0, h1, h2⟩, -, -, -⟩ := idx (pt b)
  match a with
  | ⟨0, _⟩ => show win0_0.index (pt b) 0 * 1 + 1 * 0 = b.val; rw [h0]; show b.val * 1 + 1 * 0 = b.val; omega
  | ⟨1, _⟩ => show win0_0.index (pt b) 1 * 2048 + 1 * r.val = r.val; rw [h1]; omega
  | ⟨2, _⟩ => show win0_0.index (pt b) 2 * 128 + 1 * l.val = l.val; rw [h2]; omega

theorem iblk1 (t : Fin cfg0.N) (l : Fin 128) :
    (iblk m c 1 t : Vec Ideal S1x128 .f32) (ix2 (0 : Fin 1) l) = lanes (arg m c main_arg1 : Vec Ideal S1x2x8 .f32) (ix2 (0 : Fin 1) l) := by
  unfold iblk; rw [View.read_apply]
  show (V m c main_v5 : Vec Ideal S1x128 .f32) _ = _
  rw [V_v5]
  congr 1; funext a; apply Fin.ext
  obtain ⟨-, ⟨h0, h1⟩, -, -⟩ := idx t
  match a with
  | ⟨0, _⟩ => show win0_1.index t 0 * 1 + 1 * 0 = 0; rw [h0]
  | ⟨1, _⟩ => show win0_1.index t 1 * 128 + 1 * l.val = l.val; rw [h1]; omega

theorem iblk2 (t : Fin cfg0.N) (l : Fin 128) :
    (iblk m c 2 t : Vec Ideal S1x128 .f32) (ix2 (0 : Fin 1) l) = lanes (arg m c main_arg2 : Vec Ideal S1x2x8 .f32) (ix2 (0 : Fin 1) l) := by
  unfold iblk; rw [View.read_apply]
  show (V m c main_v11 : Vec Ideal S1x128 .f32) _ = _
  rw [V_v11]
  congr 1; funext a; apply Fin.ext
  obtain ⟨-, -, ⟨h0, h1⟩, -⟩ := idx t
  match a with
  | ⟨0, _⟩ => show win0_2.index t 0 * 1 + 1 * 0 = 0; rw [h0]
  | ⟨1, _⟩ => show win0_2.index t 1 * 128 + 1 * l.val = l.val; rw [h1]; omega

/-- The logarithms of the decays of batch element `b` in lane `l`. -/
def decays (x : FVec Ideal S8x2048x128 .f32) (lg dt : FVec Ideal S1x2x8 .f32) (b : Fin 8) (l : Fin 128) (r : Fin 2048) : EReal :=
  decay (x (ix3 b r l)) (dt (ix3 (0 : Fin 1) (⟨l.val % 16 / 8, by omega⟩ : Fin 2) (⟨l.val % 8, by omega⟩ : Fin 8)))
    (lg (ix3 (0 : Fin 1) (⟨l.val % 16 / 8, by omega⟩ : Fin 2) (⟨l.val % 8, by omega⟩ : Fin 8)))

/-- The kernel's result, entry by entry. -/
theorem result_at (b : Fin 8) (r : Fin 2048) (l : Fin 128) :
    ((dats m 0 c).arrAt 3 cfg0.N : Vec Ideal S8x2048x128 .bf16) (ix3 b r l)
      = stored l.val (sigm ((arg m c main_arg0 : Vec Ideal S8x2048x128 .f32) (ix3 b r l)))
          (total (decide (8 ≤ l.val % 16)) (decays (arg m c main_arg0) (arg m c main_arg1) (arg m c main_arg2) b l) r) := by
  have h := congrFun ((Value.blocks3 m c (pt b) (flush_all _)).trans (Value.flushed3 m c (pt b))) (ix3 (0 : Fin 1) r l)
  rw [View.read_apply] at h
  refine Eq.trans ?_ (h.trans ?_)
  · show ((dats m 0 c).arrAt 3 cfg0.N : Vec Ideal S8x2048x128 .bf16) _ = ((dats m 0 c).arrAt 3 cfg0.N : Vec Ideal S8x2048x128 .bf16) _
    congr 1; funext a; apply Fin.ext
    obtain ⟨-, -, -, h0, h1, h2⟩ := idx (pt b)
    match a with
    | ⟨0, _⟩ => show b.val = win0_3.index (pt b) 0 * 1 + 1 * 0; rw [h0]; show b.val = b.val * 1 + 1 * 0; omega
    | ⟨1, _⟩ => show r.val = win0_3.index (pt b) 1 * 2048 + 1 * r.val; rw [h1]; omega
    | ⟨2, _⟩ => show l.val = win0_3.index (pt b) 2 * 128 + 1 * l.val; rw [h2]; omega
  · refine (out_apply _ _ _ r l).trans ?_
    simp only [iblk0, iblk1, iblk2, lanes_apply]
    rfl

end Cert.GatesIdeal.Hand

end
-- ==== Proof.Gates.Scan.lean ====
/- A running sum over the third axis of a `[8, 32, 64, 8]` array, as a window of 64 padded 63 low, and the
   reference's running sums in both directions put together, over the extended reals. -/
module

public import proofs.«01_k».proof.Proof.Gates.Sums
public import proofs.«01_k».proof.Proof.Gen.GatesRefIdeal.Read
public import Idealize.ShloMosaic.Lib.ValueIdx
public import Idealize.ShloMosaic.Lib.ValueLayout
public import Idealize.ShloMosaic.Lib.IdealHost
public import Idealize.ShloMosaic.Lib.Pipeline.Value

@[expose] public section

noncomputable section

namespace Cert.GatesRefIdeal.Hand

open Cert.GatesRefIdeal Cert.GatesRefIdeal.Gen Cert.GatesMath Idealize.ShloMosaic Idealize.ShloMosaic.ValueIdx
open scoped BigOperators

/-- A fold that adds is the sum of the list. -/
theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A row of 64 entries read at any number. -/
def row64 (f : Fin 64 → EReal) (n : ℕ) : EReal := if h : n < 64 then f ⟨n, h⟩ else 0

/-- The window's sum: the entries up to `p`, the last first. -/
theorem sum_window (f : ℕ → EReal) (p : ℕ) (hp : p < 64) :
    ∑ n ∈ Finset.range 64, (if 63 ≤ p + n then f (p + n - 63) else 0) = ∑ j ∈ Finset.range (p + 1), f (p - j) := by
  rw [← Finset.sum_range_reflect, show 64 = (p + 1) + (63 - p) by omega, Finset.sum_range_add]
  rw [Finset.sum_eq_zero (s := Finset.range (63 - p)) fun j hj => if_neg (by have := Finset.mem_range.1 hj; omega), add_zero]
  refine Finset.sum_congr rfl fun j hj => ?_
  have hj := Finset.mem_range.1 hj
  rw [if_pos (by omega)]
  congr 1; omega

/-- The window's shape and its positions. -/
abbrev W : Shape := ⟨4, ![1, 1, 64, 1]⟩

theorem numelW : W.numel = 64 := by decide

theorem symmW (n : Fin W.numel) : W.rowMajor.symm n = ix4 (0 : Fin 1) (0 : Fin 1) (n.cast numelW) (0 : Fin 1) :=
  (W.rowMajor.symm_apply_eq).2 (Fin.ext (by
    rw [Shape.rowMajor_val_four]
    show n.val = ((0 * 1 + 0) * 64 + n.val) * 1 + 0
    omega))

/-- The running sum at one entry. -/
theorem scan_apply (x : FVec Ideal S8x32x64x8 .f32) (init : FVec Ideal S_ .f32) (hi : init (Shape.Idx.first h_S_) = 0)
    (b : Fin 8) (q : Fin 32) (p : Fin 64) (h : Fin 8) :
    Host.reduceWindowAdd ![1, 1, 64, 1] ![1, 1, 1, 1] ![0, 0, 63, 0] ![0, 0, 0, 0] x init
      reduceWindows_S8x32x64x8_S8x32x64x8_w1s1p0_0_w1s1p0_0_w64s1p63_0_w1s1p0_0 h_S_ (ix4 b q p h)
      = ∑ j ∈ Finset.range (p.val + 1), row64 (fun k => x (ix4 b q k h)) (p.val - j) := by
  have hp := p.isLt
  show Host.reduceWindow (fun r s : EReal => r + s) ![1, 1, 64, 1] ![1, 1, 1, 1] ![0, 0, 63, 0] ![0, 0, 0, 0] x
    (fun _ : (⟨0, ![]⟩ : Shape).Idx => init (Shape.Idx.first h_S_))
    reduceWindows_S8x32x64x8_S8x32x64x8_w1s1p0_0_w1s1p0_0_w64s1p63_0_w1s1p0_0 (by decide) (ix4 b q p h) = _
  rw [hi, ← sum_window (row64 fun k => x (ix4 b q k h)) p.val hp]
  unfold Host.reduceWindow
  refine (foldl_add _ _ _).trans ?_
  rw [zero_add, ← Fin.sum_univ_def]
  refine Eq.trans (b := ∑ n : Fin W.numel, (fun k : ℕ => if 63 ≤ p.val + k then row64 (fun k => x (ix4 b q k h)) (p.val + k - 63) else 0) n.val)
    (Finset.sum_congr rfl fun n _ => ?_) ?_
  · have hn : n.val < 64 := (n.cast numelW).isLt
    have e0 : (W.rowMajor.symm n 0).val = 0 := by rw [symmW]; rfl
    have e1 : (W.rowMajor.symm n 1).val = 0 := by rw [symmW]; rfl
    have e2 : (W.rowMajor.symm n 2).val = n.val := by rw [symmW]; rfl
    have e3 : (W.rowMajor.symm n 3).val = 0 := by rw [symmW]; rfl
    have hb := b.isLt
    have hq := q.isLt
    have hh := h.isLt
    split
    · next hin =>
      have h2 := hin 2
      change 63 ≤ p.val * 1 + (W.rowMajor.symm n 2).val ∧ p.val * 1 + (W.rowMajor.symm n 2).val - 63 < 64 at h2
      rw [e2] at h2
      show _ = if 63 ≤ p.val + n.val then _ else _
      rw [if_pos (by omega)]
      unfold row64
      rw [dif_pos (by omega)]
      refine congrArg x (funext fun a => Fin.ext ?_)
      match a with
      | ⟨0, _⟩ => show b.val * 1 + (W.rowMajor.symm n 0).val - 0 = b.val; rw [e0]; omega
      | ⟨1, _⟩ => show q.val * 1 + (W.rowMajor.symm n 1).val - 0 = q.val; rw [e1]; omega
      | ⟨2, _⟩ => show p.val * 1 + (W.rowMajor.symm n 2).val - 63 = p.val + n.val - 63; rw [e2]; omega
      | ⟨3, _⟩ => show h.val * 1 + (W.rowMajor.symm n 3).val - 0 = h.val; rw [e3]; omega
    · next hin =>
      show _ = if 63 ≤ p.val + n.val then _ else _
      refine (if_neg fun hle => hin fun a => ?_).symm
      match a with
      | ⟨0, _⟩ => show 0 ≤ b.val * 1 + (W.rowMajor.symm n 0).val ∧ b.val * 1 + (W.rowMajor.symm n 0).val - 0 < 8; rw [e0]; omega
      | ⟨1, _⟩ => show 0 ≤ q.val * 1 + (W.rowMajor.symm n 1).val ∧ q.val * 1 + (W.rowMajor.symm n 1).val - 0 < 32; rw [e1]; omega
      | ⟨2, _⟩ => show 63 ≤ p.val * 1 + (W.rowMajor.symm n 2).val ∧ p.val * 1 + (W.rowMajor.symm n 2).val - 63 < 64; rw [e2]; omega
      | ⟨3, _⟩ => show 0 ≤ h.val * 1 + (W.rowMajor.symm n 3).val ∧ h.val * 1 + (W.rowMajor.symm n 3).val - 0 < 8; rw [e3]; omega
  · refine (Fin.sum_univ_eq_sum_range (fun k : ℕ => if 63 ≤ p.val + k then row64 (fun k => x (ix4 b q k h)) (p.val + k - 63) else 0) W.numel).trans ?_
    rw [numelW]

/-! ## The two directions put together -/

/-- The initial value of the sums. -/
abbrev zero0 : FVec Ideal S_ .f32 := Read.val_main_call1_call0_v0 (F := Ideal)

theorem zero0_first : zero0 (Shape.Idx.first h_S_) = 0 := by
  rw [show zero0 (Shape.Idx.first h_S_) = Ideal.ofBits .f32 0x00000000#32 from (Read.val_main_call1_call0_v0_apply _).trans rfl]
  exact Ideal.ofBits_zero_f32

/-- One direction in runs of 64 tokens. -/
def runs (o : Fin 5 → ℕ) (ho : S8x32x64x2x8.Slices o S8x32x64x1x8) (y : FVec Ideal S8x2048x2x8 .f32) : FVec Ideal S8x32x64x8 .f32 :=
  shapeCast S8x32x64x8 (extractStridedSlice S8x32x64x1x8 o (shapeCast S8x32x64x2x8 y shapeCasts_S8x2048x2x8_S8x32x64x2x8) ho)
    shapeCasts_S8x32x64x1x8_S8x32x64x8

theorem runs_apply (d : Fin 2) (ho : S8x32x64x2x8.Slices ![0, 0, 0, d.val, 0] S8x32x64x1x8) (y : FVec Ideal S8x2048x2x8 .f32)
    (b : Fin 8) (q : Fin 32) (p : Fin 64) (h : Fin 8) :
    runs ![0, 0, 0, d.val, 0] ho y (ix4 b q p h) = y (ix4 b (⟨q.val * 64 + p.val, by omega⟩ : Fin 2048) d h) := by
  unfold runs
  refine (shapeCast_apply _ shapeCasts_S8x32x64x1x8_S8x32x64x8 _ (ix5 b q p (0 : Fin 1) h) (by
    rw [Shape.rowMajor_val_five, Shape.rowMajor_val_four]
    show (((b.val * 32 + q.val) * 64 + p.val) * 1 + 0) * 8 + h.val = ((b.val * 32 + q.val) * 64 + p.val) * 8 + h.val; omega)).trans ?_
  refine (extractStridedSlice_apply _ _ ho _ (ix5 b q p d h) (fun a => match a with
    | ⟨0, _⟩ => by show b.val = 0 + b.val; omega
    | ⟨1, _⟩ => by show q.val = 0 + q.val; omega
    | ⟨2, _⟩ => by show p.val = 0 + p.val; omega
    | ⟨3, _⟩ => by show d.val = d.val + 0; omega
    | ⟨4, _⟩ => by show h.val = 0 + h.val; omega)).trans ?_
  exact shapeCast_apply y shapeCasts_S8x2048x2x8_S8x32x64x2x8 _ _ (by
    rw [Shape.rowMajor_val_five, Shape.rowMajor_val_four]
    show ((b.val * 2048 + (q.val * 64 + p.val)) * 2 + d.val) * 8 + h.val = (((b.val * 32 + q.val) * 64 + p.val) * 2 + d.val) * 8 + h.val; omega)

/-- The running sums, forwards for the first direction and backwards for the second. -/
def sums (y : FVec Ideal S8x2048x2x8 .f32) : FVec Ideal S8x2048x16 .f32 :=
  shapeCast S8x2048x16 (concatenate S8x32x64x16 3
    [⟨S8x32x64x8, (Host.reduceWindowAdd ![1, 1, 64, 1] ![1, 1, 1, 1] ![0, 0, 63, 0] ![0, 0, 0, 0]
        (runs ![0, 0, 0, 0, 0] slices_S8x32x64x2x8_S8x32x64x1x8_0_0_0_0_0 y) zero0
        reduceWindows_S8x32x64x8_S8x32x64x8_w1s1p0_0_w1s1p0_0_w64s1p63_0_w1s1p0_0 h_S_)⟩,
     ⟨S8x32x64x8, (Host.reverse [2] (Host.reduceWindowAdd ![1, 1, 64, 1] ![1, 1, 1, 1] ![0, 0, 63, 0] ![0, 0, 0, 0]
        (Host.reverse [2] (runs ![0, 0, 0, 1, 0] slices_S8x32x64x2x8_S8x32x64x1x8_0_0_0_1_0 y)) zero0
        reduceWindows_S8x32x64x8_S8x32x64x8_w1s1p0_0_w1s1p0_0_w64s1p63_0_w1s1p0_0 h_S_))⟩]
    concatenates_S8x32x64x8_S8x32x64x8_S8x32x64x16_d3) shapeCasts_S8x32x64x16_S8x2048x16

/-- A reversal along the third axis. -/
theorem rev_apply (x : FVec Ideal S8x32x64x8 .f32) (b : Fin 8) (q : Fin 32) (p : Fin 64) (h : Fin 8) :
    (Host.reverse [2] x : FVec Ideal S8x32x64x8 .f32) (ix4 b q p h) = x (ix4 b q p.rev h) := by
  show x (fun a => if a ∈ ([2] : List (Fin 4)) then (ix4 b q p h a).rev else ix4 b q p h a) = _
  refine congrArg x (funext fun a => ?_)
  match a with
  | ⟨0, _⟩ => rfl
  | ⟨1, _⟩ => rfl
  | ⟨2, _⟩ => rfl
  | ⟨3, _⟩ => rfl

theorem sums_apply (y : FVec Ideal S8x2048x2x8 .f32) (b : Fin 8) (n : Fin 2048) (d : Fin 2) (h : Fin 8) :
    sums y (ix3 b n (⟨d.val * 8 + h.val, by omega⟩ : Fin 16)) = total (decide (d.val = 1)) (fun r => y (ix4 b r d h)) n := by
  have hn := n.isLt
  have hh := h.isLt
  have hb := b.isLt
  unfold sums
  refine (shapeCast_apply _ shapeCasts_S8x32x64x16_S8x2048x16 _
    (ix4 b (⟨n.val / 64, by omega⟩ : Fin 32) (⟨n.val % 64, by omega⟩ : Fin 64) (⟨d.val * 8 + h.val, by omega⟩ : Fin 16)) (by
    rw [Shape.rowMajor_val_four, Shape.rowMajor_val_three]
    show ((b.val * 32 + n.val / 64) * 64 + n.val % 64) * 16 + (d.val * 8 + h.val) = (b.val * 2048 + n.val) * 16 + (d.val * 8 + h.val); omega)).trans ?_
  match d with
  | ⟨0, _⟩ =>
    refine (concatenate_apply_piece _ _ _ (ix4 b (⟨n.val / 64, by omega⟩ : Fin 32) (⟨n.val % 64, by omega⟩ : Fin 64) (⟨0 * 8 + h.val, by omega⟩ : Fin 16))
      0 (by show 0 < 2; decide) S8x32x64x8 _ rfl rfl 0 rfl (ix4 b (⟨n.val / 64, by omega⟩ : Fin 32) (⟨n.val % 64, by omega⟩ : Fin 64) h) (fun a ha => ?_) ?_).trans ?_
    · match a with
      | ⟨0, _⟩ => rfl
      | ⟨1, _⟩ => rfl
      | ⟨2, _⟩ => rfl
      | ⟨3, _⟩ => exact absurd rfl ha
    · show 0 + h.val = 0 * 8 + h.val; omega
    · rw [scan_apply _ _ zero0_first]
      show _ = fwd 64 _ n.val
      unfold fwd
      rw [show min 64 (n.val % 64 + 1) = n.val % 64 + 1 by omega]
      refine Finset.sum_congr rfl fun j hj => ?_
      have hj := Finset.mem_range.1 hj
      show row64 _ (n.val % 64 - j) = _
      unfold row64 col
      rw [dif_pos (by omega), dif_pos (by omega)]
      refine (runs_apply 0 slices_S8x32x64x2x8_S8x32x64x1x8_0_0_0_0_0 y b _ _ h).trans ?_
      congr 1
      have e : (⟨n.val / 64 * 64 + (n.val % 64 - j), by omega⟩ : Fin 2048) = ⟨n.val - j, by omega⟩ := Fin.ext (by show n.val / 64 * 64 + (n.val % 64 - j) = n.val - j; omega)
      exact congrArg (fun k => ix4 b k (0 : Fin 2) h) e
  | ⟨1, _⟩ =>
    refine (concatenate_apply_piece _ _ _ (ix4 b (⟨n.val / 64, by omega⟩ : Fin 32) (⟨n.val % 64, by omega⟩ : Fin 64) (⟨1 * 8 + h.val, by omega⟩ : Fin 16))
      1 (by show 1 < 2; decide) S8x32x64x8 _ rfl rfl 8 rfl (ix4 b (⟨n.val / 64, by omega⟩ : Fin 32) (⟨n.val % 64, by omega⟩ : Fin 64) h) (fun a ha => ?_) ?_).trans ?_
    · match a with
      | ⟨0, _⟩ => rfl
      | ⟨1, _⟩ => rfl
      | ⟨2, _⟩ => rfl
      | ⟨3, _⟩ => exact absurd rfl ha
    · show 8 + h.val = 1 * 8 + h.val; omega
    · rw [rev_apply, scan_apply _ _ zero0_first]
      show _ = bwd 64 _ n.val
      unfold bwd
      have hv : (Fin.rev (⟨n.val % 64, by omega⟩ : Fin 64)).val = 63 - n.val % 64 := by rw [Fin.val_rev]; show 64 - (n.val % 64 + 1) = _; omega
      rw [hv, show min 64 (64 - n.val % 64) = 63 - n.val % 64 + 1 by omega]
      refine Finset.sum_congr rfl fun j hj => ?_
      have hj := Finset.mem_range.1 hj
      unfold row64 col
      rw [dif_pos (by omega), dif_pos (by omega)]
      refine (rev_apply _ _ _ _ _).trans ?_
      refine (runs_apply 1 slices_S8x32x64x2x8_S8x32x64x1x8_0_0_0_1_0 y b _ _ h).trans ?_
      have e : (⟨n.val / 64 * 64 + (Fin.rev (⟨63 - n.val % 64 - j, by omega⟩ : Fin 64)).val, by have := (Fin.rev (⟨63 - n.val % 64 - j, by omega⟩ : Fin 64)).isLt; omega⟩ : Fin 2048) = ⟨n.val + j, by omega⟩ := Fin.ext (by
        show n.val / 64 * 64 + (Fin.rev (⟨63 - n.val % 64 - j, by omega⟩ : Fin 64)).val = n.val + j
        rw [Fin.val_rev]; show n.val / 64 * 64 + (64 - (63 - n.val % 64 - j + 1)) = n.val + j; omega)
      exact congrArg (fun k => y (ix4 b k (1 : Fin 2) h)) e

end Cert.GatesRefIdeal.Hand

end
-- ==== Proof.Gates.Ref.lean ====
/- What the reference of the gates computes, entry by entry, over the extended reals. -/
module

public import proofs.«01_k».proof.Proof.Gates.Scan

@[expose] public section

noncomputable section

namespace Cert.GatesRefIdeal.Hand

open Cert.GatesRefIdeal Cert.GatesRefIdeal.Gen Cert.GatesRefIdeal.Read Cert.GatesMath Idealize.ShloMosaic Idealize.ShloMosaic.ValueIdx

theorem sub_zero' (x : EReal) : x - 0 = x := by rw [sub_eq_add_neg, neg_zero, add_zero]

/-- No extended real differs from itself. -/
theorem une_self (x : EReal) (a b : EReal) : Scalar.select (Ideal.cmp .une x x) a b = b := by
  have h : Ideal.cmp .une x x = 0#1 := by
    show BitVec.ofBool (decide (x ≠ x)) = 0#1
    rw [decide_eq_false (fun h => h rfl)]; rfl
  rw [h]; exact if_neg (by decide)

variable (x0 : FVec Ideal S8x2048x128 .f32) (x1 x2 : FVec Ideal S1x2x8 .f32)

/-- The decays' logarithms from lanes 16 to 31. -/
theorem v19_at (b : Fin 8) (n : Fin 2048) (d : Fin 2) (h : Fin 8) :
    val_main_v19 (F := Ideal) x0 x1 x2 (ix4 b n d h)
      = decay (x0 (ix3 b n (⟨16 + (d.val * 8 + h.val), by omega⟩ : Fin 128))) (x2 (ix3 (0 : Fin 1) d h)) (x1 (ix3 (0 : Fin 1) d h)) := by
  have hd := d.isLt
  have hh := h.isLt
  have hn := n.isLt
  have hb := b.isLt
  have h11 : val_main_v11 (F := Ideal) x0 (ix4 b n d h) = x0 (ix3 b n (⟨16 + (d.val * 8 + h.val), by omega⟩ : Fin 128)) := by
    rw [val_main_v11_apply, val_main_v7_apply]
    congr 1; funext a; apply Fin.ext
    match a with
    | ⟨0, _⟩ => show (((b.val * 2048 + n.val) * 2 + d.val) * 8 + h.val) / 32768 = b.val; omega
    | ⟨1, _⟩ => show (((b.val * 2048 + n.val) * 2 + d.val) * 8 + h.val) / 16 % 2048 = n.val; omega
    | ⟨2, _⟩ => show 16 + (((b.val * 2048 + n.val) * 2 + d.val) * 8 + h.val) % 16 = 16 + (d.val * 8 + h.val); omega
  have h14 : val_main_v14 (F := Ideal) x2 (ix4 b n d h) = x2 (ix3 (0 : Fin 1) d h) := by
    rw [val_main_v14_apply, val_main_v13_apply, val_main_v12_apply]
    congr 1; funext a; apply Fin.ext
    match a with
    | ⟨0, _⟩ => rfl
    | ⟨1, _⟩ => show (d.val * 8 + h.val) / 8 % 2 = d.val; omega
    | ⟨2, _⟩ => show (d.val * 8 + h.val) % 8 = h.val; omega
  have h18 : val_main_v18 (F := Ideal) x1 (ix4 b n d h) = -(Ideal.exp (x1 (ix3 (0 : Fin 1) d h))) := by
    rw [val_main_v18_apply, val_main_v17_apply, val_main_v10_apply, val_main_v9_apply, val_main_v8_apply]
    show -(Ideal.exp (x1 _)) = _
    congr 2
    congr 1; funext a; apply Fin.ext
    match a with
    | ⟨0, _⟩ => rfl
    | ⟨1, _⟩ => show (d.val * 8 + h.val) / 8 % 2 = d.val; omega
    | ⟨2, _⟩ => show (d.val * 8 + h.val) % 8 = h.val; omega
  have h15 : val_main_v15 (F := Ideal) x0 x2 (ix4 b n d h)
      = x0 (ix3 b n (⟨16 + (d.val * 8 + h.val), by omega⟩ : Fin 128)) + x2 (ix3 (0 : Fin 1) d h) := by
    rw [val_main_v15_apply, h11, h14]; rfl
  have z0 : val_main_call0_v0 (F := Ideal) (ix4 b n d h) = 0 := by
    rw [val_main_call0_v0_apply, val_main_call0_cst_apply]; exact Ideal.ofBits_zero_f32
  have z2 : val_main_call0_v2 (F := Ideal) (ix4 b n d h) = 0 := by
    rw [val_main_call0_v2_apply, val_main_call0_cst_apply]; exact Ideal.ofBits_zero_f32
  have h3 : val_main_call0_v3 (F := Ideal) x0 x2 (ix4 b n d h) = val_main_v15 (F := Ideal) x0 x2 (ix4 b n d h) := by
    rw [val_main_call0_v3_apply, z2]; exact sub_zero' _
  have h16 : val_main_v16 (F := Ideal) x0 x2 (ix4 b n d h) = softp (val_main_v15 (F := Ideal) x0 x2 (ix4 b n d h)) := by
    rw [val_main_v16_apply, val_main_call0_v4_apply]
    refine (une_self _ _ _).trans ?_
    rw [val_main_call0_v11_apply, val_main_call0_v1_apply, val_main_call0_v10_apply, val_main_call0_v9_apply, val_main_call0_v8_apply, val_main_call0_v7_apply, h3, z0]
    rfl
  rw [val_main_v19_apply, h18, h16, h15]
  rfl

/-- The decays' logarithms from lanes 32 to 47. -/
theorem v45_at (b : Fin 8) (n : Fin 2048) (d : Fin 2) (h : Fin 8) :
    val_main_v45 (F := Ideal) x0 x1 x2 (ix4 b n d h)
      = decay (x0 (ix3 b n (⟨32 + (d.val * 8 + h.val), by omega⟩ : Fin 128))) (x2 (ix3 (0 : Fin 1) d h)) (x1 (ix3 (0 : Fin 1) d h)) := by
  have hd := d.isLt
  have hh := h.isLt
  have hn := n.isLt
  have hb := b.isLt
  have h11 : val_main_v37 (F := Ideal) x0 (ix4 b n d h) = x0 (ix3 b n (⟨32 + (d.val * 8 + h.val), by omega⟩ : Fin 128)) := by
    rw [val_main_v37_apply, val_main_v33_apply]
    congr 1; funext a; apply Fin.ext
    match a with
    | ⟨0, _⟩ => show (((b.val * 2048 + n.val) * 2 + d.val) * 8 + h.val) / 32768 = b.val; omega
    | ⟨1, _⟩ => show (((b.val * 2048 + n.val) * 2 + d.val) * 8 + h.val) / 16 % 2048 = n.val; omega
    | ⟨2, _⟩ => show 32 + (((b.val * 2048 + n.val) * 2 + d.val) * 8 + h.val) % 16 = 32 + (d.val * 8 + h.val); omega
  have h14 : val_main_v40 (F := Ideal) x2 (ix4 b n d h) = x2 (ix3 (0 : Fin 1) d h) := by
    rw [val_main_v40_apply, val_main_v39_apply, val_main_v38_apply]
    congr 1; funext a; apply Fin.ext
    match a with
    | ⟨0, _⟩ => rfl
    | ⟨1, _⟩ => show (d.val * 8 + h.val) / 8 % 2 = d.val; omega
    | ⟨2, _⟩ => show (d.val * 8 + h.val) % 8 = h.val; omega
  have h18 : val_main_v44 (F := Ideal) x1 (ix4 b n d h) = -(Ideal.exp (x1 (ix3 (0 : Fin 1) d h))) := by
    rw [val_main_v44_apply, val_main_v43_apply, val_main_v36_apply, val_main_v35_apply, val_main_v34_apply]
    show -(Ideal.exp (x1 _)) = _
    congr 2
    congr 1; funext a; apply Fin.ext
    match a with
    | ⟨0, _⟩ => rfl
    | ⟨1, _⟩ => show (d.val * 8 + h.val) / 8 % 2 = d.val; omega
    | ⟨2, _⟩ => show (d.val * 8 + h.val) % 8 = h.val; omega
  have h15 : val_main_v41 (F := Ideal) x0 x2 (ix4 b n d h)
      = x0 (ix3 b n (⟨32 + (d.val * 8 + h.val), by omega⟩ : Fin 128)) + x2 (ix3 (0 : Fin 1) d h) := by
    rw [val_main_v41_apply, h11, h14]; rfl
  have z0 : val_main_call5_v0 (F := Ideal) (ix4 b n d h) = 0 := by
    rw [val_main_call5_v0_apply, val_main_call5_cst_apply]; exact Ideal.ofBits_zero_f32
  have z2 : val_main_call5_v2 (F := Ideal) (ix4 b n d h) = 0 := by
    rw [val_main_call5_v2_apply, val_main_call5_cst_apply]; exact Ideal.ofBits_zero_f32
  have h3 : val_main_call5_v3 (F := Ideal) x0 x2 (ix4 b n d h) = val_main_v41 (F := Ideal) x0 x2 (ix4 b n d h) := by
    rw [val_main_call5_v3_apply, z2]; exact sub_zero' _
  have h16 : val_main_v42 (F := Ideal) x0 x2 (ix4 b n d h) = softp (val_main_v41 (F := Ideal) x0 x2 (ix4 b n d h)) := by
    rw [val_main_v42_apply, val_main_call5_v4_apply]
    refine (une_self _ _ _).trans ?_
    rw [val_main_call5_v11_apply, val_main_call5_v1_apply, val_main_call5_v10_apply, val_main_call5_v9_apply, val_main_call5_v8_apply, val_main_call5_v7_apply, h3, z0]
    rfl
  rw [val_main_v45_apply, h18, h16, h15]
  rfl

theorem v30_eq : val_main_v30 (F := Ideal) x0 x1 x2 = sums (val_main_v19 (F := Ideal) x0 x1 x2) := rfl
theorem v56_eq : val_main_v56 (F := Ideal) x0 x1 x2 = sums (val_main_v45 (F := Ideal) x0 x1 x2) := rfl

/-- The logarithms of the decays of batch element `b` from lane `l`, with the parameters of pair `j`. -/
def colOf (b : Fin 8) (l : Fin 128) (d : Fin 2) (h : Fin 8) (r : Fin 2048) : EReal :=
  decay (x0 (ix3 b r l)) (x2 (ix3 (0 : Fin 1) d h)) (x1 (ix3 (0 : Fin 1) d h))

theorem v30_at (b : Fin 8) (n : Fin 2048) (d : Fin 2) (h : Fin 8) :
    val_main_v30 (F := Ideal) x0 x1 x2 (ix3 b n (⟨d.val * 8 + h.val, by omega⟩ : Fin 16))
      = total (decide (d.val = 1)) (colOf x0 x1 x2 b (⟨16 + (d.val * 8 + h.val), by omega⟩ : Fin 128) d h) n := by
  rw [v30_eq, sums_apply]
  exact congrArg (fun f => total (decide (d.val = 1)) f n) (funext fun r => v19_at x0 x1 x2 b r d h)

theorem v56_at (b : Fin 8) (n : Fin 2048) (d : Fin 2) (h : Fin 8) :
    val_main_v56 (F := Ideal) x0 x1 x2 (ix3 b n (⟨d.val * 8 + h.val, by omega⟩ : Fin 16))
      = total (decide (d.val = 1)) (colOf x0 x1 x2 b (⟨32 + (d.val * 8 + h.val), by omega⟩ : Fin 128) d h) n := by
  rw [v56_eq, sums_apply]
  exact congrArg (fun f => total (decide (d.val = 1)) f n) (funext fun r => v45_at x0 x1 x2 b r d h)

/-- The first sixteen lanes: the logistic function of the input. -/
theorem v6_at (b : Fin 8) (n : Fin 2048) (j : Fin 16) :
    val_main_v6 (F := Ideal) x0 (ix3 b n j) = sigm (x0 (ix3 b n (⟨j.val, by omega⟩ : Fin 128))) := by
  rw [val_main_v6_apply, val_main_v5_apply, val_main_v4_apply, val_main_v3_apply, val_main_v2_apply, val_main_v1_apply, val_main_v0_apply]
  show sigm (x0 _) = _
  congr 2; funext a
  match a with
  | ⟨0, _⟩ => rfl
  | ⟨1, _⟩ => rfl
  | ⟨2, _⟩ => rfl

theorem v62_a (b : Fin 8) (n : Fin 2048) (j : Fin 16) :
    val_main_v62 (F := Ideal) x0 x1 x2 (ix3 b n (⟨j.val, by omega⟩ : Fin 128)) = sigm (x0 (ix3 b n (⟨j.val, by omega⟩ : Fin 128))) := by
  rw [val_main_v62_apply, ← v6_at]
  show val_main_v61 (F := Ideal) x0 x1 x2 _ = _
  unfold val_main_v61
  refine concatenate_apply_piece _ _ _ (ix3 b n (⟨j.val, by omega⟩ : Fin 128) : S8x2048x128.Idx) 0 (by show 0 < 4; decide) S8x2048x16 _ rfl rfl 0 rfl (ix3 b n j) (fun a ha => ?_) ?_
  · match a with
    | ⟨0, _⟩ => rfl
    | ⟨1, _⟩ => rfl
    | ⟨2, _⟩ => exact absurd rfl ha
  · show 0 + j.val = j.val; omega

/-- The next sixteen: the running sums. -/
theorem v62_b (b : Fin 8) (n : Fin 2048) (d : Fin 2) (h : Fin 8) :
    val_main_v62 (F := Ideal) x0 x1 x2 (ix3 b n (⟨16 + (d.val * 8 + h.val), by omega⟩ : Fin 128))
      = total (decide (d.val = 1)) (colOf x0 x1 x2 b (⟨16 + (d.val * 8 + h.val), by omega⟩ : Fin 128) d h) n := by
  rw [val_main_v62_apply, ← v30_at]
  show val_main_v61 (F := Ideal) x0 x1 x2 _ = val_main_v32 (F := Ideal) x0 x1 x2 _
  unfold val_main_v61
  refine concatenate_apply_piece _ _ _ (ix3 b n (⟨16 + (d.val * 8 + h.val), by omega⟩ : Fin 128) : S8x2048x128.Idx) 1 (by show 1 < 4; decide) S8x2048x16 _ rfl rfl 16 rfl
    (ix3 b n (⟨d.val * 8 + h.val, by omega⟩ : Fin 16)) (fun a ha => ?_) ?_
  · match a with
    | ⟨0, _⟩ => rfl
    | ⟨1, _⟩ => rfl
    | ⟨2, _⟩ => exact absurd rfl ha
  · rfl

/-- The next sixteen: what the sums' rounding leaves. -/
theorem v62_c (b : Fin 8) (n : Fin 2048) (d : Fin 2) (h : Fin 8) :
    val_main_v62 (F := Ideal) x0 x1 x2 (ix3 b n (⟨32 + (d.val * 8 + h.val), by omega⟩ : Fin 128))
      = total (decide (d.val = 1)) (colOf x0 x1 x2 b (⟨32 + (d.val * 8 + h.val), by omega⟩ : Fin 128) d h) n
        - total (decide (d.val = 1)) (colOf x0 x1 x2 b (⟨32 + (d.val * 8 + h.val), by omega⟩ : Fin 128) d h) n := by
  rw [val_main_v62_apply, ← v56_at]
  show val_main_v61 (F := Ideal) x0 x1 x2 _ = val_main_v59 (F := Ideal) x0 x1 x2 _
  unfold val_main_v61
  refine concatenate_apply_piece _ _ _ (ix3 b n (⟨32 + (d.val * 8 + h.val), by omega⟩ : Fin 128) : S8x2048x128.Idx) 2 (by show 2 < 4; decide) S8x2048x16 _ rfl rfl 32 rfl
    (ix3 b n (⟨d.val * 8 + h.val, by omega⟩ : Fin 16)) (fun a ha => ?_) ?_
  · match a with
    | ⟨0, _⟩ => rfl
    | ⟨1, _⟩ => rfl
    | ⟨2, _⟩ => exact absurd rfl ha
  · rfl

/-- The rest is zero. -/
theorem v62_d (b : Fin 8) (n : Fin 2048) (j : Fin 80) :
    val_main_v62 (F := Ideal) x0 x1 x2 (ix3 b n (⟨48 + j.val, by omega⟩ : Fin 128)) = 0 := by
  rw [val_main_v62_apply]
  show val_main_v61 (F := Ideal) x0 x1 x2 _ = 0
  unfold val_main_v61
  refine (concatenate_apply_piece _ _ _ (ix3 b n (⟨48 + j.val, by omega⟩ : Fin 128) : S8x2048x128.Idx) 3 (by show 3 < 4; decide) S8x2048x80 _ rfl rfl 48 rfl (ix3 b n j) (fun a ha => ?_) ?_).trans ?_
  · match a with
    | ⟨0, _⟩ => rfl
    | ⟨1, _⟩ => rfl
    | ⟨2, _⟩ => exact absurd rfl ha
  · rfl
  · rw [val_main_v60_apply]; exact Ideal.ofBits_zero_f32

end Cert.GatesRefIdeal.Hand

end
-- ==== Proof.Gates.Claim.lean ====
/- The claims about the gates: the frames, and the equation of the kernel's result and the reference's over the
   extended reals. -/
module

public import proofs.«01_k».proof.Defs
public import proofs.«01_k».proof.Proof.Gen.Gates
public import proofs.«01_k».proof.Proof.Gen.GatesIdeal
public import proofs.«01_k».proof.Proof.Gen.GatesRefIdeal
public import proofs.«01_k».proof.Proof.Gen.Gates.Frame
public import proofs.«01_k».proof.Proof.Gen.GatesIdeal.Value
public import proofs.«01_k».proof.Proof.Gen.GatesRefIdeal.Run
public import proofs.«01_k».proof.Proof.Gates.Arrays
public import proofs.«01_k».proof.Proof.Gates.Ref

@[expose] public section

noncomputable section

namespace Cert.Proof.Gates

open Idealize.ShloMosaic Idealize.ShloMosaic.TcCoe Idealize.SL.Sem Idealize.ShloMosaic.ValueIdx Cert.GatesMath

/-- The kernel's program runs and keeps its arguments. -/
theorem frame : Cert.quiescent_Gates := fun m g _ => Cert.Gates.Gen.frame m g
/-- So does its idealization. -/
theorem frame_ideal : Cert.quiescent_GatesIdeal := fun m g _ => Cert.GatesIdeal.Gen.frame m g
/-- So does the reference. -/
theorem frame_ref : Cert.quiescent_GatesRefIdeal := fun m g _ =>
  (θ_run Cert.GatesRefIdeal.defs _ _).mono (fun r h => ⟨fun c => (h c).2, sem_eq_zero_of_no_sems (by decide) r.2⟩)
    (Cert.GatesRefIdeal.Value.run (F := Ideal) m g)

/-- No operation is rewritten. -/
theorem preserves : Cert.preserves_Gates_GatesIdeal := trivial

/-- The reference's lane is the kernel's: the logistic function, the running sums, what their rounding leaves, zeros. -/
theorem lane_at (x0 : FVec Ideal Cert.GatesRefIdeal.S8x2048x128 .f32) (x1 x2 : FVec Ideal Cert.GatesRefIdeal.S1x2x8 .f32)
    (b : Fin 8) (n : Fin 2048) (l : Fin 128) :
    Cert.GatesRefIdeal.Read.val_main_v62 (F := Ideal) x0 x1 x2 (ix3 b n l)
      = Cert.GatesIdeal.Hand.stored l.val (sigm (x0 (ix3 b n l)))
          (total (decide (8 ≤ l.val % 16)) (Cert.GatesIdeal.Hand.decays x0 x1 x2 b l) n) := by
  have hl := l.isLt
  -- the pair's parameters are the lane's
  have key : ∀ (o : ℕ) (ho : o + 16 ≤ 128) (d : Fin 2) (h : Fin 8), o % 16 = 0 → l.val = o + (d.val * 8 + h.val) →
      total (decide (d.val = 1)) (Cert.GatesRefIdeal.Hand.colOf x0 x1 x2 b (⟨o + (d.val * 8 + h.val), by omega⟩ : Fin 128) d h) n
        = total (decide (8 ≤ l.val % 16)) (Cert.GatesIdeal.Hand.decays x0 x1 x2 b l) n := by
    intro o ho d h h16 hlv
    have hd := d.isLt
    have hh := h.isLt
    have e1 : decide (d.val = 1) = decide (8 ≤ l.val % 16) := decide_eq_decide.2 (by omega)
    rw [e1]
    refine congrArg (fun f => total (decide (8 ≤ l.val % 16)) f n) (funext fun r => ?_)
    have el : (⟨o + (d.val * 8 + h.val), by omega⟩ : Fin 128) = l := Fin.ext hlv.symm
    have ed : d = (⟨l.val % 16 / 8, by omega⟩ : Fin 2) := Fin.ext (by show d.val = l.val % 16 / 8; omega)
    have eh : h = (⟨l.val % 8, by omega⟩ : Fin 8) := Fin.ext (by show h.val = l.val % 8; omega)
    unfold Cert.GatesRefIdeal.Hand.colOf Cert.GatesIdeal.Hand.decays
    rw [el, ← ed, ← eh]
  unfold Cert.GatesIdeal.Hand.stored
  by_cases h0 : l.val / 16 = 0
  · rw [if_pos h0]
    exact Cert.GatesRefIdeal.Hand.v62_a x0 x1 x2 b n (⟨l.val, by omega⟩ : Fin 16)
  rw [if_neg h0]
  by_cases h1 : l.val / 16 = 1
  · rw [if_pos h1, ← key 16 (by omega) (⟨l.val % 16 / 8, by omega⟩ : Fin 2) (⟨l.val % 8, by omega⟩ : Fin 8) rfl
      (by show l.val = 16 + (l.val % 16 / 8 * 8 + l.val % 8); omega)]
    refine Eq.trans ?_ (Cert.GatesRefIdeal.Hand.v62_b x0 x1 x2 b n (⟨l.val % 16 / 8, by omega⟩ : Fin 2) (⟨l.val % 8, by omega⟩ : Fin 8))
    congr 2
    exact Fin.ext (by show l.val = 16 + (l.val % 16 / 8 * 8 + l.val % 8); omega)
  rw [if_neg h1]
  by_cases h2 : l.val / 16 = 2
  · rw [if_pos h2, ← key 32 (by omega) (⟨l.val % 16 / 8, by omega⟩ : Fin 2) (⟨l.val % 8, by omega⟩ : Fin 8) rfl
      (by show l.val = 32 + (l.val % 16 / 8 * 8 + l.val % 8); omega)]
    refine Eq.trans ?_ (Cert.GatesRefIdeal.Hand.v62_c x0 x1 x2 b n (⟨l.val % 16 / 8, by omega⟩ : Fin 2) (⟨l.val % 8, by omega⟩ : Fin 8))
    congr 2
    exact Fin.ext (by show l.val = 32 + (l.val % 16 / 8 * 8 + l.val % 8); omega)
  rw [if_neg h2]
  refine Eq.trans ?_ (Cert.GatesRefIdeal.Hand.v62_d x0 x1 x2 b n (⟨l.val - 48, by omega⟩ : Fin 80))
  congr 2
  exact Fin.ext (by show l.val = 48 + (l.val - 48); omega)

/-- Over the extended reals the kernel and the reference end with the same array. -/
theorem algebraic : Cert.algebraic_GatesIdeal_GatesRefIdeal := by
  intro m g m' g' _ hagree
  refine ⟨fun c => (Cert.GatesIdeal.Gen.dats m 0 c).arrAt 3 Cert.GatesIdeal.cfg0.N, Cert.GatesIdeal.Value.run_blocks (F := Ideal) m g, ?_⟩
  refine (θ_run Cert.GatesRefIdeal.defs _ _).mono (fun _ h c => ⟨(h c).1.trans ?_, (h c).2⟩) (Cert.GatesRefIdeal.Value.run (F := Ideal) m' g')
  rw [Cert.GatesRefIdeal.Read.val_main_v62_eq]
  obtain ⟨h0, h1, h2⟩ := hagree c
  rw [h0, h1, h2]
  funext i
  obtain ⟨b, n, l, rfl⟩ : ∃ (b : Fin 8) (n : Fin 2048) (l : Fin 128), i = ix3 b n l := ⟨i 0, i 1, i 2, eq_ix3 i⟩
  exact (lane_at _ _ _ b n l).trans (Cert.GatesIdeal.Hand.result_at m c b n l).symm

end Cert.Proof.Gates

end
-- ==== Proof.lean ====
/- The claims, assembled from the modules that prove each. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Ffn
public import proofs.«01_k».proof.Proof.Gen.FfnIdeal
public import proofs.«01_k».proof.Proof.Gen.FfnRefIdeal
public import proofs.«01_k».proof.Proof.Gen.Proj
public import proofs.«01_k».proof.Proof.Gen.ProjIdeal
public import proofs.«01_k».proof.Proof.Gen.ProjRefIdeal
public import proofs.«01_k».proof.Proof.Gen.Gates
public import proofs.«01_k».proof.Proof.Gen.GatesIdeal
public import proofs.«01_k».proof.Proof.Gen.GatesRefIdeal
public import proofs.«01_k».proof.Proof.Na.Claim
public import proofs.«01_k».proof.Proof.Ffn.Claim
public import proofs.«01_k».proof.Proof.Proj.Claim
public import proofs.«01_k».proof.Proof.Gates.Claim
public import Idealize.ShloMosaic.Adequacy
public import Idealize.ShloMosaic.Init

@[expose] public section

noncomputable section

namespace Cert.Proof

open Idealize.ShloMosaic Idealize.SL.Sem

/-- The certificate's claim. -/
theorem claim : Cert.Claim :=
  letI := Na.pre_facts
  ⟨Cert.Kernel.Gen.facts, Cert.KernelIdeal.Gen.facts, Cert.ReferenceIdeal.Gen.facts,
    Cert.Ffn.Gen.facts, Cert.FfnIdeal.Gen.facts, Cert.FfnRefIdeal.Gen.facts,
      Cert.Proj.Gen.facts, Cert.ProjIdeal.Gen.facts, Cert.ProjRefIdeal.Gen.facts,
      Cert.Gates.Gen.facts, Cert.GatesIdeal.Gen.facts, Cert.GatesRefIdeal.Gen.facts, Na.pre_facts,
    Na.frame, Na.frame_ideal, Na.frame_ideal_pre, Na.frame_ref, Na.frame_ref_pre,
    Ffn.frame, Ffn.frame_ideal, Ffn.frame_ref, Proj.frame, Proj.frame_ideal, Proj.frame_ref,
    Gates.frame, Gates.frame_ideal, Gates.frame_ref,
    Na.preserves, Na.algebraic, Ffn.preserves, Ffn.algebraic, Proj.preserves, Proj.algebraic,
    Gates.preserves, Gates.algebraic⟩

end Cert.Proof

end
